-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x32768x2048 : Shape := ⟨3, ![3, 32768, 2048]⟩
abbrev S3x32768 : Shape := ⟨2, ![3, 32768]⟩
abbrev S2048x320 : Shape := ⟨2, ![2048, 320]⟩
abbrev S320 : Shape := ⟨1, ![320]⟩
abbrev S3x64x4x128 : Shape := ⟨4, ![3, 64, 4, 128]⟩
abbrev S3x128 : Shape := ⟨2, ![3, 128]⟩
abbrev S3x1x1x128 : Shape := ⟨4, ![3, 1, 1, 128]⟩
abbrev S3x1 : Shape := ⟨2, ![3, 1]⟩
abbrev S3x32x2x4x128 : Shape := ⟨5, ![3, 32, 2, 4, 128]⟩
abbrev S320x2048 : Shape := ⟨2, ![320, 2048]⟩
abbrev S320x1 : Shape := ⟨2, ![320, 1]⟩
abbrev S320x128 : Shape := ⟨2, ![320, 128]⟩
abbrev S3x9000x320 : Shape := ⟨3, ![3, 9000, 320]⟩
abbrev S3x1x9000 : Shape := ⟨3, ![3, 1, 9000]⟩
abbrev S3x32768x320 : Shape := ⟨3, ![3, 32768, 320]⟩
abbrev S1x1024x2048 : Shape := ⟨3, ![1, 1024, 2048]⟩
abbrev S1x1x2x4x128 : Shape := ⟨5, ![1, 1, 2, 4, 128]⟩
abbrev S1x1024x320 : Shape := ⟨3, ![1, 1024, 320]⟩
abbrev S1x1x1024 : Shape := ⟨3, ![1, 1, 1024]⟩
abbrev S64528x128 : Shape := ⟨2, ![64528, 128]⟩
abbrev S7176x128 : Shape := ⟨2, ![7176, 128]⟩
abbrev S7x128 : Shape := ⟨2, ![7, 128]⟩
abbrev S8x128 : Shape := ⟨2, ![8, 128]⟩
abbrev S1024x128 : Shape := ⟨2, ![1024, 128]⟩
abbrev S1x1x1x1x1 : Shape := ⟨5, ![1, 1, 1, 1, 1]⟩
abbrev S1x256x2048 : Shape := ⟨3, ![1, 256, 2048]⟩
abbrev S256x2048 : Shape := ⟨2, ![256, 2048]⟩
abbrev S320x256 : Shape := ⟨2, ![320, 256]⟩
abbrev S1x256 : Shape := ⟨2, ![1, 256]⟩
abbrev S64x256 : Shape := ⟨2, ![64, 256]⟩
abbrev S384x256 : Shape := ⟨2, ![384, 256]⟩
abbrev S128x256 : Shape := ⟨2, ![128, 256]⟩
abbrev S256x128 : Shape := ⟨2, ![256, 128]⟩
abbrev S1x256x128 : Shape := ⟨3, ![1, 256, 128]⟩
abbrev S256x64 : Shape := ⟨2, ![256, 64]⟩
abbrev S1x256x64 : Shape := ⟨3, ![1, 256, 64]⟩
abbrev S16x128 : Shape := ⟨2, ![16, 128]⟩
abbrev S1x16x128 : Shape := ⟨3, ![1, 16, 128]⟩
abbrev S16x64 : Shape := ⟨2, ![16, 64]⟩
abbrev S1x16x64 : Shape := ⟨3, ![1, 16, 64]⟩
abbrev S128 : Shape := ⟨1, ![128]⟩
abbrev S1x128 : Shape := ⟨2, ![1, 128]⟩
abbrev S1x1x128 : Shape := ⟨3, ![1, 1, 128]⟩
abbrev S3x9000 : Shape := ⟨2, ![3, 9000]⟩

abbrev nBuf : Space → Nat
  | .hbm => 20
  | .vmem => 19
  | .smem => 4
  | _ => 0

abbrev bufTy : (tb : Table) → Fin (tcTables nBuf tb) → BufTy
  | .hbm, ⟨0, _⟩ => ⟨S3x32768x2048, .i8⟩
  | .hbm, ⟨1, _⟩ => ⟨S3x32768, .f32⟩
  | .hbm, ⟨2, _⟩ => ⟨S2048x320, .fp8e4m3⟩
  | .hbm, ⟨3, _⟩ => ⟨S320, .f32⟩
  | .hbm, ⟨4, _⟩ => ⟨S320, .f32⟩
  | .hbm, ⟨5, _⟩ => ⟨S3x32768, .i32⟩
  | .hbm, ⟨6, _⟩ => ⟨S3x64x4x128, .i32⟩
  | .hbm, ⟨7, _⟩ => ⟨S3x64x4x128, .i32⟩
  | .hbm, ⟨8, _⟩ => ⟨S3x32x2x4x128, .i32⟩
  | .hbm, ⟨9, _⟩ => ⟨S3x32x2x4x128, .i32⟩
  | .hbm, ⟨10, _⟩ => ⟨S320x2048, .fp8e4m3⟩
  | .hbm, ⟨11, _⟩ => ⟨S320x1, .f32⟩
  | .hbm, ⟨12, _⟩ => ⟨S320x128, .f32⟩
  | .hbm, ⟨13, _⟩ => ⟨S320x1, .f32⟩
  | .hbm, ⟨14, _⟩ => ⟨S320x128, .f32⟩
  | .hbm, ⟨15, _⟩ => ⟨S3x9000x320, .bf16⟩
  | .hbm, ⟨16, _⟩ => ⟨S3x1x9000, .i32⟩
  | .hbm, ⟨17, _⟩ => ⟨S3x9000x320, .bf16⟩
  | .hbm, ⟨18, _⟩ => ⟨S3x32768x320, .bf16⟩
  | .hbm, ⟨19, _⟩ => ⟨S3x9000, .i32⟩
  | .local _ .vmem, ⟨0, _⟩ => ⟨S3x32768, .i32⟩
  | .local _ .vmem, ⟨1, _⟩ => ⟨S3x64x4x128, .i32⟩
  | .local _ .vmem, ⟨2, _⟩ => ⟨S3x64x4x128, .i32⟩
  | .local _ .vmem, ⟨3, _⟩ => ⟨S1x1024x2048, .i8⟩
  | .local _ .vmem, ⟨4, _⟩ => ⟨S1x1024x2048, .i8⟩
  | .local _ .vmem, ⟨5, _⟩ => ⟨S320x2048, .fp8e4m3⟩
  | .local _ .vmem, ⟨6, _⟩ => ⟨S3x32768, .f32⟩
  | .local _ .vmem, ⟨7, _⟩ => ⟨S320x128, .f32⟩
  | .local _ .vmem, ⟨8, _⟩ => ⟨S320x128, .f32⟩
  | .local _ .vmem, ⟨9, _⟩ => ⟨S1x1024x320, .bf16⟩
  | .local _ .vmem, ⟨10, _⟩ => ⟨S1x1024x320, .bf16⟩
  | .local _ .vmem, ⟨11, _⟩ => ⟨S1x1x1024, .i32⟩
  | .local _ .vmem, ⟨12, _⟩ => ⟨S1x1x1024, .i32⟩
  | .local _ .vmem, ⟨13, _⟩ => ⟨S1x1024x320, .bf16⟩
  | .local _ .vmem, ⟨14, _⟩ => ⟨S1x1024x320, .bf16⟩
  | .local _ .vmem, ⟨15, _⟩ => ⟨S1x1024x320, .bf16⟩
  | .local _ .vmem, ⟨16, _⟩ => ⟨S1x1024x320, .bf16⟩
  | .local _ .vmem, ⟨17, _⟩ => ⟨S64528x128, .f32⟩
  | .local _ .vmem, ⟨18, _⟩ => ⟨S7176x128, .f32⟩
  | .local _ .smem, ⟨0, _⟩ => ⟨S1x1x2x4x128, .i32⟩
  | .local _ .smem, ⟨1, _⟩ => ⟨S1x1x2x4x128, .i32⟩
  | .local _ .smem, ⟨2, _⟩ => ⟨S1x1x2x4x128, .i32⟩
  | .local _ .smem, ⟨3, _⟩ => ⟨S1x1x2x4x128, .i32⟩
  | _, _ => ⟨S3x32768x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg7_0 : Ref sig .tc := ⟨.vmem, 9, rfl⟩
abbrev cc1_stg7_1 : Ref sig .tc := ⟨.vmem, 10, rfl⟩
abbrev cc1_stg8_0 : Ref sig .tc := ⟨.vmem, 11, rfl⟩
abbrev cc1_stg8_1 : Ref sig .tc := ⟨.vmem, 12, rfl⟩
abbrev cc1_stg9_0 : Ref sig .tc := ⟨.vmem, 13, rfl⟩
abbrev cc1_stg9_1 : Ref sig .tc := ⟨.vmem, 14, rfl⟩
abbrev cc1_stg10_0 : Ref sig .tc := ⟨.vmem, 15, rfl⟩
abbrev cc1_stg10_1 : Ref sig .tc := ⟨.vmem, 16, rfl⟩
abbrev cc1_scratch0 : Ref sig .tc := ⟨.vmem, 17, rfl⟩
abbrev cc1_scratch1 : Ref sig .tc := ⟨.vmem, 18, rfl⟩
abbrev cc1_stg5_0 : Ref sig .tc := ⟨.smem, 0, rfl⟩
abbrev cc1_stg5_1 : Ref sig .tc := ⟨.smem, 1, rfl⟩
abbrev cc1_stg6_0 : Ref sig .tc := ⟨.smem, 2, rfl⟩
abbrev cc1_stg6_1 : Ref sig .tc := ⟨.smem, 3, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (k0_t1 : Fin k0_t1_loop.trips) (c0_i32_1 : BitVec 32) : Fin 2 → Nat :=
  let c0 : Index := 0#32
  let c0_i32 : BitVec 32 := 0#32
  let c1_i32 : BitVec 32 := 1#32
  let arg3 : BitVec 32 := Scf.iv c0_i32 c1_i32 k0_t1
  let c512_i32 : BitVec 32 := 512#32
  let v2 : BitVec 32 := Scalar.muli arg3 c512_i32
  let v3 : BitVec 32 := Scalar.addi v2 c0_i32_1
  let v4 : Index := Scalar.indexCast v3
  ![0, v4.toNat]
def k0_off2 (k0_t1 : Fin k0_t1_loop.trips) : Fin 4 → Nat :=
  let c0_48 : Index := 0#32
  let c0_i32 : BitVec 32 := 0#32
  let c1_i32 : BitVec 32 := 1#32
  let arg3 : BitVec 32 := Scf.iv c0_i32 c1_i32 k0_t1
  let v130 : Index := Scalar.indexCast arg3
  let c0_49 : Index := 0#32
  let c0_50 : Index := 0#32
  ![0, v130.toNat, 0, 0]
def k0_off3 (k0_t1 : Fin k0_t1_loop.trips) : Fin 4 → Nat :=
  let c0_72 : Index := 0#32
  let c0_i32 : BitVec 32 := 0#32
  let c1_i32 : BitVec 32 := 1#32
  let arg3 : BitVec 32 := Scf.iv c0_i32 c1_i32 k0_t1
  let v217 : Index := Scalar.indexCast arg3
  let c1 : Index := 1#32
  let c0_73 : Index := 0#32
  ![0, v217.toNat, 1, 0]
def k0_off4 (k0_t1 : Fin k0_t1_loop.trips) : Fin 4 → Nat :=
  let c0_102 : Index := 0#32
  let c0_i32 : BitVec 32 := 0#32
  let c1_i32 : BitVec 32 := 1#32
  let arg3 : BitVec 32 := Scf.iv c0_i32 c1_i32 k0_t1
  let v306 : Index := Scalar.indexCast arg3
  let c2 : Index := 2#32
  let c0_103 : Index := 0#32
  ![0, v306.toNat, 2, 0]
def k0_off5 (k0_t1 : Fin k0_t1_loop.trips) : Fin 4 → Nat :=
  let c0_132 : Index := 0#32
  let c0_i32 : BitVec 32 := 0#32
  let c1_i32 : BitVec 32 := 1#32
  let arg3 : BitVec 32 := Scf.iv c0_i32 c1_i32 k0_t1
  let v397 : Index := Scalar.indexCast arg3
  let c3 : Index := 3#32
  let c0_133 : Index := 0#32
  ![0, v397.toNat, 3, 0]
abbrev stage0_0 : Fin 1 → Memref sig .tc .vmem S3x32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64x4x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x64x4x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![3, 42], ![false, false]⟩

def k1_cond1 (i : grid1.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k1_t1_loop : Scf.Loop 32 :=
  let c0_i32_17 : BitVec 32 := 0#32
  let c8066_i32 : BitVec 32 := 8066#32
  let v25 : BitVec 32 := Scalar.addi c0_i32_17 c8066_i32
  let c1_i32 : BitVec 32 := 1#32
  ⟨c0_i32_17, v25, c1_i32⟩
def k1_off1 (k1_t1 : Fin k1_t1_loop.trips) : Fin 2 → Nat :=
  let c0_i32_17 : BitVec 32 := 0#32
  let c1_i32 : BitVec 32 := 1#32
  let arg15 : BitVec 32 := Scf.iv c0_i32_17 c1_i32 k1_t1
  let c8_i32 : BitVec 32 := 8#32
  let v31 : BitVec 32 := Scalar.muli arg15 c8_i32
  let v32 : Index := Scalar.indexCast v31
  let c0_21 : Index := 0#32
  ![v32.toNat, 0]
def k1_cond2 (i : grid1.Coords) : BitVec 1 :=
  let arg1 : BitVec 32 := BitVec.ofNat 32 (i 1).val
  let c0_i32_1 : BitVec 32 := 0#32
  let v6 : BitVec 1 := Scalar.cmpi .sgt arg1 c0_i32_1
  let c32_i32 : BitVec 32 := 32#32
  let v7 : BitVec 1 := Scalar.cmpi .sle arg1 c32_i32
  let v8 : BitVec 1 := Scalar.andi v6 v7
  let v9 : BitVec 32 := Scalar.extui v8
  let c0_i32_2 : BitVec 32 := 0#32
  let v10 : BitVec 1 := Scalar.cmpi .ne v9 c0_i32_2
  v10

@[reducible] def k1_t2_loop : Scf.Loop 32 :=
  let c0_i32_17 : BitVec 32 := 0#32
  let c32_i32_18 : BitVec 32 := 32#32
  let v25 : BitVec 32 := Scalar.addi c0_i32_17 c32_i32_18
  let c1_i32 : BitVec 32 := 1#32
  ⟨c0_i32_17, v25, c1_i32⟩
def k1_off2 (k1_t2 : Fin k1_t2_loop.trips) (c0_i32_20 : BitVec 32) : Fin 5 → Nat :=
  let c0_34 : Index := 0#32
  let c0_35 : Index := 0#32
  let c0_36 : Index := 0#32
  let c0_37 : Index := 0#32
  let c0_i32_17 : BitVec 32 := 0#32
  let c1_i32 : BitVec 32 := 1#32
  let arg15 : BitVec 32 := Scf.iv c0_i32_17 c1_i32 k1_t2
  let v26 : BitVec 32 := Scalar.addi c0_i32_20 arg15
  let v42 : Index := Scalar.indexCast v26
  ![0, 0, 0, 0, v42.toNat]
def k1_off3 (k1_t2 : Fin k1_t2_loop.trips) (c0_i32_21 : BitVec 32) : Fin 5 → Nat :=
  let c0_38 : Index := 0#32
  let c0_39 : Index := 0#32
  let c0_40 : Index := 0#32
  let c1_41 : Index := 1#32
  let c0_i32_17 : BitVec 32 := 0#32
  let c1_i32 : BitVec 32 := 1#32
  let arg15 : BitVec 32 := Scf.iv c0_i32_17 c1_i32 k1_t2
  let v27 : BitVec 32 := Scalar.addi c0_i32_21 arg15
  let v44 : Index := Scalar.indexCast v27
  ![0, 0, 0, 1, v44.toNat]
def k1_off4 (k1_t2 : Fin k1_t2_loop.trips) (c0_i32_22 : BitVec 32) : Fin 5 → Nat :=
  let c0_42 : Index := 0#32
  let c0_43 : Index := 0#32
  let c0_44 : Index := 0#32
  let c2 : Index := 2#32
  let c0_i32_17 : BitVec 32 := 0#32
  let c1_i32 : BitVec 32 := 1#32
  let arg15 : BitVec 32 := Scf.iv c0_i32_17 c1_i32 k1_t2
  let v28 : BitVec 32 := Scalar.addi c0_i32_22 arg15
  let v46 : Index := Scalar.indexCast v28
  ![0, 0, 0, 2, v46.toNat]
def k1_off5 (k1_t2 : Fin k1_t2_loop.trips) (c0_i32_23 : BitVec 32) : Fin 5 → Nat :=
  let c0_45 : Index := 0#32
  let c0_46 : Index := 0#32
  let c0_47 : Index := 0#32
  let c3 : Index := 3#32
  let c0_i32_17 : BitVec 32 := 0#32
  let c1_i32 : BitVec 32 := 1#32
  let arg15 : BitVec 32 := Scf.iv c0_i32_17 c1_i32 k1_t2
  let v29 : BitVec 32 := Scalar.addi c0_i32_23 arg15
  let v48 : Index := Scalar.indexCast v29
  ![0, 0, 0, 3, v48.toNat]
def k1_off6 (v43 : BitVec 32) : Fin 2 → Nat :=
  let v74 : Index := Scalar.indexCast v43
  let c0_96 : Index := 0#32
  ![v74.toNat, 0]

def k1_off7 (v45 : BitVec 32) : Fin 2 → Nat :=
  let v76 : Index := Scalar.indexCast v45
  let c0_97 : Index := 0#32
  ![v76.toNat, 0]

def k1_off8 (v47 : BitVec 32) : Fin 2 → Nat :=
  let v78 : Index := Scalar.indexCast v47
  let c0_98 : Index := 0#32
  ![v78.toNat, 0]

def k1_off9 (v49 : BitVec 32) : Fin 2 → Nat :=
  let v80 : Index := Scalar.indexCast v49
  let c0_99 : Index := 0#32
  ![v80.toNat, 0]

def k1_off10 (v51 : BitVec 32) : Fin 2 → Nat :=
  let v82 : Index := Scalar.indexCast v51
  let c0_100 : Index := 0#32
  ![v82.toNat, 0]

def k1_off11 (v53 : BitVec 32) : Fin 2 → Nat :=
  let v84 : Index := Scalar.indexCast v53
  let c0_101 : Index := 0#32
  ![v84.toNat, 0]

def k1_off12 (v55 : BitVec 32) : Fin 2 → Nat :=
  let v86 : Index := Scalar.indexCast v55
  let c0_102 : Index := 0#32
  ![v86.toNat, 0]

def k1_off13 (v57 : BitVec 32) : Fin 2 → Nat :=
  let v88 : Index := Scalar.indexCast v57
  let c0_103 : Index := 0#32
  ![v88.toNat, 0]

def k1_off14 (v59 : BitVec 32) : Fin 2 → Nat :=
  let v90 : Index := Scalar.indexCast v59
  let c0_104 : Index := 0#32
  ![v90.toNat, 0]

def k1_off15 (v61 : BitVec 32) : Fin 2 → Nat :=
  let v92 : Index := Scalar.indexCast v61
  let c0_105 : Index := 0#32
  ![v92.toNat, 0]

def k1_off16 (v63 : BitVec 32) : Fin 2 → Nat :=
  let v94 : Index := Scalar.indexCast v63
  let c0_106 : Index := 0#32
  ![v94.toNat, 0]

def k1_off17 (v65 : BitVec 32) : Fin 2 → Nat :=
  let v96 : Index := Scalar.indexCast v65
  let c0_107 : Index := 0#32
  ![v96.toNat, 0]

def k1_off18 (v67 : BitVec 32) : Fin 2 → Nat :=
  let v98 : Index := Scalar.indexCast v67
  let c0_108 : Index := 0#32
  ![v98.toNat, 0]

def k1_off19 (v69 : BitVec 32) : Fin 2 → Nat :=
  let v100 : Index := Scalar.indexCast v69
  let c0_109 : Index := 0#32
  ![v100.toNat, 0]

def k1_off20 (v71 : BitVec 32) : Fin 2 → Nat :=
  let v102 : Index := Scalar.indexCast v71
  let c0_110 : Index := 0#32
  ![v102.toNat, 0]

def k1_off21 (v73 : BitVec 32) : Fin 2 → Nat :=
  let v104 : Index := Scalar.indexCast v73
  let c0_111 : Index := 0#32
  ![v104.toNat, 0]

def k1_chk16 (i : grid1.Coords) (v73 : BitVec 32) : Prop :=
  (∀ (k1_h2 : k1_cond2 i = 1#1), ∀ a, (k1_off21 v73) a + S7x128.size a ≤ S64528x128.size a)
theorem k1_off21_inb : ∀ (i : grid1.Coords) (v73 : BitVec 32) (k1_hw16 : k1_chk16 i v73), ∀ (k1_h2 : k1_cond2 i = 1#1), ∀ a, (k1_off21 v73) a + S7x128.size a ≤ S64528x128.size a := fun i v73 k1_hw16 k1_h2 => k1_hw16 k1_h2

def k1_off22 (k1_t2 : Fin k1_t2_loop.trips) (c0_i32_112 : BitVec 32) (c0_i32_20 : BitVec 32) : Fin 2 → Nat :=
  let c0_i32_17 : BitVec 32 := 0#32
  let c1_i32 : BitVec 32 := 1#32
  let arg15 : BitVec 32 := Scf.iv c0_i32_17 c1_i32 k1_t2
  let v26 : BitVec 32 := Scalar.addi c0_i32_20 arg15
  let v106 : BitVec 32 := Scalar.addi c0_i32_112 v26
  let c7_i32 : BitVec 32 := 7#32
  let v107 : BitVec 32 := Scalar.muli v106 c7_i32
  let v108 : Index := Scalar.indexCast v107
  let c0_113 : Index := 0#32
  ![v108.toNat, 0]
def k1_off23 (v43 : BitVec 32) : Fin 2 → Nat :=
  let v218 : Index := Scalar.indexCast v43
  let c0_156 : Index := 0#32
  ![v218.toNat, 0]

def k1_chk1 (i : grid1.Coords) (v43 : BitVec 32) : Prop :=
  (∀ (k1_h2 : k1_cond2 i = 1#1), ∀ a, (k1_off6 v43) a + S7x128.size a ≤ S64528x128.size a) ∧
  (∀ (k1_h2 : k1_cond2 i = 1#1), ∀ a, (k1_off23 v43) a + S7x128.size a ≤ S64528x128.size a)
theorem k1_off6_inb : ∀ (i : grid1.Coords) (v43 : BitVec 32) (k1_hw1 : k1_chk1 i v43), ∀ (k1_h2 : k1_cond2 i = 1#1), ∀ a, (k1_off6 v43) a + S7x128.size a ≤ S64528x128.size a := fun i v43 k1_hw1 k1_h2 => k1_hw1.1 k1_h2
theorem k1_off23_inb : ∀ (i : grid1.Coords) (v43 : BitVec 32) (k1_hw1 : k1_chk1 i v43), ∀ (k1_h2 : k1_cond2 i = 1#1), ∀ a, (k1_off23 v43) a + S7x128.size a ≤ S64528x128.size a := fun i v43 k1_hw1 k1_h2 => k1_hw1.2 k1_h2

def k1_off24 (v45 : BitVec 32) : Fin 2 → Nat :=
  let v222 : Index := Scalar.indexCast v45
  let c0_157 : Index := 0#32
  ![v222.toNat, 0]

def k1_chk2 (i : grid1.Coords) (v45 : BitVec 32) : Prop :=
  (∀ (k1_h2 : k1_cond2 i = 1#1), ∀ a, (k1_off7 v45) a + S7x128.size a ≤ S64528x128.size a) ∧
  (∀ (k1_h2 : k1_cond2 i = 1#1), ∀ a, (k1_off24 v45) a + S7x128.size a ≤ S64528x128.size a)
theorem k1_off7_inb : ∀ (i : grid1.Coords) (v45 : BitVec 32) (k1_hw2 : k1_chk2 i v45), ∀ (k1_h2 : k1_cond2 i = 1#1), ∀ a, (k1_off7 v45) a + S7x128.size a ≤ S64528x128.size a := fun i v45 k1_hw2 k1_h2 => k1_hw2.1 k1_h2
theorem k1_off24_inb : ∀ (i : grid1.Coords) (v45 : BitVec 32) (k1_hw2 : k1_chk2 i v45), ∀ (k1_h2 : k1_cond2 i = 1#1), ∀ a, (k1_off24 v45) a + S7x128.size a ≤ S64528x128.size a := fun i v45 k1_hw2 k1_h2 => k1_hw2.2 k1_h2

def k1_off25 (v47 : BitVec 32) : Fin 2 → Nat :=
  let v226 : Index := Scalar.indexCast v47
  let c0_158 : Index := 0#32
  ![v226.toNat, 0]

def k1_chk3 (i : grid1.Coords) (v47 : BitVec 32) : Prop :=
  (∀ (k1_h2 : k1_cond2 i = 1#1), ∀ a, (k1_off8 v47) a + S7x128.size a ≤ S64528x128.size a) ∧
  (∀ (k1_h2 : k1_cond2 i = 1#1), ∀ a, (k1_off25 v47) a + S7x128.size a ≤ S64528x128.size a)
theorem k1_off8_inb : ∀ (i : grid1.Coords) (v47 : BitVec 32) (k1_hw3 : k1_chk3 i v47), ∀ (k1_h2 : k1_cond2 i = 1#1), ∀ a, (k1_off8 v47) a + S7x128.size a ≤ S64528x128.size a := fun i v47 k1_hw3 k1_h2 => k1_hw3.1 k1_h2
theorem k1_off25_inb : ∀ (i : grid1.Coords) (v47 : BitVec 32) (k1_hw3 : k1_chk3 i v47), ∀ (k1_h2 : k1_cond2 i = 1#1), ∀ a, (k1_off25 v47) a + S7x128.size a ≤ S64528x128.size a := fun i v47 k1_hw3 k1_h2 => k1_hw3.2 k1_h2

def k1_off26 (v49 : BitVec 32) : Fin 2 → Nat :=
  let v230 : Index := Scalar.indexCast v49
  let c0_159 : Index := 0#32
  ![v230.toNat, 0]

def k1_chk4 (i : grid1.Coords) (v49 : BitVec 32) : Prop :=
  (∀ (k1_h2 : k1_cond2 i = 1#1), ∀ a, (k1_off9 v49) a + S7x128.size a ≤ S64528x128.size a) ∧
  (∀ (k1_h2 : k1_cond2 i = 1#1), ∀ a, (k1_off26 v49) a + S7x128.size a ≤ S64528x128.size a)
theorem k1_off9_inb : ∀ (i : grid1.Coords) (v49 : BitVec 32) (k1_hw4 : k1_chk4 i v49), ∀ (k1_h2 : k1_cond2 i = 1#1), ∀ a, (k1_off9 v49) a + S7x128.size a ≤ S64528x128.size a := fun i v49 k1_hw4 k1_h2 => k1_hw4.1 k1_h2
theorem k1_off26_inb : ∀ (i : grid1.Coords) (v49 : BitVec 32) (k1_hw4 : k1_chk4 i v49), ∀ (k1_h2 : k1_cond2 i = 1#1), ∀ a, (k1_off26 v49) a + S7x128.size a ≤ S64528x128.size a := fun i v49 k1_hw4 k1_h2 => k1_hw4.2 k1_h2

def k1_off27 (v51 : BitVec 32) : Fin 2 → Nat :=
  let v234 : Index := Scalar.indexCast v51
  let c0_160 : Index := 0#32
  ![v234.toNat, 0]

def k1_chk5 (i : grid1.Coords) (v51 : BitVec 32) : Prop :=
  (∀ (k1_h2 : k1_cond2 i = 1#1), ∀ a, (k1_off10 v51) a + S7x128.size a ≤ S64528x128.size a) ∧
  (∀ (k1_h2 : k1_cond2 i = 1#1), ∀ a, (k1_off27 v51) a + S7x128.size a ≤ S64528x128.size a)
theorem k1_off10_inb : ∀ (i : grid1.Coords) (v51 : BitVec 32) (k1_hw5 : k1_chk5 i v51), ∀ (k1_h2 : k1_cond2 i = 1#1), ∀ a, (k1_off10 v51) a + S7x128.size a ≤ S64528x128.size a := fun i v51 k1_hw5 k1_h2 => k1_hw5.1 k1_h2
theorem k1_off27_inb : ∀ (i : grid1.Coords) (v51 : BitVec 32) (k1_hw5 : k1_chk5 i v51), ∀ (k1_h2 : k1_cond2 i = 1#1), ∀ a, (k1_off27 v51) a + S7x128.size a ≤ S64528x128.size a := fun i v51 k1_hw5 k1_h2 => k1_hw5.2 k1_h2

def k1_off28 (v53 : BitVec 32) : Fin 2 → Nat :=
  let v238 : Index := Scalar.indexCast v53
  let c0_161 : Index := 0#32
  ![v238.toNat, 0]

def k1_chk6 (i : grid1.Coords) (v53 : BitVec 32) : Prop :=
  (∀ (k1_h2 : k1_cond2 i = 1#1), ∀ a, (k1_off11 v53) a + S7x128.size a ≤ S64528x128.size a) ∧
  (∀ (k1_h2 : k1_cond2 i = 1#1), ∀ a, (k1_off28 v53) a + S7x128.size a ≤ S64528x128.size a)
theorem k1_off11_inb : ∀ (i : grid1.Coords) (v53 : BitVec 32) (k1_hw6 : k1_chk6 i v53), ∀ (k1_h2 : k1_cond2 i = 1#1), ∀ a, (k1_off11 v53) a + S7x128.size a ≤ S64528x128.size a := fun i v53 k1_hw6 k1_h2 => k1_hw6.1 k1_h2
theorem k1_off28_inb : ∀ (i : grid1.Coords) (v53 : BitVec 32) (k1_hw6 : k1_chk6 i v53), ∀ (k1_h2 : k1_cond2 i = 1#1), ∀ a, (k1_off28 v53) a + S7x128.size a ≤ S64528x128.size a := fun i v53 k1_hw6 k1_h2 => k1_hw6.2 k1_h2

def k1_off29 (v55 : BitVec 32) : Fin 2 → Nat :=
  let v242 : Index := Scalar.indexCast v55
  let c0_162 : Index := 0#32
  ![v242.toNat, 0]

def k1_chk7 (i : grid1.Coords) (v55 : BitVec 32) : Prop :=
  (∀ (k1_h2 : k1_cond2 i = 1#1), ∀ a, (k1_off12 v55) a + S7x128.size a ≤ S64528x128.size a) ∧
  (∀ (k1_h2 : k1_cond2 i = 1#1), ∀ a, (k1_off29 v55) a + S7x128.size a ≤ S64528x128.size a)
theorem k1_off12_inb : ∀ (i : grid1.Coords) (v55 : BitVec 32) (k1_hw7 : k1_chk7 i v55), ∀ (k1_h2 : k1_cond2 i = 1#1), ∀ a, (k1_off12 v55) a + S7x128.size a ≤ S64528x128.size a := fun i v55 k1_hw7 k1_h2 => k1_hw7.1 k1_h2
theorem k1_off29_inb : ∀ (i : grid1.Coords) (v55 : BitVec 32) (k1_hw7 : k1_chk7 i v55), ∀ (k1_h2 : k1_cond2 i = 1#1), ∀ a, (k1_off29 v55) a + S7x128.size a ≤ S64528x128.size a := fun i v55 k1_hw7 k1_h2 => k1_hw7.2 k1_h2

def k1_off30 (v57 : BitVec 32) : Fin 2 → Nat :=
  let v246 : Index := Scalar.indexCast v57
  let c0_163 : Index := 0#32
  ![v246.toNat, 0]

def k1_chk8 (i : grid1.Coords) (v57 : BitVec 32) : Prop :=
  (∀ (k1_h2 : k1_cond2 i = 1#1), ∀ a, (k1_off13 v57) a + S7x128.size a ≤ S64528x128.size a) ∧
  (∀ (k1_h2 : k1_cond2 i = 1#1), ∀ a, (k1_off30 v57) a + S7x128.size a ≤ S64528x128.size a)
theorem k1_off13_inb : ∀ (i : grid1.Coords) (v57 : BitVec 32) (k1_hw8 : k1_chk8 i v57), ∀ (k1_h2 : k1_cond2 i = 1#1), ∀ a, (k1_off13 v57) a + S7x128.size a ≤ S64528x128.size a := fun i v57 k1_hw8 k1_h2 => k1_hw8.1 k1_h2
theorem k1_off30_inb : ∀ (i : grid1.Coords) (v57 : BitVec 32) (k1_hw8 : k1_chk8 i v57), ∀ (k1_h2 : k1_cond2 i = 1#1), ∀ a, (k1_off30 v57) a + S7x128.size a ≤ S64528x128.size a := fun i v57 k1_hw8 k1_h2 => k1_hw8.2 k1_h2

def k1_off31 (v59 : BitVec 32) : Fin 2 → Nat :=
  let v250 : Index := Scalar.indexCast v59
  let c0_164 : Index := 0#32
  ![v250.toNat, 0]

def k1_chk9 (i : grid1.Coords) (v59 : BitVec 32) : Prop :=
  (∀ (k1_h2 : k1_cond2 i = 1#1), ∀ a, (k1_off14 v59) a + S7x128.size a ≤ S64528x128.size a) ∧
  (∀ (k1_h2 : k1_cond2 i = 1#1), ∀ a, (k1_off31 v59) a + S7x128.size a ≤ S64528x128.size a)
theorem k1_off14_inb : ∀ (i : grid1.Coords) (v59 : BitVec 32) (k1_hw9 : k1_chk9 i v59), ∀ (k1_h2 : k1_cond2 i = 1#1), ∀ a, (k1_off14 v59) a + S7x128.size a ≤ S64528x128.size a := fun i v59 k1_hw9 k1_h2 => k1_hw9.1 k1_h2
theorem k1_off31_inb : ∀ (i : grid1.Coords) (v59 : BitVec 32) (k1_hw9 : k1_chk9 i v59), ∀ (k1_h2 : k1_cond2 i = 1#1), ∀ a, (k1_off31 v59) a + S7x128.size a ≤ S64528x128.size a := fun i v59 k1_hw9 k1_h2 => k1_hw9.2 k1_h2

def k1_off32 (v61 : BitVec 32) : Fin 2 → Nat :=
  let v254 : Index := Scalar.indexCast v61
  let c0_165 : Index := 0#32
  ![v254.toNat, 0]

def k1_chk10 (i : grid1.Coords) (v61 : BitVec 32) : Prop :=
  (∀ (k1_h2 : k1_cond2 i = 1#1), ∀ a, (k1_off15 v61) a + S7x128.size a ≤ S64528x128.size a) ∧
  (∀ (k1_h2 : k1_cond2 i = 1#1), ∀ a, (k1_off32 v61) a + S7x128.size a ≤ S64528x128.size a)
theorem k1_off15_inb : ∀ (i : grid1.Coords) (v61 : BitVec 32) (k1_hw10 : k1_chk10 i v61), ∀ (k1_h2 : k1_cond2 i = 1#1), ∀ a, (k1_off15 v61) a + S7x128.size a ≤ S64528x128.size a := fun i v61 k1_hw10 k1_h2 => k1_hw10.1 k1_h2
theorem k1_off32_inb : ∀ (i : grid1.Coords) (v61 : BitVec 32) (k1_hw10 : k1_chk10 i v61), ∀ (k1_h2 : k1_cond2 i = 1#1), ∀ a, (k1_off32 v61) a + S7x128.size a ≤ S64528x128.size a := fun i v61 k1_hw10 k1_h2 => k1_hw10.2 k1_h2

def k1_off33 (v63 : BitVec 32) : Fin 2 → Nat :=
  let v258 : Index := Scalar.indexCast v63
  let c0_166 : Index := 0#32
  ![v258.toNat, 0]

def k1_chk11 (i : grid1.Coords) (v63 : BitVec 32) : Prop :=
  (∀ (k1_h2 : k1_cond2 i = 1#1), ∀ a, (k1_off16 v63) a + S7x128.size a ≤ S64528x128.size a) ∧
  (∀ (k1_h2 : k1_cond2 i = 1#1), ∀ a, (k1_off33 v63) a + S7x128.size a ≤ S64528x128.size a)
theorem k1_off16_inb : ∀ (i : grid1.Coords) (v63 : BitVec 32) (k1_hw11 : k1_chk11 i v63), ∀ (k1_h2 : k1_cond2 i = 1#1), ∀ a, (k1_off16 v63) a + S7x128.size a ≤ S64528x128.size a := fun i v63 k1_hw11 k1_h2 => k1_hw11.1 k1_h2
theorem k1_off33_inb : ∀ (i : grid1.Coords) (v63 : BitVec 32) (k1_hw11 : k1_chk11 i v63), ∀ (k1_h2 : k1_cond2 i = 1#1), ∀ a, (k1_off33 v63) a + S7x128.size a ≤ S64528x128.size a := fun i v63 k1_hw11 k1_h2 => k1_hw11.2 k1_h2

def k1_off34 (v65 : BitVec 32) : Fin 2 → Nat :=
  let v262 : Index := Scalar.indexCast v65
  let c0_167 : Index := 0#32
  ![v262.toNat, 0]

def k1_chk12 (i : grid1.Coords) (v65 : BitVec 32) : Prop :=
  (∀ (k1_h2 : k1_cond2 i = 1#1), ∀ a, (k1_off17 v65) a + S7x128.size a ≤ S64528x128.size a) ∧
  (∀ (k1_h2 : k1_cond2 i = 1#1), ∀ a, (k1_off34 v65) a + S7x128.size a ≤ S64528x128.size a)
theorem k1_off17_inb : ∀ (i : grid1.Coords) (v65 : BitVec 32) (k1_hw12 : k1_chk12 i v65), ∀ (k1_h2 : k1_cond2 i = 1#1), ∀ a, (k1_off17 v65) a + S7x128.size a ≤ S64528x128.size a := fun i v65 k1_hw12 k1_h2 => k1_hw12.1 k1_h2
theorem k1_off34_inb : ∀ (i : grid1.Coords) (v65 : BitVec 32) (k1_hw12 : k1_chk12 i v65), ∀ (k1_h2 : k1_cond2 i = 1#1), ∀ a, (k1_off34 v65) a + S7x128.size a ≤ S64528x128.size a := fun i v65 k1_hw12 k1_h2 => k1_hw12.2 k1_h2

def k1_off35 (v67 : BitVec 32) : Fin 2 → Nat :=
  let v266 : Index := Scalar.indexCast v67
  let c0_168 : Index := 0#32
  ![v266.toNat, 0]

def k1_chk13 (i : grid1.Coords) (v67 : BitVec 32) : Prop :=
  (∀ (k1_h2 : k1_cond2 i = 1#1), ∀ a, (k1_off18 v67) a + S7x128.size a ≤ S64528x128.size a) ∧
  (∀ (k1_h2 : k1_cond2 i = 1#1), ∀ a, (k1_off35 v67) a + S7x128.size a ≤ S64528x128.size a)
theorem k1_off18_inb : ∀ (i : grid1.Coords) (v67 : BitVec 32) (k1_hw13 : k1_chk13 i v67), ∀ (k1_h2 : k1_cond2 i = 1#1), ∀ a, (k1_off18 v67) a + S7x128.size a ≤ S64528x128.size a := fun i v67 k1_hw13 k1_h2 => k1_hw13.1 k1_h2
theorem k1_off35_inb : ∀ (i : grid1.Coords) (v67 : BitVec 32) (k1_hw13 : k1_chk13 i v67), ∀ (k1_h2 : k1_cond2 i = 1#1), ∀ a, (k1_off35 v67) a + S7x128.size a ≤ S64528x128.size a := fun i v67 k1_hw13 k1_h2 => k1_hw13.2 k1_h2

def k1_off36 (v69 : BitVec 32) : Fin 2 → Nat :=
  let v270 : Index := Scalar.indexCast v69
  let c0_169 : Index := 0#32
  ![v270.toNat, 0]

def k1_chk14 (i : grid1.Coords) (v69 : BitVec 32) : Prop :=
  (∀ (k1_h2 : k1_cond2 i = 1#1), ∀ a, (k1_off19 v69) a + S7x128.size a ≤ S64528x128.size a) ∧
  (∀ (k1_h2 : k1_cond2 i = 1#1), ∀ a, (k1_off36 v69) a + S7x128.size a ≤ S64528x128.size a)
theorem k1_off19_inb : ∀ (i : grid1.Coords) (v69 : BitVec 32) (k1_hw14 : k1_chk14 i v69), ∀ (k1_h2 : k1_cond2 i = 1#1), ∀ a, (k1_off19 v69) a + S7x128.size a ≤ S64528x128.size a := fun i v69 k1_hw14 k1_h2 => k1_hw14.1 k1_h2
theorem k1_off36_inb : ∀ (i : grid1.Coords) (v69 : BitVec 32) (k1_hw14 : k1_chk14 i v69), ∀ (k1_h2 : k1_cond2 i = 1#1), ∀ a, (k1_off36 v69) a + S7x128.size a ≤ S64528x128.size a := fun i v69 k1_hw14 k1_h2 => k1_hw14.2 k1_h2

def k1_off37 (v71 : BitVec 32) : Fin 2 → Nat :=
  let v274 : Index := Scalar.indexCast v71
  let c0_170 : Index := 0#32
  ![v274.toNat, 0]

def k1_chk15 (i : grid1.Coords) (v71 : BitVec 32) : Prop :=
  (∀ (k1_h2 : k1_cond2 i = 1#1), ∀ a, (k1_off20 v71) a + S7x128.size a ≤ S64528x128.size a) ∧
  (∀ (k1_h2 : k1_cond2 i = 1#1), ∀ a, (k1_off37 v71) a + S7x128.size a ≤ S64528x128.size a)
theorem k1_off20_inb : ∀ (i : grid1.Coords) (v71 : BitVec 32) (k1_hw15 : k1_chk15 i v71), ∀ (k1_h2 : k1_cond2 i = 1#1), ∀ a, (k1_off20 v71) a + S7x128.size a ≤ S64528x128.size a := fun i v71 k1_hw15 k1_h2 => k1_hw15.1 k1_h2
theorem k1_off37_inb : ∀ (i : grid1.Coords) (v71 : BitVec 32) (k1_hw15 : k1_chk15 i v71), ∀ (k1_h2 : k1_cond2 i = 1#1), ∀ a, (k1_off37 v71) a + S7x128.size a ≤ S64528x128.size a := fun i v71 k1_hw15 k1_h2 => k1_hw15.2 k1_h2

def k1_off38 (arg15 : BitVec 32) : Fin 2 → Nat :=
  let c16383_i32 : BitVec 32 := 16383#32
  let v26 : BitVec 32 := Scalar.andi arg15 c16383_i32
  let c7_i32 : BitVec 32 := 7#32
  let v27 : BitVec 32 := Scalar.muli v26 c7_i32
  let v28 : Index := Scalar.indexCast v27
  let c0_17 : Index := 0#32
  ![v28.toNat, 0]

def k1_off39 (arg15 : BitVec 32) : Fin 2 → Nat :=
  let c0_i32_18 : BitVec 32 := 0#32
  let c14_i32 : BitVec 32 := 14#32
  let v25 : BitVec 32 := Scalar.shrsi arg15 c14_i32
  let v30 : BitVec 32 := Scalar.addi c0_i32_18 v25
  let c7_i32_19 : BitVec 32 := 7#32
  let v31 : BitVec 32 := Scalar.muli v30 c7_i32_19
  let v32 : Index := Scalar.indexCast v31
  let c0_20 : Index := 0#32
  ![v32.toNat, 0]
def k1_off40 (arg15 : BitVec 32) : Fin 5 → Nat :=
  let c0_35 : Index := 0#32
  let c0_36 : Index := 0#32
  let c0_37 : Index := 0#32
  let c14_i32 : BitVec 32 := 14#32
  let v25 : BitVec 32 := Scalar.shrsi arg15 c14_i32
  let c1_i32 : BitVec 32 := 1#32
  let v41 : BitVec 32 := Scalar.addi v25 c1_i32
  let c511_i32 : BitVec 32 := 511#32
  let v42 : BitVec 32 := Scalar.minsi v41 c511_i32
  let c0_i32_23 : BitVec 32 := 0#32
  let v46 : BitVec 1 := Scalar.cmpi .sgt v42 c0_i32_23
  let v47 : BitVec 32 := Scalar.extui v46
  let c0_i32_24 : BitVec 32 := 0#32
  let v48 : BitVec 1 := Scalar.cmpi .slt v42 c0_i32_24
  let v49 : BitVec 32 := Scalar.extui v48
  let v50 : BitVec 32 := Scalar.subi v47 v49
  let c128_i32 : BitVec 32 := 128#32
  let c0_i32_25 : BitVec 32 := 0#32
  let v51 : BitVec 1 := Scalar.cmpi .sgt c128_i32 c0_i32_25
  let v52 : BitVec 32 := Scalar.extui v51
  let c0_i32_26 : BitVec 32 := 0#32
  let v53 : BitVec 1 := Scalar.cmpi .slt c128_i32 c0_i32_26
  let v54 : BitVec 32 := Scalar.extui v53
  let v55 : BitVec 32 := Scalar.subi v52 v54
  let v56 : BitVec 1 := Scalar.cmpi .ne v50 v55
  let v57 : BitVec 32 := Scalar.remsi v42 c128_i32
  let c0_i32_27 : BitVec 32 := 0#32
  let v58 : BitVec 1 := Scalar.cmpi .ne v57 c0_i32_27
  let v59 : BitVec 1 := Scalar.andi v56 v58
  let v45 : BitVec 32 := Scalar.divsi v42 c128_i32
  let c1_i32_28 : BitVec 32 := 1#32
  let v60 : BitVec 32 := Scalar.subi v45 c1_i32_28
  let v61 : BitVec 32 := Scalar.select v59 v60 v45
  let v72 : Index := Scalar.indexCast v61
  let c128_i32_29 : BitVec 32 := 128#32
  let c0_i32_30 : BitVec 32 := 0#32
  let v62 : BitVec 1 := Scalar.cmpi .eq c128_i32_29 c0_i32_30
  let c1_i32_31 : BitVec 32 := 1#32
  let v63 : BitVec 32 := Scalar.select v62 c1_i32_31 c128_i32_29
  let v64 : BitVec 32 := Scalar.remsi v42 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let v73 : Index := Scalar.indexCast v71
  ![0, 0, 0, v72.toNat, v73.toNat]

def k1_chk17 (arg15 : BitVec 32) : Prop :=
  (∀ a, (k1_off38 arg15) a + S7x128.size a ≤ S64528x128.size a) ∧
  (∀ a, (k1_off39 arg15) a + S7x128.size a ≤ S7176x128.size a) ∧
  (∀ a, (k1_off40 arg15) a + S1x1x1x1x1.size a ≤ S1x1x2x4x128.size a)
theorem k1_off38_inb : ∀ (arg15 : BitVec 32) (k1_hw17 : k1_chk17 arg15), ∀ a, (k1_off38 arg15) a + S7x128.size a ≤ S64528x128.size a := fun arg15 k1_hw17 => k1_hw17.1
theorem k1_off39_inb : ∀ (arg15 : BitVec 32) (k1_hw17 : k1_chk17 arg15), ∀ a, (k1_off39 arg15) a + S7x128.size a ≤ S7176x128.size a := fun arg15 k1_hw17 => k1_hw17.2.1
theorem k1_off40_inb : ∀ (arg15 : BitVec 32) (k1_hw17 : k1_chk17 arg15), ∀ a, (k1_off40 arg15) a + S1x1x1x1x1.size a ≤ S1x1x2x4x128.size a := fun arg15 k1_hw17 => k1_hw17.2.2

def k1_cond3 (i : grid1.Coords) : BitVec 1 :=
  let arg1 : BitVec 32 := BitVec.ofNat 32 (i 1).val
  let c0_i32_1 : BitVec 32 := 0#32
  let v6 : BitVec 1 := Scalar.cmpi .sgt arg1 c0_i32_1
  let c32_i32 : BitVec 32 := 32#32
  let v7 : BitVec 1 := Scalar.cmpi .sle arg1 c32_i32
  let v8 : BitVec 1 := Scalar.andi v6 v7
  let v14 : BitVec 32 := Scalar.extui v8
  let c0_i32_7 : BitVec 32 := 0#32
  let v15 : BitVec 1 := Scalar.cmpi .ne v14 c0_i32_7
  v15

@[reducible] def k1_t3_loop : Scf.Loop 32 :=
  let c0_i32_17 : BitVec 32 := 0#32
  let c32_i32_18 : BitVec 32 := 32#32
  let v25 : BitVec 32 := Scalar.addi c0_i32_17 c32_i32_18
  let c1_i32 : BitVec 32 := 1#32
  ⟨c0_i32_17, v25, c1_i32⟩
def k1_off41 (k1_t3 : Fin k1_t3_loop.trips) (c0_i32_20 : BitVec 32) : Fin 5 → Nat :=
  let c0_34 : Index := 0#32
  let c0_35 : Index := 0#32
  let c1_36 : Index := 1#32
  let c0_37 : Index := 0#32
  let c0_i32_17 : BitVec 32 := 0#32
  let c1_i32 : BitVec 32 := 1#32
  let arg15 : BitVec 32 := Scf.iv c0_i32_17 c1_i32 k1_t3
  let v26 : BitVec 32 := Scalar.addi c0_i32_20 arg15
  let v42 : Index := Scalar.indexCast v26
  ![0, 0, 1, 0, v42.toNat]
def k1_off42 (k1_t3 : Fin k1_t3_loop.trips) (c0_i32_21 : BitVec 32) : Fin 5 → Nat :=
  let c0_38 : Index := 0#32
  let c0_39 : Index := 0#32
  let c1_40 : Index := 1#32
  let c1_41 : Index := 1#32
  let c0_i32_17 : BitVec 32 := 0#32
  let c1_i32 : BitVec 32 := 1#32
  let arg15 : BitVec 32 := Scf.iv c0_i32_17 c1_i32 k1_t3
  let v27 : BitVec 32 := Scalar.addi c0_i32_21 arg15
  let v44 : Index := Scalar.indexCast v27
  ![0, 0, 1, 1, v44.toNat]
def k1_off43 (k1_t3 : Fin k1_t3_loop.trips) (c0_i32_22 : BitVec 32) : Fin 5 → Nat :=
  let c0_42 : Index := 0#32
  let c0_43 : Index := 0#32
  let c1_44 : Index := 1#32
  let c2 : Index := 2#32
  let c0_i32_17 : BitVec 32 := 0#32
  let c1_i32 : BitVec 32 := 1#32
  let arg15 : BitVec 32 := Scf.iv c0_i32_17 c1_i32 k1_t3
  let v28 : BitVec 32 := Scalar.addi c0_i32_22 arg15
  let v46 : Index := Scalar.indexCast v28
  ![0, 0, 1, 2, v46.toNat]
def k1_off44 (k1_t3 : Fin k1_t3_loop.trips) (c0_i32_23 : BitVec 32) : Fin 5 → Nat :=
  let c0_45 : Index := 0#32
  let c0_46 : Index := 0#32
  let c1_47 : Index := 1#32
  let c3 : Index := 3#32
  let c0_i32_17 : BitVec 32 := 0#32
  let c1_i32 : BitVec 32 := 1#32
  let arg15 : BitVec 32 := Scf.iv c0_i32_17 c1_i32 k1_t3
  let v29 : BitVec 32 := Scalar.addi c0_i32_23 arg15
  let v48 : Index := Scalar.indexCast v29
  ![0, 0, 1, 3, v48.toNat]
def k1_off45 (v43 : BitVec 32) : Fin 2 → Nat :=
  let v74 : Index := Scalar.indexCast v43
  let c0_96 : Index := 0#32
  ![v74.toNat, 0]

def k1_off46 (v45 : BitVec 32) : Fin 2 → Nat :=
  let v76 : Index := Scalar.indexCast v45
  let c0_97 : Index := 0#32
  ![v76.toNat, 0]

def k1_off47 (v47 : BitVec 32) : Fin 2 → Nat :=
  let v78 : Index := Scalar.indexCast v47
  let c0_98 : Index := 0#32
  ![v78.toNat, 0]

def k1_off48 (v49 : BitVec 32) : Fin 2 → Nat :=
  let v80 : Index := Scalar.indexCast v49
  let c0_99 : Index := 0#32
  ![v80.toNat, 0]

def k1_off49 (v51 : BitVec 32) : Fin 2 → Nat :=
  let v82 : Index := Scalar.indexCast v51
  let c0_100 : Index := 0#32
  ![v82.toNat, 0]

def k1_off50 (v53 : BitVec 32) : Fin 2 → Nat :=
  let v84 : Index := Scalar.indexCast v53
  let c0_101 : Index := 0#32
  ![v84.toNat, 0]

def k1_off51 (v55 : BitVec 32) : Fin 2 → Nat :=
  let v86 : Index := Scalar.indexCast v55
  let c0_102 : Index := 0#32
  ![v86.toNat, 0]

def k1_off52 (v57 : BitVec 32) : Fin 2 → Nat :=
  let v88 : Index := Scalar.indexCast v57
  let c0_103 : Index := 0#32
  ![v88.toNat, 0]

def k1_off53 (v59 : BitVec 32) : Fin 2 → Nat :=
  let v90 : Index := Scalar.indexCast v59
  let c0_104 : Index := 0#32
  ![v90.toNat, 0]

def k1_off54 (v61 : BitVec 32) : Fin 2 → Nat :=
  let v92 : Index := Scalar.indexCast v61
  let c0_105 : Index := 0#32
  ![v92.toNat, 0]

def k1_off55 (v63 : BitVec 32) : Fin 2 → Nat :=
  let v94 : Index := Scalar.indexCast v63
  let c0_106 : Index := 0#32
  ![v94.toNat, 0]

def k1_off56 (v65 : BitVec 32) : Fin 2 → Nat :=
  let v96 : Index := Scalar.indexCast v65
  let c0_107 : Index := 0#32
  ![v96.toNat, 0]

def k1_off57 (v67 : BitVec 32) : Fin 2 → Nat :=
  let v98 : Index := Scalar.indexCast v67
  let c0_108 : Index := 0#32
  ![v98.toNat, 0]

def k1_off58 (v69 : BitVec 32) : Fin 2 → Nat :=
  let v100 : Index := Scalar.indexCast v69
  let c0_109 : Index := 0#32
  ![v100.toNat, 0]

def k1_off59 (v71 : BitVec 32) : Fin 2 → Nat :=
  let v102 : Index := Scalar.indexCast v71
  let c0_110 : Index := 0#32
  ![v102.toNat, 0]

def k1_off60 (v73 : BitVec 32) : Fin 2 → Nat :=
  let v104 : Index := Scalar.indexCast v73
  let c0_111 : Index := 0#32
  ![v104.toNat, 0]

def k1_chk33 (i : grid1.Coords) (v73 : BitVec 32) : Prop :=
  (∀ (k1_h3 : k1_cond3 i = 1#1), ∀ a, (k1_off60 v73) a + S7x128.size a ≤ S64528x128.size a)
theorem k1_off60_inb : ∀ (i : grid1.Coords) (v73 : BitVec 32) (k1_hw33 : k1_chk33 i v73), ∀ (k1_h3 : k1_cond3 i = 1#1), ∀ a, (k1_off60 v73) a + S7x128.size a ≤ S64528x128.size a := fun i v73 k1_hw33 k1_h3 => k1_hw33 k1_h3

def k1_off61 (k1_t3 : Fin k1_t3_loop.trips) (c512_i32 : BitVec 32) (c0_i32_20 : BitVec 32) : Fin 2 → Nat :=
  let c0_i32_17 : BitVec 32 := 0#32
  let c1_i32 : BitVec 32 := 1#32
  let arg15 : BitVec 32 := Scf.iv c0_i32_17 c1_i32 k1_t3
  let v26 : BitVec 32 := Scalar.addi c0_i32_20 arg15
  let v106 : BitVec 32 := Scalar.addi c512_i32 v26
  let c7_i32 : BitVec 32 := 7#32
  let v107 : BitVec 32 := Scalar.muli v106 c7_i32
  let v108 : Index := Scalar.indexCast v107
  let c0_112 : Index := 0#32
  ![v108.toNat, 0]
def k1_off62 (v43 : BitVec 32) : Fin 2 → Nat :=
  let v218 : Index := Scalar.indexCast v43
  let c0_155 : Index := 0#32
  ![v218.toNat, 0]

def k1_chk18 (i : grid1.Coords) (v43 : BitVec 32) : Prop :=
  (∀ (k1_h3 : k1_cond3 i = 1#1), ∀ a, (k1_off45 v43) a + S7x128.size a ≤ S64528x128.size a) ∧
  (∀ (k1_h3 : k1_cond3 i = 1#1), ∀ a, (k1_off62 v43) a + S7x128.size a ≤ S64528x128.size a)
theorem k1_off45_inb : ∀ (i : grid1.Coords) (v43 : BitVec 32) (k1_hw18 : k1_chk18 i v43), ∀ (k1_h3 : k1_cond3 i = 1#1), ∀ a, (k1_off45 v43) a + S7x128.size a ≤ S64528x128.size a := fun i v43 k1_hw18 k1_h3 => k1_hw18.1 k1_h3
theorem k1_off62_inb : ∀ (i : grid1.Coords) (v43 : BitVec 32) (k1_hw18 : k1_chk18 i v43), ∀ (k1_h3 : k1_cond3 i = 1#1), ∀ a, (k1_off62 v43) a + S7x128.size a ≤ S64528x128.size a := fun i v43 k1_hw18 k1_h3 => k1_hw18.2 k1_h3

def k1_off63 (v45 : BitVec 32) : Fin 2 → Nat :=
  let v222 : Index := Scalar.indexCast v45
  let c0_156 : Index := 0#32
  ![v222.toNat, 0]

def k1_chk19 (i : grid1.Coords) (v45 : BitVec 32) : Prop :=
  (∀ (k1_h3 : k1_cond3 i = 1#1), ∀ a, (k1_off46 v45) a + S7x128.size a ≤ S64528x128.size a) ∧
  (∀ (k1_h3 : k1_cond3 i = 1#1), ∀ a, (k1_off63 v45) a + S7x128.size a ≤ S64528x128.size a)
theorem k1_off46_inb : ∀ (i : grid1.Coords) (v45 : BitVec 32) (k1_hw19 : k1_chk19 i v45), ∀ (k1_h3 : k1_cond3 i = 1#1), ∀ a, (k1_off46 v45) a + S7x128.size a ≤ S64528x128.size a := fun i v45 k1_hw19 k1_h3 => k1_hw19.1 k1_h3
theorem k1_off63_inb : ∀ (i : grid1.Coords) (v45 : BitVec 32) (k1_hw19 : k1_chk19 i v45), ∀ (k1_h3 : k1_cond3 i = 1#1), ∀ a, (k1_off63 v45) a + S7x128.size a ≤ S64528x128.size a := fun i v45 k1_hw19 k1_h3 => k1_hw19.2 k1_h3

def k1_off64 (v47 : BitVec 32) : Fin 2 → Nat :=
  let v226 : Index := Scalar.indexCast v47
  let c0_157 : Index := 0#32
  ![v226.toNat, 0]

def k1_chk20 (i : grid1.Coords) (v47 : BitVec 32) : Prop :=
  (∀ (k1_h3 : k1_cond3 i = 1#1), ∀ a, (k1_off47 v47) a + S7x128.size a ≤ S64528x128.size a) ∧
  (∀ (k1_h3 : k1_cond3 i = 1#1), ∀ a, (k1_off64 v47) a + S7x128.size a ≤ S64528x128.size a)
theorem k1_off47_inb : ∀ (i : grid1.Coords) (v47 : BitVec 32) (k1_hw20 : k1_chk20 i v47), ∀ (k1_h3 : k1_cond3 i = 1#1), ∀ a, (k1_off47 v47) a + S7x128.size a ≤ S64528x128.size a := fun i v47 k1_hw20 k1_h3 => k1_hw20.1 k1_h3
theorem k1_off64_inb : ∀ (i : grid1.Coords) (v47 : BitVec 32) (k1_hw20 : k1_chk20 i v47), ∀ (k1_h3 : k1_cond3 i = 1#1), ∀ a, (k1_off64 v47) a + S7x128.size a ≤ S64528x128.size a := fun i v47 k1_hw20 k1_h3 => k1_hw20.2 k1_h3

def k1_off65 (v49 : BitVec 32) : Fin 2 → Nat :=
  let v230 : Index := Scalar.indexCast v49
  let c0_158 : Index := 0#32
  ![v230.toNat, 0]

def k1_chk21 (i : grid1.Coords) (v49 : BitVec 32) : Prop :=
  (∀ (k1_h3 : k1_cond3 i = 1#1), ∀ a, (k1_off48 v49) a + S7x128.size a ≤ S64528x128.size a) ∧
  (∀ (k1_h3 : k1_cond3 i = 1#1), ∀ a, (k1_off65 v49) a + S7x128.size a ≤ S64528x128.size a)
theorem k1_off48_inb : ∀ (i : grid1.Coords) (v49 : BitVec 32) (k1_hw21 : k1_chk21 i v49), ∀ (k1_h3 : k1_cond3 i = 1#1), ∀ a, (k1_off48 v49) a + S7x128.size a ≤ S64528x128.size a := fun i v49 k1_hw21 k1_h3 => k1_hw21.1 k1_h3
theorem k1_off65_inb : ∀ (i : grid1.Coords) (v49 : BitVec 32) (k1_hw21 : k1_chk21 i v49), ∀ (k1_h3 : k1_cond3 i = 1#1), ∀ a, (k1_off65 v49) a + S7x128.size a ≤ S64528x128.size a := fun i v49 k1_hw21 k1_h3 => k1_hw21.2 k1_h3

def k1_off66 (v51 : BitVec 32) : Fin 2 → Nat :=
  let v234 : Index := Scalar.indexCast v51
  let c0_159 : Index := 0#32
  ![v234.toNat, 0]

def k1_chk22 (i : grid1.Coords) (v51 : BitVec 32) : Prop :=
  (∀ (k1_h3 : k1_cond3 i = 1#1), ∀ a, (k1_off49 v51) a + S7x128.size a ≤ S64528x128.size a) ∧
  (∀ (k1_h3 : k1_cond3 i = 1#1), ∀ a, (k1_off66 v51) a + S7x128.size a ≤ S64528x128.size a)
theorem k1_off49_inb : ∀ (i : grid1.Coords) (v51 : BitVec 32) (k1_hw22 : k1_chk22 i v51), ∀ (k1_h3 : k1_cond3 i = 1#1), ∀ a, (k1_off49 v51) a + S7x128.size a ≤ S64528x128.size a := fun i v51 k1_hw22 k1_h3 => k1_hw22.1 k1_h3
theorem k1_off66_inb : ∀ (i : grid1.Coords) (v51 : BitVec 32) (k1_hw22 : k1_chk22 i v51), ∀ (k1_h3 : k1_cond3 i = 1#1), ∀ a, (k1_off66 v51) a + S7x128.size a ≤ S64528x128.size a := fun i v51 k1_hw22 k1_h3 => k1_hw22.2 k1_h3

def k1_off67 (v53 : BitVec 32) : Fin 2 → Nat :=
  let v238 : Index := Scalar.indexCast v53
  let c0_160 : Index := 0#32
  ![v238.toNat, 0]

def k1_chk23 (i : grid1.Coords) (v53 : BitVec 32) : Prop :=
  (∀ (k1_h3 : k1_cond3 i = 1#1), ∀ a, (k1_off50 v53) a + S7x128.size a ≤ S64528x128.size a) ∧
  (∀ (k1_h3 : k1_cond3 i = 1#1), ∀ a, (k1_off67 v53) a + S7x128.size a ≤ S64528x128.size a)
theorem k1_off50_inb : ∀ (i : grid1.Coords) (v53 : BitVec 32) (k1_hw23 : k1_chk23 i v53), ∀ (k1_h3 : k1_cond3 i = 1#1), ∀ a, (k1_off50 v53) a + S7x128.size a ≤ S64528x128.size a := fun i v53 k1_hw23 k1_h3 => k1_hw23.1 k1_h3
theorem k1_off67_inb : ∀ (i : grid1.Coords) (v53 : BitVec 32) (k1_hw23 : k1_chk23 i v53), ∀ (k1_h3 : k1_cond3 i = 1#1), ∀ a, (k1_off67 v53) a + S7x128.size a ≤ S64528x128.size a := fun i v53 k1_hw23 k1_h3 => k1_hw23.2 k1_h3

def k1_off68 (v55 : BitVec 32) : Fin 2 → Nat :=
  let v242 : Index := Scalar.indexCast v55
  let c0_161 : Index := 0#32
  ![v242.toNat, 0]

def k1_chk24 (i : grid1.Coords) (v55 : BitVec 32) : Prop :=
  (∀ (k1_h3 : k1_cond3 i = 1#1), ∀ a, (k1_off51 v55) a + S7x128.size a ≤ S64528x128.size a) ∧
  (∀ (k1_h3 : k1_cond3 i = 1#1), ∀ a, (k1_off68 v55) a + S7x128.size a ≤ S64528x128.size a)
theorem k1_off51_inb : ∀ (i : grid1.Coords) (v55 : BitVec 32) (k1_hw24 : k1_chk24 i v55), ∀ (k1_h3 : k1_cond3 i = 1#1), ∀ a, (k1_off51 v55) a + S7x128.size a ≤ S64528x128.size a := fun i v55 k1_hw24 k1_h3 => k1_hw24.1 k1_h3
theorem k1_off68_inb : ∀ (i : grid1.Coords) (v55 : BitVec 32) (k1_hw24 : k1_chk24 i v55), ∀ (k1_h3 : k1_cond3 i = 1#1), ∀ a, (k1_off68 v55) a + S7x128.size a ≤ S64528x128.size a := fun i v55 k1_hw24 k1_h3 => k1_hw24.2 k1_h3

def k1_off69 (v57 : BitVec 32) : Fin 2 → Nat :=
  let v246 : Index := Scalar.indexCast v57
  let c0_162 : Index := 0#32
  ![v246.toNat, 0]

def k1_chk25 (i : grid1.Coords) (v57 : BitVec 32) : Prop :=
  (∀ (k1_h3 : k1_cond3 i = 1#1), ∀ a, (k1_off52 v57) a + S7x128.size a ≤ S64528x128.size a) ∧
  (∀ (k1_h3 : k1_cond3 i = 1#1), ∀ a, (k1_off69 v57) a + S7x128.size a ≤ S64528x128.size a)
theorem k1_off52_inb : ∀ (i : grid1.Coords) (v57 : BitVec 32) (k1_hw25 : k1_chk25 i v57), ∀ (k1_h3 : k1_cond3 i = 1#1), ∀ a, (k1_off52 v57) a + S7x128.size a ≤ S64528x128.size a := fun i v57 k1_hw25 k1_h3 => k1_hw25.1 k1_h3
theorem k1_off69_inb : ∀ (i : grid1.Coords) (v57 : BitVec 32) (k1_hw25 : k1_chk25 i v57), ∀ (k1_h3 : k1_cond3 i = 1#1), ∀ a, (k1_off69 v57) a + S7x128.size a ≤ S64528x128.size a := fun i v57 k1_hw25 k1_h3 => k1_hw25.2 k1_h3

def k1_off70 (v59 : BitVec 32) : Fin 2 → Nat :=
  let v250 : Index := Scalar.indexCast v59
  let c0_163 : Index := 0#32
  ![v250.toNat, 0]

def k1_chk26 (i : grid1.Coords) (v59 : BitVec 32) : Prop :=
  (∀ (k1_h3 : k1_cond3 i = 1#1), ∀ a, (k1_off53 v59) a + S7x128.size a ≤ S64528x128.size a) ∧
  (∀ (k1_h3 : k1_cond3 i = 1#1), ∀ a, (k1_off70 v59) a + S7x128.size a ≤ S64528x128.size a)
theorem k1_off53_inb : ∀ (i : grid1.Coords) (v59 : BitVec 32) (k1_hw26 : k1_chk26 i v59), ∀ (k1_h3 : k1_cond3 i = 1#1), ∀ a, (k1_off53 v59) a + S7x128.size a ≤ S64528x128.size a := fun i v59 k1_hw26 k1_h3 => k1_hw26.1 k1_h3
theorem k1_off70_inb : ∀ (i : grid1.Coords) (v59 : BitVec 32) (k1_hw26 : k1_chk26 i v59), ∀ (k1_h3 : k1_cond3 i = 1#1), ∀ a, (k1_off70 v59) a + S7x128.size a ≤ S64528x128.size a := fun i v59 k1_hw26 k1_h3 => k1_hw26.2 k1_h3

def k1_off71 (v61 : BitVec 32) : Fin 2 → Nat :=
  let v254 : Index := Scalar.indexCast v61
  let c0_164 : Index := 0#32
  ![v254.toNat, 0]

def k1_chk27 (i : grid1.Coords) (v61 : BitVec 32) : Prop :=
  (∀ (k1_h3 : k1_cond3 i = 1#1), ∀ a, (k1_off54 v61) a + S7x128.size a ≤ S64528x128.size a) ∧
  (∀ (k1_h3 : k1_cond3 i = 1#1), ∀ a, (k1_off71 v61) a + S7x128.size a ≤ S64528x128.size a)
theorem k1_off54_inb : ∀ (i : grid1.Coords) (v61 : BitVec 32) (k1_hw27 : k1_chk27 i v61), ∀ (k1_h3 : k1_cond3 i = 1#1), ∀ a, (k1_off54 v61) a + S7x128.size a ≤ S64528x128.size a := fun i v61 k1_hw27 k1_h3 => k1_hw27.1 k1_h3
theorem k1_off71_inb : ∀ (i : grid1.Coords) (v61 : BitVec 32) (k1_hw27 : k1_chk27 i v61), ∀ (k1_h3 : k1_cond3 i = 1#1), ∀ a, (k1_off71 v61) a + S7x128.size a ≤ S64528x128.size a := fun i v61 k1_hw27 k1_h3 => k1_hw27.2 k1_h3

def k1_off72 (v63 : BitVec 32) : Fin 2 → Nat :=
  let v258 : Index := Scalar.indexCast v63
  let c0_165 : Index := 0#32
  ![v258.toNat, 0]

def k1_chk28 (i : grid1.Coords) (v63 : BitVec 32) : Prop :=
  (∀ (k1_h3 : k1_cond3 i = 1#1), ∀ a, (k1_off55 v63) a + S7x128.size a ≤ S64528x128.size a) ∧
  (∀ (k1_h3 : k1_cond3 i = 1#1), ∀ a, (k1_off72 v63) a + S7x128.size a ≤ S64528x128.size a)
theorem k1_off55_inb : ∀ (i : grid1.Coords) (v63 : BitVec 32) (k1_hw28 : k1_chk28 i v63), ∀ (k1_h3 : k1_cond3 i = 1#1), ∀ a, (k1_off55 v63) a + S7x128.size a ≤ S64528x128.size a := fun i v63 k1_hw28 k1_h3 => k1_hw28.1 k1_h3
theorem k1_off72_inb : ∀ (i : grid1.Coords) (v63 : BitVec 32) (k1_hw28 : k1_chk28 i v63), ∀ (k1_h3 : k1_cond3 i = 1#1), ∀ a, (k1_off72 v63) a + S7x128.size a ≤ S64528x128.size a := fun i v63 k1_hw28 k1_h3 => k1_hw28.2 k1_h3

def k1_off73 (v65 : BitVec 32) : Fin 2 → Nat :=
  let v262 : Index := Scalar.indexCast v65
  let c0_166 : Index := 0#32
  ![v262.toNat, 0]

def k1_chk29 (i : grid1.Coords) (v65 : BitVec 32) : Prop :=
  (∀ (k1_h3 : k1_cond3 i = 1#1), ∀ a, (k1_off56 v65) a + S7x128.size a ≤ S64528x128.size a) ∧
  (∀ (k1_h3 : k1_cond3 i = 1#1), ∀ a, (k1_off73 v65) a + S7x128.size a ≤ S64528x128.size a)
theorem k1_off56_inb : ∀ (i : grid1.Coords) (v65 : BitVec 32) (k1_hw29 : k1_chk29 i v65), ∀ (k1_h3 : k1_cond3 i = 1#1), ∀ a, (k1_off56 v65) a + S7x128.size a ≤ S64528x128.size a := fun i v65 k1_hw29 k1_h3 => k1_hw29.1 k1_h3
theorem k1_off73_inb : ∀ (i : grid1.Coords) (v65 : BitVec 32) (k1_hw29 : k1_chk29 i v65), ∀ (k1_h3 : k1_cond3 i = 1#1), ∀ a, (k1_off73 v65) a + S7x128.size a ≤ S64528x128.size a := fun i v65 k1_hw29 k1_h3 => k1_hw29.2 k1_h3

def k1_off74 (v67 : BitVec 32) : Fin 2 → Nat :=
  let v266 : Index := Scalar.indexCast v67
  let c0_167 : Index := 0#32
  ![v266.toNat, 0]

def k1_chk30 (i : grid1.Coords) (v67 : BitVec 32) : Prop :=
  (∀ (k1_h3 : k1_cond3 i = 1#1), ∀ a, (k1_off57 v67) a + S7x128.size a ≤ S64528x128.size a) ∧
  (∀ (k1_h3 : k1_cond3 i = 1#1), ∀ a, (k1_off74 v67) a + S7x128.size a ≤ S64528x128.size a)
theorem k1_off57_inb : ∀ (i : grid1.Coords) (v67 : BitVec 32) (k1_hw30 : k1_chk30 i v67), ∀ (k1_h3 : k1_cond3 i = 1#1), ∀ a, (k1_off57 v67) a + S7x128.size a ≤ S64528x128.size a := fun i v67 k1_hw30 k1_h3 => k1_hw30.1 k1_h3
theorem k1_off74_inb : ∀ (i : grid1.Coords) (v67 : BitVec 32) (k1_hw30 : k1_chk30 i v67), ∀ (k1_h3 : k1_cond3 i = 1#1), ∀ a, (k1_off74 v67) a + S7x128.size a ≤ S64528x128.size a := fun i v67 k1_hw30 k1_h3 => k1_hw30.2 k1_h3

def k1_off75 (v69 : BitVec 32) : Fin 2 → Nat :=
  let v270 : Index := Scalar.indexCast v69
  let c0_168 : Index := 0#32
  ![v270.toNat, 0]

def k1_chk31 (i : grid1.Coords) (v69 : BitVec 32) : Prop :=
  (∀ (k1_h3 : k1_cond3 i = 1#1), ∀ a, (k1_off58 v69) a + S7x128.size a ≤ S64528x128.size a) ∧
  (∀ (k1_h3 : k1_cond3 i = 1#1), ∀ a, (k1_off75 v69) a + S7x128.size a ≤ S64528x128.size a)
theorem k1_off58_inb : ∀ (i : grid1.Coords) (v69 : BitVec 32) (k1_hw31 : k1_chk31 i v69), ∀ (k1_h3 : k1_cond3 i = 1#1), ∀ a, (k1_off58 v69) a + S7x128.size a ≤ S64528x128.size a := fun i v69 k1_hw31 k1_h3 => k1_hw31.1 k1_h3
theorem k1_off75_inb : ∀ (i : grid1.Coords) (v69 : BitVec 32) (k1_hw31 : k1_chk31 i v69), ∀ (k1_h3 : k1_cond3 i = 1#1), ∀ a, (k1_off75 v69) a + S7x128.size a ≤ S64528x128.size a := fun i v69 k1_hw31 k1_h3 => k1_hw31.2 k1_h3

def k1_off76 (v71 : BitVec 32) : Fin 2 → Nat :=
  let v274 : Index := Scalar.indexCast v71
  let c0_169 : Index := 0#32
  ![v274.toNat, 0]

def k1_chk32 (i : grid1.Coords) (v71 : BitVec 32) : Prop :=
  (∀ (k1_h3 : k1_cond3 i = 1#1), ∀ a, (k1_off59 v71) a + S7x128.size a ≤ S64528x128.size a) ∧
  (∀ (k1_h3 : k1_cond3 i = 1#1), ∀ a, (k1_off76 v71) a + S7x128.size a ≤ S64528x128.size a)
theorem k1_off59_inb : ∀ (i : grid1.Coords) (v71 : BitVec 32) (k1_hw32 : k1_chk32 i v71), ∀ (k1_h3 : k1_cond3 i = 1#1), ∀ a, (k1_off59 v71) a + S7x128.size a ≤ S64528x128.size a := fun i v71 k1_hw32 k1_h3 => k1_hw32.1 k1_h3
theorem k1_off76_inb : ∀ (i : grid1.Coords) (v71 : BitVec 32) (k1_hw32 : k1_chk32 i v71), ∀ (k1_h3 : k1_cond3 i = 1#1), ∀ a, (k1_off76 v71) a + S7x128.size a ≤ S64528x128.size a := fun i v71 k1_hw32 k1_h3 => k1_hw32.2 k1_h3

def k1_off77 (arg15 : BitVec 32) : Fin 2 → Nat :=
  let c16383_i32 : BitVec 32 := 16383#32
  let v26 : BitVec 32 := Scalar.andi arg15 c16383_i32
  let c7_i32 : BitVec 32 := 7#32
  let v27 : BitVec 32 := Scalar.muli v26 c7_i32
  let v28 : Index := Scalar.indexCast v27
  let c0_17 : Index := 0#32
  ![v28.toNat, 0]

def k1_off78 (arg15 : BitVec 32) : Fin 2 → Nat :=
  let c512_i32 : BitVec 32 := 512#32
  let c14_i32 : BitVec 32 := 14#32
  let v25 : BitVec 32 := Scalar.shrsi arg15 c14_i32
  let v30 : BitVec 32 := Scalar.addi c512_i32 v25
  let c7_i32_18 : BitVec 32 := 7#32
  let v31 : BitVec 32 := Scalar.muli v30 c7_i32_18
  let v32 : Index := Scalar.indexCast v31
  let c0_19 : Index := 0#32
  ![v32.toNat, 0]
def k1_off79 (arg15 : BitVec 32) : Fin 5 → Nat :=
  let c0_35 : Index := 0#32
  let c0_36 : Index := 0#32
  let c1_37 : Index := 1#32
  let c14_i32 : BitVec 32 := 14#32
  let v25 : BitVec 32 := Scalar.shrsi arg15 c14_i32
  let c1_i32 : BitVec 32 := 1#32
  let v41 : BitVec 32 := Scalar.addi v25 c1_i32
  let c511_i32 : BitVec 32 := 511#32
  let v42 : BitVec 32 := Scalar.minsi v41 c511_i32
  let c0_i32_23 : BitVec 32 := 0#32
  let v46 : BitVec 1 := Scalar.cmpi .sgt v42 c0_i32_23
  let v47 : BitVec 32 := Scalar.extui v46
  let c0_i32_24 : BitVec 32 := 0#32
  let v48 : BitVec 1 := Scalar.cmpi .slt v42 c0_i32_24
  let v49 : BitVec 32 := Scalar.extui v48
  let v50 : BitVec 32 := Scalar.subi v47 v49
  let c128_i32 : BitVec 32 := 128#32
  let c0_i32_25 : BitVec 32 := 0#32
  let v51 : BitVec 1 := Scalar.cmpi .sgt c128_i32 c0_i32_25
  let v52 : BitVec 32 := Scalar.extui v51
  let c0_i32_26 : BitVec 32 := 0#32
  let v53 : BitVec 1 := Scalar.cmpi .slt c128_i32 c0_i32_26
  let v54 : BitVec 32 := Scalar.extui v53
  let v55 : BitVec 32 := Scalar.subi v52 v54
  let v56 : BitVec 1 := Scalar.cmpi .ne v50 v55
  let v57 : BitVec 32 := Scalar.remsi v42 c128_i32
  let c0_i32_27 : BitVec 32 := 0#32
  let v58 : BitVec 1 := Scalar.cmpi .ne v57 c0_i32_27
  let v59 : BitVec 1 := Scalar.andi v56 v58
  let v45 : BitVec 32 := Scalar.divsi v42 c128_i32
  let c1_i32_28 : BitVec 32 := 1#32
  let v60 : BitVec 32 := Scalar.subi v45 c1_i32_28
  let v61 : BitVec 32 := Scalar.select v59 v60 v45
  let v72 : Index := Scalar.indexCast v61
  let c128_i32_29 : BitVec 32 := 128#32
  let c0_i32_30 : BitVec 32 := 0#32
  let v62 : BitVec 1 := Scalar.cmpi .eq c128_i32_29 c0_i32_30
  let c1_i32_31 : BitVec 32 := 1#32
  let v63 : BitVec 32 := Scalar.select v62 c1_i32_31 c128_i32_29
  let v64 : BitVec 32 := Scalar.remsi v42 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let v73 : Index := Scalar.indexCast v71
  ![0, 0, 1, v72.toNat, v73.toNat]

def k1_chk34 (arg15 : BitVec 32) : Prop :=
  (∀ a, (k1_off77 arg15) a + S7x128.size a ≤ S64528x128.size a) ∧
  (∀ a, (k1_off78 arg15) a + S7x128.size a ≤ S7176x128.size a) ∧
  (∀ a, (k1_off79 arg15) a + S1x1x1x1x1.size a ≤ S1x1x2x4x128.size a)
theorem k1_off77_inb : ∀ (arg15 : BitVec 32) (k1_hw34 : k1_chk34 arg15), ∀ a, (k1_off77 arg15) a + S7x128.size a ≤ S64528x128.size a := fun arg15 k1_hw34 => k1_hw34.1
theorem k1_off78_inb : ∀ (arg15 : BitVec 32) (k1_hw34 : k1_chk34 arg15), ∀ a, (k1_off78 arg15) a + S7x128.size a ≤ S7176x128.size a := fun arg15 k1_hw34 => k1_hw34.2.1
theorem k1_off79_inb : ∀ (arg15 : BitVec 32) (k1_hw34 : k1_chk34 arg15), ∀ a, (k1_off79 arg15) a + S1x1x1x1x1.size a ≤ S1x1x2x4x128.size a := fun arg15 k1_hw34 => k1_hw34.2.2

def k1_cond4 (i : grid1.Coords) : BitVec 1 :=
  let arg1 : BitVec 32 := BitVec.ofNat 32 (i 1).val
  let c32_i32_13 : BitVec 32 := 32#32
  let v19 : BitVec 1 := Scalar.cmpi .slt arg1 c32_i32_13
  let v20 : BitVec 32 := Scalar.extui v19
  let c0_i32_14 : BitVec 32 := 0#32
  let v21 : BitVec 1 := Scalar.cmpi .ne v20 c0_i32_14
  v21

def k1_off80 (i : grid1.Coords) (c0_i32_22 : BitVec 32) : Fin 2 → Nat :=
  let arg0 : BitVec 32 := BitVec.ofNat 32 (i 0).val
  let v34 : Index := Scalar.indexCast arg0
  let arg1 : BitVec 32 := BitVec.ofNat 32 (i 1).val
  let c1024_i32 : BitVec 32 := 1024#32
  let v32 : BitVec 32 := Scalar.muli arg1 c1024_i32
  let v33 : BitVec 32 := Scalar.addi v32 c0_i32_22
  let v35 : Index := Scalar.indexCast v33
  ![v34.toNat, v35.toNat]
def k1_cond5 (i : grid1.Coords) : BitVec 1 :=
  let arg1 : BitVec 32 := BitVec.ofNat 32 (i 1).val
  let c32_i32_15 : BitVec 32 := 32#32
  let v22 : BitVec 1 := Scalar.cmpi .sgt arg1 c32_i32_15
  let v23 : BitVec 32 := Scalar.extui v22
  let c0_i32_16 : BitVec 32 := 0#32
  let v24 : BitVec 1 := Scalar.cmpi .ne v23 c0_i32_16
  v24

@[reducible] def k1_t4_loop : Scf.Loop 32 :=
  let c0_i32_18 : BitVec 32 := 0#32
  let c8_i32 : BitVec 32 := 8#32
  let v30 : BitVec 32 := Scalar.addi c0_i32_18 c8_i32
  let c1_i32_19 : BitVec 32 := 1#32
  ⟨c0_i32_18, v30, c1_i32_19⟩
def k1_off81 (i : grid1.Coords) (k1_t4 : Fin k1_t4_loop.trips) (c0_i32_21 : BitVec 32) (c0_i32_22 : BitVec 32) : Fin 2 → Nat :=
  let arg1 : BitVec 32 := BitVec.ofNat 32 (i 1).val
  let c32_i32_17 : BitVec 32 := 32#32
  let v25 : BitVec 32 := Scalar.subi arg1 c32_i32_17
  let c1_i32 : BitVec 32 := 1#32
  let v26 : BitVec 32 := Scalar.subi v25 c1_i32
  let c1024_i32 : BitVec 32 := 1024#32
  let v27 : BitVec 32 := Scalar.muli v26 c1024_i32
  let c0_i32_18 : BitVec 32 := 0#32
  let c1_i32_19 : BitVec 32 := 1#32
  let arg15 : BitVec 32 := Scf.iv c0_i32_18 c1_i32_19 k1_t4
  let c128_i32 : BitVec 32 := 128#32
  let v32 : BitVec 32 := Scalar.muli arg15 c128_i32
  let v33 : BitVec 32 := Scalar.addi v27 v32
  let v34 : BitVec 32 := Scalar.addi v33 c0_i32_21
  let c7_i32 : BitVec 32 := 7#32
  let v35 : BitVec 32 := Scalar.muli v34 c7_i32
  let v36 : BitVec 32 := Scalar.addi v35 c0_i32_22
  let v37 : Index := Scalar.indexCast v36
  let c0_23 : Index := 0#32
  ![v37.toNat, 0]
def k1_off82 (k1_t4 : Fin k1_t4_loop.trips) (c0_i32_37 : BitVec 32) : Fin 3 → Nat :=
  let c0_38 : Index := 0#32
  let c0_i32_18 : BitVec 32 := 0#32
  let c1_i32_19 : BitVec 32 := 1#32
  let arg15 : BitVec 32 := Scf.iv c0_i32_18 c1_i32_19 k1_t4
  let c128_i32_36 : BitVec 32 := 128#32
  let v67 : BitVec 32 := Scalar.muli arg15 c128_i32_36
  let v68 : BitVec 32 := Scalar.addi v67 c0_i32_37
  let v70 : Index := Scalar.indexCast v68
  let c0_39 : Index := 0#32
  ![0, v70.toNat, 0]
def k1_off83 (k1_t4 : Fin k1_t4_loop.trips) (c0_i32_37 : BitVec 32) : Fin 3 → Nat :=
  let c0_42 : Index := 0#32
  let c0_i32_18 : BitVec 32 := 0#32
  let c1_i32_19 : BitVec 32 := 1#32
  let arg15 : BitVec 32 := Scf.iv c0_i32_18 c1_i32_19 k1_t4
  let c128_i32_36 : BitVec 32 := 128#32
  let v67 : BitVec 32 := Scalar.muli arg15 c128_i32_36
  let v68 : BitVec 32 := Scalar.addi v67 c0_i32_37
  let v81 : Index := Scalar.indexCast v68
  let c128 : Index := 128#32
  ![0, v81.toNat, 128]
def k1_off84 (k1_t4 : Fin k1_t4_loop.trips) (c0_i32_37 : BitVec 32) : Fin 3 → Nat :=
  let c0_45 : Index := 0#32
  let c0_i32_18 : BitVec 32 := 0#32
  let c1_i32_19 : BitVec 32 := 1#32
  let arg15 : BitVec 32 := Scf.iv c0_i32_18 c1_i32_19 k1_t4
  let c128_i32_36 : BitVec 32 := 128#32
  let v67 : BitVec 32 := Scalar.muli arg15 c128_i32_36
  let v68 : BitVec 32 := Scalar.addi v67 c0_i32_37
  let v93 : Index := Scalar.indexCast v68
  let c256 : Index := 256#32
  ![0, v93.toNat, 256]
def k1_off85 (k1_t4 : Fin k1_t4_loop.trips) : Fin 3 → Nat :=
  let c0_289 : Index := 0#32
  let c0_290 : Index := 0#32
  let c0_i32_18 : BitVec 32 := 0#32
  let c1_i32_19 : BitVec 32 := 1#32
  let arg15 : BitVec 32 := Scf.iv c0_i32_18 c1_i32_19 k1_t4
  let c128_i32_288 : BitVec 32 := 128#32
  let v611 : BitVec 32 := Scalar.muli arg15 c128_i32_288
  let v612 : Index := Scalar.indexCast v611
  ![0, 0, v612.toNat]
def cc1_transform_0 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  let c0_i32_2 : BitVec 32 := 0#32
  let c0_i32_3 : BitVec 32 := 0#32
  ![arg0.toNat, v2.toNat, c0_i32_0.toNat, c0_i32_1.toNat, c0_i32_2.toNat]

def cc1_transform_6 (i : grid1.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  let c0_i32_2 : BitVec 32 := 0#32
  let c0_i32_3 : BitVec 32 := 0#32
  ![arg0.toNat, v2.toNat, c0_i32_0.toNat, c0_i32_1.toNat, c0_i32_2.toNat]

def cc1_transform_7 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_8 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc1_transform_9 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_10 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

abbrev stage1_0 : Fin 2 → Memref sig .tc .vmem S1x1024x2048 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S320x2048 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S3x32768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S320x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S320x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .smem S1x1x2x4x128 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .smem S1x1x2x4x128 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x320 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x1024 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1024x320 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1024x320 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S3x32768x2048 : Shape := ⟨3, ![3, 32768, 2048]⟩
abbrev S3x32768 : Shape := ⟨2, ![3, 32768]⟩
abbrev S2048x320 : Shape := ⟨2, ![2048, 320]⟩
abbrev S320 : Shape := ⟨1, ![320]⟩
abbrev S3x32768x320 : Shape := ⟨3, ![3, 32768, 320]⟩
abbrev S3x32768x1 : Shape := ⟨3, ![3, 32768, 1]⟩
abbrev S1x1x320 : Shape := ⟨3, ![1, 1, 320]⟩

abbrev nBuf : Space → Nat
  | .hbm => 7
  | .vmem => 6
  | .smem => 0
  | _ => 0

abbrev bufTy : (tb : Table) → Fin (tcTables nBuf tb) → BufTy
  | .hbm, ⟨0, _⟩ => ⟨S3x32768x2048, .i8⟩
  | .hbm, ⟨1, _⟩ => ⟨S3x32768, .f32⟩
  | .hbm, ⟨2, _⟩ => ⟨S2048x320, .fp8e4m3⟩
  | .hbm, ⟨3, _⟩ => ⟨S320, .f32⟩
  | .hbm, ⟨4, _⟩ => ⟨S320, .f32⟩
  | .hbm, ⟨5, _⟩ => ⟨S3x32768, .i32⟩
  | .hbm, ⟨6, _⟩ => ⟨S3x32768x320, .bf16⟩
  | .local _ .vmem, ⟨0, _⟩ => ⟨S3x32768x2048, .i8⟩
  | .local _ .vmem, ⟨1, _⟩ => ⟨S3x32768, .f32⟩
  | .local _ .vmem, ⟨2, _⟩ => ⟨S2048x320, .fp8e4m3⟩
  | .local _ .vmem, ⟨3, _⟩ => ⟨S320, .f32⟩
  | .local _ .vmem, ⟨4, _⟩ => ⟨S320, .f32⟩
  | .local _ .vmem, ⟨5, _⟩ => ⟨S3x32768x320, .bf16⟩
  | _, _ => ⟨S3x32768x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x32768x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x32768x320 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Words.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import Idealize.ShloMosaic.Adequacy
public import Idealize.ShloMosaic.Init
public import Idealize.ShloMosaic.Lib.PackedFields

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # The words of the two index arrays, and the windows they address

The kernel reads two arrays of words: row offsets into the table (seven rows a voxel) and links of the chain
of repeated voxels (`position · 2 ^ 14 + voxel`, or `2 ^ 30` for the end). The lemmas here say that words of these
shapes address inside the table, the point rows and the chain. -/

/-- A row offset: the first of seven rows of the table that exist. -/
def RecOK (w : BitVec 32) : Prop := w.toNat ≤ 64512

/-- A link at a position `p` or later: the end of the chain, or `q · 2 ^ 14 + v` for a position `p ≤ q < 512` and a
voxel `v < 9000`. -/
def KeyOK (p : ℕ) (k : BitVec 32) : Prop :=
  k = 1073741824#32 ∨ ∃ q v : ℕ, p ≤ q ∧ q < 512 ∧ v < 9000 ∧ k = BitVec.ofNat 32 (q * 16384 + v)

theorem KeyOK.mono {p p' : ℕ} {k : BitVec 32} (h : KeyOK p k) (hp : p' ≤ p) : KeyOK p' k := by
  rcases h with h | ⟨q, v, h1, h2, h3, h4⟩
  · exact .inl h
  · exact .inr ⟨q, v, by omega, h2, h3, h4⟩

theorem key_shr {q v : ℕ} (hq : q < 512) (hv : v < 9000) :
    Scalar.shrsi (BitVec.ofNat 32 (q * 16384 + v)) 14#32 = BitVec.ofNat 32 q := by
  refine (PackedFields.shrsi_eq_iff (u := .scalar) _ 14 q (by omega) (by omega)).2 ?_
  rw [BitVec.toNat_ofNat]; omega

theorem key_and {q v : ℕ} (hq : q < 512) (hv : v < 9000) :
    Scalar.andi (BitVec.ofNat 32 (q * 16384 + v)) 16383#32 = BitVec.ofNat 32 v := by
  apply BitVec.eq_of_toNat_eq
  show (BitVec.ofNat 32 (q * 16384 + v) &&& 16383#32).toNat = _
  rw [BitVec.toNat_and, BitVec.toNat_ofNat, BitVec.toNat_ofNat, BitVec.toNat_ofNat,
    show (16383 % 2 ^ 32 : ℕ) = 2 ^ 14 - 1 from rfl, Nat.and_two_pow_sub_one_eq_mod]
  omega

/-- The chain's end is no key to follow. -/
theorem not_slt_none : ¬ Scalar.cmpi .slt 1073741824#32 1073741824#32 = 1#1 := by decide

/-- Every other link is. -/
theorem slt_key {q v : ℕ} (hq : q < 512) (hv : v < 9000) :
    Scalar.cmpi .slt (BitVec.ofNat 32 (q * 16384 + v)) 1073741824#32 = 1#1 := by
  have : (BitVec.ofNat 32 (q * 16384 + v)).toInt = (q * 16384 + v : ℕ) := by
    rw [BitVec.toInt_ofNat', Int.bmod_eq_of_le] <;> omega
  have h : (BitVec.ofNat 32 (q * 16384 + v)).slt 1073741824#32 = true := by
    rw [BitVec.slt, this]; simp; omega
  show BitVec.ofBool _ = _
  rw [h]; rfl

/-- The chain's position read after position `q`: the next one, held at the last. -/
abbrev chainOff (u : ℕ) (p : ℕ) : Fin 5 → ℕ := ![0, 0, u, p / 128, p % 128]

theorem off40_pos : ∀ q : Fin 512, ∀ a, k1_off40 (BitVec.ofNat 32 (q.val * 16384)) a = chainOff 0 (min (q.val + 1) 511) a := by
  decide +kernel

theorem off79_pos : ∀ q : Fin 512, ∀ a, k1_off79 (BitVec.ofNat 32 (q.val * 16384)) a = chainOff 1 (min (q.val + 1) 511) a := by
  decide +kernel

theorem off40_key {q v : ℕ} (hq : q < 512) (hv : v < 9000) :
    k1_off40 (BitVec.ofNat 32 (q * 16384 + v)) = chainOff 0 (min (q + 1) 511) := by
  rw [← funext (off40_pos ⟨q, hq⟩)]
  have h0 := key_shr hq (v := 0) (by omega)
  rw [Nat.add_zero] at h0
  unfold k1_off40
  simp only [key_shr hq hv, h0]

theorem off79_key {q v : ℕ} (hq : q < 512) (hv : v < 9000) :
    k1_off79 (BitVec.ofNat 32 (q * 16384 + v)) = chainOff 1 (min (q + 1) 511) := by
  rw [← funext (off79_pos ⟨q, hq⟩)]
  have h0 := key_shr hq (v := 0) (by omega)
  rw [Nat.add_zero] at h0
  unfold k1_off79
  simp only [key_shr hq hv, h0]

theorem chainOff_inb {p : ℕ} (hp : p < 512) (u : Fin 2) :
    ∀ a, chainOff u.val p a + S1x1x1x1x1.size a ≤ S1x1x2x4x128.size a := by
  have h1 : p / 128 < 4 := by omega
  have h2 : p % 128 < 128 := by omega
  have hu := u.isLt
  intro a
  fin_cases a <;> simp [chainOff, S1x1x1x1x1, S1x1x2x4x128] <;> omega

theorem off38_key {q v : ℕ} (hq : q < 512) (hv : v < 9000) : k1_off38 (BitVec.ofNat 32 (q * 16384 + v)) = ![v * 7, 0] := by
  unfold k1_off38
  simp only [key_and hq hv]
  have : (Scalar.indexCast (Scalar.muli (BitVec.ofNat 32 v) 7#32)).toNat = v * 7 := by
    show (BitVec.ofNat 32 v * 7#32).toNat = _
    rw [BitVec.toNat_mul, BitVec.toNat_ofNat, BitVec.toNat_ofNat]; omega
  rw [this]

theorem off77_key {q v : ℕ} (hq : q < 512) (hv : v < 9000) : k1_off77 (BitVec.ofNat 32 (q * 16384 + v)) = ![v * 7, 0] :=
  off38_key hq hv

theorem off39_key {q v : ℕ} (hq : q < 512) (hv : v < 9000) : k1_off39 (BitVec.ofNat 32 (q * 16384 + v)) = ![q * 7, 0] := by
  unfold k1_off39
  simp only [key_shr hq hv]
  have : (Scalar.indexCast (Scalar.muli (Scalar.addi 0#32 (BitVec.ofNat 32 q)) 7#32)).toNat = q * 7 := by
    show ((0#32 + BitVec.ofNat 32 q) * 7#32).toNat = _
    rw [BitVec.zero_add, BitVec.toNat_mul, BitVec.toNat_ofNat, BitVec.toNat_ofNat]; omega
  rw [this]

theorem off78_key {q v : ℕ} (hq : q < 512) (hv : v < 9000) :
    k1_off78 (BitVec.ofNat 32 (q * 16384 + v)) = ![(512 + q) * 7, 0] := by
  unfold k1_off78
  simp only [key_shr hq hv]
  have : (Scalar.indexCast (Scalar.muli (Scalar.addi 512#32 (BitVec.ofNat 32 q)) 7#32)).toNat = (512 + q) * 7 := by
    show ((512#32 + BitVec.ofNat 32 q) * 7#32).toNat = _
    rw [BitVec.toNat_mul, BitVec.toNat_add, BitVec.toNat_ofNat, BitVec.toNat_ofNat, BitVec.toNat_ofNat]; omega
  rw [this]

/-- Seven rows from row `r` of an array of `128` lanes. -/
theorem rows_inb {r n : ℕ} (h : r + 7 ≤ n) : ∀ a : Fin 2, (![r, 0] : Fin 2 → ℕ) a + S7x128.size a ≤ (![n, 128] : Fin 2 → ℕ) a := by
  intro a
  fin_cases a
  · simpa [S7x128] using h
  · simp [S7x128]

/-- A link's words address inside the table, the point rows and the chain. -/
theorem chk17_key {q v : ℕ} (hq : q < 512) (hv : v < 9000) : k1_chk17 (BitVec.ofNat 32 (q * 16384 + v)) := by
  refine ⟨?_, ?_, ?_⟩
  · rw [off38_key hq hv]; exact rows_inb (n := 64528) (by omega)
  · rw [off39_key hq hv]; exact rows_inb (n := 7176) (by omega)
  · rw [off40_key hq hv]; exact chainOff_inb (by omega) 0

theorem chk34_key {q v : ℕ} (hq : q < 512) (hv : v < 9000) : k1_chk34 (BitVec.ofNat 32 (q * 16384 + v)) := by
  refine ⟨?_, ?_, ?_⟩
  · rw [off77_key hq hv]; exact rows_inb (n := 64528) (by omega)
  · rw [off78_key hq hv]; exact rows_inb (n := 7176) (by omega)
  · rw [off79_key hq hv]; exact chainOff_inb (by omega) 1

end Cert.Proof.Kernel
-- ==== Proof.Kernel.Index.lean ====
module

public import proofs.«01_k».proof.Defs
public import proofs.«01_k».proof.Proof.Gen.Kernel
public import proofs.«01_k».proof.Proof.Gen.Kernel.Skeleton
public import proofs.«01_k».proof.Proof.Gen.Kernel.Loops
public import Idealize.ShloMosaic.Adequacy
public import Idealize.ShloMosaic.Init
public import Idealize.ShloMosaic.Lib.KernelVsHost
public import Idealize.ShloMosaic.Lib.Pipeline.FrameBody
public import proofs.«01_k».proof.Proof.Kernel.Words

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open Idealize.ShloMosaic.ValueIdx

variable {F : FTy → Type} [FloatOps F]

/-! # What the index kernel writes

One trip of its loop writes, for a unit of 512 points in four chunks of 128, a row offset and a chain link per point.
The lemmas say that the words have the shapes of `RecOK` and `KeyOK`: every scan step keeps them. -/

/-- The lane numbers. -/
def LaneOK (v0 : IVec S3x128 32) : Prop := ∀ j, v0 j = BitVec.ofNat 32 (j 1).val

/-- Chain links for chunk `cc`, each at its own position or later. -/
def KVec (cc : ℕ) (v : IVec S3x128 32) : Prop := ∀ j : S3x128.Idx, KeyOK (128 * cc + (j 1).val) (v j)

theorem lane_iota : LaneOK (iota .tc S3x128 32 [1] iota_S3x128_d1_w32) := fun j => by
  unfold iota
  congr 1
  simp

theorem slt_nat {l : ℕ} (m : BitVec 32) (hl : l < 128) (hm : m.toNat ≤ 128) (h : (BitVec.ofNat 32 l).slt m = true) : l < m.toNat := by
  rw [BitVec.slt, BitVec.toInt_ofNat', BitVec.toInt_eq_toNat_bmod, Int.bmod_eq_of_le, Int.bmod_eq_of_le] at h
  · simpa using h
  all_goals omega

theorem kvec_minsi {cc : ℕ} {a b : IVec S3x128 32} (ha : KVec cc a) (hb : KVec cc b) : KVec cc (minsi a b) := fun j => by
  show KeyOK _ (if (a j).slt (b j) then a j else b j)
  split
  · exact ha j
  · exact hb j

theorem kvec_none (cc : ℕ) : KVec cc (broadcast S3x128 1073741824#32) := fun _ => .inl rfl

theorem kvec_step {cc : ℕ} {v0 : IVec S3x128 32} (h0 : LaneOK v0) {m : BitVec 32} (hm : 0 < m.toNat ∧ m.toNat ≤ 128)
    {v : IVec S3x128 32} (hv : KVec cc v) {h} :
    KVec cc (minsi v (select (cmpi .slt v0 (broadcast S3x128 m)) (dynamicRotate 1 m none v h) (broadcast S3x128 1073741824#32))) := by
  refine kvec_minsi hv fun j => ?_
  have hj : (j 1).val < 128 := (j 1).isLt
  show KeyOK _ (if BitVec.ofBool ((v0 j).slt m) = 1 then dynamicRotate 1 m none v h j else 1073741824#32)
  split
  next hc =>
    have hs : (BitVec.ofNat 32 (j 1).val).slt m = true := by
      rw [h0 j] at hc
      cases hb : (BitVec.ofNat 32 (j 1).val).slt m
      · rw [hb] at hc; exact absurd hc (by decide)
      · rfl
    have hlt := slt_nat m hj hm.2 hs
    rw [dynamicRotate_apply 1 m v h j (ix2 (j 0) ⟨(j 1).val + 128 - m.toNat, by omega⟩) (fun b => by
      match b with
      | ⟨0, _⟩ => rfl
      | ⟨1, _⟩ =>
        show (j 1).val + 128 - m.toNat = ((j 1).val + 128 - m.toNat % 128) % 128
        rcases Nat.lt_or_ge m.toNat 128 with h | h
        · rw [Nat.mod_eq_of_lt h, Nat.mod_eq_of_lt (by omega)]
        · have : m.toNat = 128 := by omega
          rw [this]; omega)]
    exact (hv _).mono (by show 128 * cc + (j 1).val ≤ 128 * cc + ((j 1).val + 128 - m.toNat); omega)
  next => exact .inl rfl

/-- A valid voxel is one below 9000. -/
theorem valid_lt {w : BitVec 32} (h : IntOp.andi (IntOp.cmpi .sge w 0#32) (IntOp.cmpi .slt w 9000#32) = 1#1) : w.toNat < 9000 := by
  have h1 : (0#32).sle w = true ∧ w.slt 9000#32 = true := by
    have : (BitVec.ofBool ((0#32).sle w) &&& BitVec.ofBool (w.slt 9000#32)) = 1#1 := h
    cases ha : (0#32).sle w <;> cases hb : w.slt 9000#32 <;> simp [ha, hb] at this ⊢
  obtain ⟨ha, hb⟩ := h1
  rw [BitVec.sle] at ha
  rw [BitVec.slt] at hb
  have h9 : (9000#32).toInt = 9000 := by decide
  have h0 : (0#32).toInt = 0 := by decide
  simp only [decide_eq_true_eq, h9, h0] at ha hb
  rw [BitVec.toInt_eq_toNat_cond] at ha hb
  split at ha <;> omega

theorem andi_right {a b : BitVec 1} (h : IntOp.andi a b = 1#1) : b = 1#1 := by
  revert a b; decide

theorem andi_left {a b : BitVec 1} (h : IntOp.andi a b = 1#1) : a = 1#1 := by
  revert a b; decide

theorem kvec_base (cc : Fin 4) {v0 : IVec S3x128 32} (h0 : LaneOK v0) {x : IVec S3x128 32} {d : IVec S3x128 1} {off : BitVec 32}
    (hoff : off = BitVec.ofNat 32 (128 * cc.val)) :
    KVec cc.val (select (andi d (andi (cmpi .sge x (broadcast S3x128 0#32)) (cmpi .slt x (broadcast S3x128 9000#32))))
      (ori (shli (addi v0 (broadcast S3x128 off)) (broadcast S3x128 14#32)) x) (broadcast S3x128 1073741824#32)) := fun j => by
  subst hoff
  have hj : (j 1).val < 128 := (j 1).isLt
  have hcc := cc.isLt
  show KeyOK _ (if IntOp.andi (d j) (IntOp.andi (IntOp.cmpi .sge (x j) 0#32) (IntOp.cmpi .slt (x j) 9000#32)) = 1 then
    (IntOp.shli .vector (v0 j + BitVec.ofNat 32 (128 * cc.val)) 14#32) ||| x j else 1073741824#32)
  split
  next hc =>
    have hv := valid_lt (andi_right hc)
    refine .inr ⟨128 * cc.val + (j 1).val, (x j).toNat, le_rfl, by omega, hv, ?_⟩
    rw [h0 j]
    have e : IntOp.shli .vector (BitVec.ofNat 32 (j 1).val + BitVec.ofNat 32 (128 * cc.val)) 14#32
        = BitVec.ofNat 32 ((128 * cc.val + (j 1).val) * 16384) := by
      unfold IntOp.shli
      rw [if_pos (by decide)]
      apply BitVec.eq_of_toNat_eq
      rw [BitVec.shiftLeft_eq', BitVec.toNat_shiftLeft, BitVec.toNat_add, BitVec.toNat_ofNat, BitVec.toNat_ofNat, BitVec.toNat_ofNat,
        BitVec.toNat_ofNat, Nat.shiftLeft_eq, show 2 ^ (14 % 2 ^ 32) = 16384 from rfl]
      omega
    rw [e]
    apply BitVec.eq_of_toNat_eq
    rw [BitVec.toNat_or, BitVec.toNat_ofNat, BitVec.toNat_ofNat, Nat.mod_eq_of_lt (by omega), Nat.mod_eq_of_lt (by omega),
      show (128 * cc.val + (j 1).val) * 16384 = (128 * cc.val + (j 1).val) <<< 14 from by rw [Nat.shiftLeft_eq],
      Nat.shiftLeft_add_eq_or_of_lt (by omega)]
  next => exact .inl rfl

/-- The first link of the next chunk, for every lane. -/
theorem kvec_tail (cc : ℕ) {v : IVec S3x128 32} (hv : KVec (cc + 1) v) {h1 h2 h3} :
    KVec cc (broadcastTo S3x128 (shapeCast S3x1 (extractStridedSlice S3x1 ![0, 0] v h1) h2) h3) := fun j => by
  have hj : (j 1).val < 128 := (j 1).isLt
  have e : broadcastTo S3x128 (shapeCast S3x1 (extractStridedSlice S3x1 ![0, 0] v h1) h2) h3 j = v (ix2 (j 0) (0 : Fin 128)) :=
    (broadcastTo_apply (shapeCast S3x1 (extractStridedSlice S3x1 ![0, 0] v h1) h2) h3 j (ix2 (j 0) (0 : Fin 1))
      (fun a => by match a with | ⟨0, _⟩ => rfl | ⟨1, _⟩ => rfl)).trans
    ((shapeCast_apply (extractStridedSlice S3x1 ![0, 0] v h1) h2 (ix2 (j 0) (0 : Fin 1)) (ix2 (j 0) (0 : Fin 1)) rfl).trans
    (congrArg v (funext fun a => by
      match a with
      | ⟨0, _⟩ => exact Fin.ext (Nat.zero_add _)
      | ⟨1, _⟩ => rfl)))
  rw [e]
  exact (hv _).mono (by show 128 * cc + (j 1).val ≤ 128 * (cc + 1) + 0; omega)

/-- Row offsets. -/
theorem rvec {x : IVec S3x128 32} {d : IVec S3x128 1} (j : S3x128.Idx) :
    RecOK (muli (select (andi (andi (cmpi .sge x (broadcast S3x128 0#32)) (cmpi .slt x (broadcast S3x128 9000#32))) d) x (broadcast S3x128 9216#32))
      (broadcast S3x128 7#32) j) := by
  show RecOK ((if IntOp.andi (IntOp.andi (IntOp.cmpi .sge (x j) 0#32) (IntOp.cmpi .slt (x j) 9000#32)) (d j) = 1 then x j else 9216#32) * 7#32)
  unfold RecOK
  rw [BitVec.toNat_mul]
  split
  next hc =>
    have hv := valid_lt (andi_left hc)
    rw [show (7#32).toNat = 7 from rfl, Nat.mod_eq_of_lt (by omega)]; omega
  next => decide

/-! ## The pieces of one trip -/

abbrev Piece4 := View.Piece (Elt F) S3x64x4x128 .i32

/-- A piece of row offsets. -/
def RecPiece (p : Piece4 (F := F)) : Prop := ∀ x : p.1.shape.Idx, RecOK (p.2 x)

/-- A piece of links: each for the position its place stands for. -/
def KeyPiece (p : Piece4 (F := F)) : Prop := ∀ x : p.1.shape.Idx, KeyOK (128 * (p.1.emb x 2).val + (p.1.emb x 3).val) (p.2 x)

theorem recPiece_mk {off : Fin 4 → ℕ} {inb} {v : IVec S3x128 32} (hv : ∀ j, RecOK (v j)) {h : S3x128.ShapeCasts S3x1x1x128} :
    RecPiece (F := F) ⟨Rect.unit (s := S3x64x4x128) off S3x1x1x128.size inb, shapeCast S3x1x1x128 v h⟩ := fun x => by
  show RecOK (shapeCast S3x1x1x128 v h x)
  unfold shapeCast
  exact hv _

theorem keyPiece_mk {off : Fin 4 → ℕ} {inb} {v : IVec S3x128 32} {cc : ℕ} (h2 : off 2 = cc) (h3 : off 3 = 0) (hv : KVec cc v)
    {h : S3x128.ShapeCasts S3x1x1x128} :
    KeyPiece (F := F) ⟨Rect.unit (s := S3x64x4x128) off S3x1x1x128.size inb, shapeCast S3x1x1x128 v h⟩ := fun x => by
  have x1 : ((x : S3x1x1x128.Idx) 1).val < 1 := (x 1).isLt
  have x2 : ((x : S3x1x1x128.Idx) 2).val < 1 := (x 2).isLt
  show KeyOK (128 * (off 2 + 1 * (x 2).val) + (off 3 + 1 * (x 3).val)) (shapeCast S3x1x1x128 v h (x : S3x1x1x128.Idx))
  rw [shapeCast_apply v h (x : S3x1x1x128.Idx) (ix2 (x 0) (x 3)) (by
    rw [Shape.rowMajor_val_two, Shape.rowMajor_val_four]
    show (x 0).val * 128 + (x 3).val = (((x 0).val * 1 + (x 1).val) * 1 + (x 2).val) * 128 + (x 3).val
    omega)]
  exact (hv _).mono (by show _ ≤ 128 * cc + (x 3).val; omega)

/-- The seven scan steps on a chunk's own keys. -/
theorem kvec_scan (cc : Fin 4) {v0 : IVec S3x128 32} (h0 : LaneOK v0) {x : IVec S3x128 32} {d : IVec S3x128 1} {off : BitVec 32}
    (hoff : off = BitVec.ofNat 32 (128 * cc.val)) {m1 m2 m3 m4 m5 m6 m7 : BitVec 32}
    (h1 : 0 < m1.toNat ∧ m1.toNat ≤ 128) (h2 : 0 < m2.toNat ∧ m2.toNat ≤ 128) (h3 : 0 < m3.toNat ∧ m3.toNat ≤ 128)
    (h4 : 0 < m4.toNat ∧ m4.toNat ≤ 128) (h5 : 0 < m5.toNat ∧ m5.toNat ≤ 128) (h6 : 0 < m6.toNat ∧ m6.toNat ≤ 128)
    (h7 : 0 < m7.toNat ∧ m7.toNat ≤ 128) {r} :
    let st := fun (m : BitVec 32) (v : IVec S3x128 32) =>
      minsi v (select (cmpi .slt v0 (broadcast S3x128 m)) (dynamicRotate 1 m none v r) (broadcast S3x128 1073741824#32))
    KVec cc.val (st m7 (st m6 (st m5 (st m4 (st m3 (st m2 (st m1
      (select (andi d (andi (cmpi .sge x (broadcast S3x128 0#32)) (cmpi .slt x (broadcast S3x128 9000#32))))
        (ori (shli (addi v0 (broadcast S3x128 off)) (broadcast S3x128 14#32)) x) (broadcast S3x128 1073741824#32))))))))) :=
  kvec_step h0 h7 (kvec_step h0 h6 (kvec_step h0 h5 (kvec_step h0 h4 (kvec_step h0 h3 (kvec_step h0 h2 (kvec_step h0 h1
    (kvec_base cc h0 hoff)))))))

section Trip
variable (arg0 : Memref sig .tc .vmem S3x32768 .i32) {v0 : IVec S3x128 32} (h0 : LaneOK v0)
  (X : BufTy.Contents (Elt F) arg0.view.ty) (k : Fin k0_t1_loop.trips)
include h0

theorem kvec3 : KVec 3 (trip_k0_t1.sl.v451 arg0 v0 X k) :=
  kvec_minsi (kvec_scan 3 h0 rfl (by decide) (by decide) (by decide) (by decide) (by decide) (by decide) (by decide)) (kvec_none 3)

theorem kvec2 : KVec 2 (trip_k0_t1.sl.v459 arg0 v0 X k) :=
  kvec_minsi (kvec_scan 2 h0 rfl (by decide) (by decide) (by decide) (by decide) (by decide) (by decide) (by decide))
    (kvec_tail 2 (kvec3 arg0 h0 X k))

theorem kvec1 : KVec 1 (trip_k0_t1.sl.v467 arg0 v0 X k) :=
  kvec_minsi (kvec_scan 1 h0 rfl (by decide) (by decide) (by decide) (by decide) (by decide) (by decide) (by decide))
    (kvec_tail 1 (kvec2 arg0 h0 X k))

theorem kvec0 {h1 h2 h3} : KVec 0 (minsi (trip_k0_t1.sl.v182 arg0 v0 X k)
    (broadcastTo S3x128 (shapeCast S3x1 (extractStridedSlice S3x1 ![0, 0] (trip_k0_t1.sl.v467 arg0 v0 X k) h1) h2) h3)) :=
  kvec_minsi (kvec_scan 0 h0 rfl (by decide) (by decide) (by decide) (by decide) (by decide) (by decide) (by decide))
    (kvec_tail 0 (kvec1 arg0 h0 X k))

variable (𝒱 : Variants) (c : Dev nD) (bd : Option 𝒱.V) (harg0 : arg0.IsWhole)
  (arg1 : Memref sig .tc .vmem S3x64x4x128 .i32) (harg1 : arg1.IsWhole) (arg2 : Memref sig .tc .vmem S3x64x4x128 .i32) (harg2 : arg2.IsWhole)

theorem trip_recs : ∀ p ∈ (tripL_k0_t1 (F := F) 𝒱 c bd arg0 harg0 arg1 harg1 arg2 harg2 v0 X k).1, RecPiece p := by
  unfold tripL_k0_t1 trip_k0_t1
  dsimp only
  intro p hp
  simp only [List.mem_cons, List.not_mem_nil, or_false] at hp
  rcases hp with rfl | rfl | rfl | rfl
  · exact recPiece_mk (fun j => rvec j)
  · exact recPiece_mk (fun j => rvec j)
  · exact recPiece_mk (fun j => rvec j)
  · exact recPiece_mk (fun j => rvec j)

theorem trip_keys : ∀ p ∈ (tripL_k0_t1 (F := F) 𝒱 c bd arg0 harg0 arg1 harg1 arg2 harg2 v0 X k).2, KeyPiece p := by
  unfold tripL_k0_t1 trip_k0_t1
  dsimp only
  intro p hp
  simp only [List.mem_cons, List.not_mem_nil, or_false] at hp
  rcases hp with rfl | rfl | rfl | rfl
  · exact keyPiece_mk (by rw [k0_off2_eq]; rfl) (by rw [k0_off2_eq]; rfl) (kvec0 arg0 h0 X k)
  · exact keyPiece_mk (by rw [k0_off3_eq]; rfl) (by rw [k0_off3_eq]; rfl) (kvec1 arg0 h0 X k)
  · exact keyPiece_mk (by rw [k0_off4_eq]; rfl) (by rw [k0_off4_eq]; rfl) (kvec2 arg0 h0 X k)
  · exact keyPiece_mk (by rw [k0_off5_eq]; rfl) (by rw [k0_off5_eq]; rfl) (kvec3 arg0 h0 X k)

omit h0 in
/-- A block of one unit and chunk holds the places of that unit and chunk. -/
theorem mem_unit {off : Fin 4 → ℕ} {inb} {u cc : ℕ} (e : off = ![0, u, cc, 0]) (y : S3x64x4x128.Idx) (hu : (y 1).val = u) (hc : (y 2).val = cc) :
    y ∈ (Rect.unit (s := S3x64x4x128) off S3x1x1x128.size inb).set := by
  subst e
  refine (Rect.mem_set_unit (inb := inb)).mpr fun a => ?_
  match a with
  | ⟨0, _⟩ => exact ⟨Nat.zero_le _, by show (y 0).val < 0 + 3; have := (y 0).isLt; simpa using this⟩
  | ⟨1, _⟩ => exact ⟨hu.ge, by show (y 1).val < u + 1; omega⟩
  | ⟨2, _⟩ => exact ⟨hc.ge, by show (y 2).val < cc + 1; omega⟩
  | ⟨3, _⟩ => exact ⟨Nat.zero_le _, by show (y 3).val < 0 + 128; have := (y 3).isLt; simpa using this⟩

omit h0 in
theorem trip_cover (y : S3x64x4x128.Idx) (hy : (y 1).val = k.val) :
    (∃ p ∈ (tripL_k0_t1 (F := F) 𝒱 c bd arg0 harg0 arg1 harg1 arg2 harg2 v0 X k).1, y ∈ p.1.set) ∧
    (∃ p ∈ (tripL_k0_t1 (F := F) 𝒱 c bd arg0 harg0 arg1 harg1 arg2 harg2 v0 X k).2, y ∈ p.1.set) := by
  have h2 : (y 2).val < 4 := (y 2).isLt
  unfold tripL_k0_t1 trip_k0_t1
  dsimp only
  simp only [List.mem_cons, List.not_mem_nil, or_false, exists_eq_or_imp, exists_eq_left]
  rcases (by omega : (y 2).val = 0 ∨ (y 2).val = 1 ∨ (y 2).val = 2 ∨ (y 2).val = 3) with h | h | h | h
  · exact ⟨.inr (.inr (.inr (mem_unit (k0_off2_eq k) y hy h))), .inl (mem_unit (k0_off2_eq k) y hy h)⟩
  · exact ⟨.inr (.inr (.inl (mem_unit (k0_off3_eq k) y hy h))), .inr (.inl (mem_unit (k0_off3_eq k) y hy h))⟩
  · exact ⟨.inr (.inl (mem_unit (k0_off4_eq k) y hy h)), .inr (.inr (.inl (mem_unit (k0_off4_eq k) y hy h)))⟩
  · exact ⟨.inl (mem_unit (k0_off5_eq k) y hy h), .inr (.inr (.inr (mem_unit (k0_off5_eq k) y hy h)))⟩

end Trip

section Loop
variable (arg0 : Memref sig .tc .vmem S3x32768 .i32) {v0 : IVec S3x128 32} (h0 : LaneOK v0)
  (X : BufTy.Contents (Elt F) arg0.view.ty) (𝒱 : Variants) (c : Dev nD) (bd : Option 𝒱.V) (harg0 : arg0.IsWhole)
  (arg1 : Memref sig .tc .vmem S3x64x4x128 .i32) (harg1 : arg1.IsWhole) (arg2 : Memref sig .tc .vmem S3x64x4x128 .i32) (harg2 : arg2.IsWhole)

local notation "PB" => pb_k0_t1 (F := F) 𝒱 c bd arg0 harg0 arg1 harg1 arg2 harg2 v0 X

include h0 in
theorem loop_good : ∀ n ≤ k0_t1_loop.trips, (∀ p ∈ (PB n).1, RecPiece p) ∧ (∀ p ∈ (PB n).2, KeyPiece p)
  | 0, _ => ⟨fun p hp => absurd hp List.not_mem_nil, fun p hp => absurd hp List.not_mem_nil⟩
  | n + 1, hn => by
    have ih := loop_good n (Nat.le_of_succ_le hn)
    have e := pb_k0_t1_succ (F := F) 𝒱 c bd arg0 harg0 arg1 harg1 arg2 harg2 v0 X ⟨n, hn⟩
    rw [show PB (n + 1) = _ from e]
    refine ⟨fun p hp => ?_, fun p hp => ?_⟩
    · rcases List.mem_append.mp hp with h | h
      · exact trip_recs arg0 h0 X ⟨n, hn⟩ 𝒱 c bd harg0 arg1 harg1 arg2 harg2 p h
      · exact ih.1 p h
    · rcases List.mem_append.mp hp with h | h
      · exact trip_keys arg0 h0 X ⟨n, hn⟩ 𝒱 c bd harg0 arg1 harg1 arg2 harg2 p h
      · exact ih.2 p h

theorem loop_cover : ∀ n ≤ k0_t1_loop.trips, ∀ y : S3x64x4x128.Idx, (y 1).val < n →
    (∃ p ∈ (PB n).1, y ∈ p.1.set) ∧ (∃ p ∈ (PB n).2, y ∈ p.1.set)
  | 0, _, _, h => absurd h (Nat.not_lt_zero _)
  | n + 1, hn, y, hy => by
    have e := pb_k0_t1_succ (F := F) 𝒱 c bd arg0 harg0 arg1 harg1 arg2 harg2 v0 X ⟨n, hn⟩
    rw [show PB (n + 1) = _ from e]
    rcases Nat.lt_succ_iff_lt_or_eq.mp hy with h | h
    · obtain ⟨⟨p, hp, hpy⟩, ⟨q, hq, hqy⟩⟩ := loop_cover n (Nat.le_of_succ_le hn) y h
      exact ⟨⟨p, List.mem_append_right _ hp, hpy⟩, ⟨q, List.mem_append_right _ hq, hqy⟩⟩
    · obtain ⟨⟨p, hp, hpy⟩, ⟨q, hq, hqy⟩⟩ := trip_cover (F := F) arg0 X ⟨n, hn⟩ (v0 := v0) 𝒱 c bd harg0 arg1 harg1 arg2 harg2 y h
      exact ⟨⟨p, List.mem_append_left _ hp, hpy⟩, ⟨q, List.mem_append_left _ hq, hqy⟩⟩

end Loop

/-- A property every payload has, the covered place has. -/
theorem canon_good {S : Shape} {e : EltTy} (P : S.Idx → Elt F e → Prop) :
    ∀ (L : List (View.Piece (Elt F) S e)), (∀ p ∈ L, ∀ x, P (p.1.emb x) (p.2 x)) → ∀ y, (∃ p ∈ L, y ∈ p.1.set) → P y (View.canon L y)
  | [], _, _, h => by obtain ⟨_, hm, _⟩ := h; exact absurd hm List.not_mem_nil
  | p :: L, hL, y, h => by
    by_cases hy : y ∈ p.1.set
    · obtain ⟨r, w⟩ := p
      obtain ⟨x, rfl⟩ : ∃ x, r.emb x = y := r.exists_idx_of_mem hy
      rw [View.canon_cons_emb]
      exact hL _ List.mem_cons_self x
    · rw [View.canon_cons_of_not_mem _ _ hy]
      refine canon_good P L (fun q hq => hL q (List.mem_cons_of_mem _ hq)) y ?_
      obtain ⟨q, hm, hq⟩ := h
      rcases List.mem_cons.mp hm with rfl | hm
      · exact absurd hq hy
      · exact ⟨q, hm, hq⟩

end Cert.Proof.Kernel
-- ==== Proof.Kernel.While.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import Idealize.ShloMosaic.Adequacy
public import Idealize.ShloMosaic.Init
public import proofs.«01_k».proof.Proof.Kernel.Words

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # The two chain walks

After the first occurrences of its voxels, a step of the kernel walks the chain of the repeated ones with a while
loop. Each of the two walks is met here by an induction on how many positions are left: a walk reads and writes the
table, reads the point rows and the chain, and ends. -/

local notation "𝕄" => MT nD τ sig Unit (Elt F) ℕ (UR sig nD τ) ℕ

variable (c : Dev nD) (i : grid1.Coords)
  (arg13 : Memref sig .tc .vmem S64528x128 .f32) (harg13 : arg13.IsWhole)
  (arg14 : Memref sig .tc .vmem S7176x128 .f32) (harg14 : arg14.IsWhole) (v2 : IVec S7x128 1)
  (arg8 : Memref sig .tc .smem S1x1x2x4x128 .i32) (harg8 : arg8.IsWhole)

/-- The word of the chain of unit `u` at position `p`, read where the kernel reads it. -/
abbrev chainWord (C : BufTy.Contents (Elt F) arg8.view.ty) (u : Fin 2) (p : ℕ) (hp : p < 512) : BitVec 32 :=
  View.readAt (Elt F) arg8.view (Rect.unit (s := S1x1x2x4x128) (chainOff u.val p) S1x1x1x1x1.size (chainOff_inb hp u)).toLoadRect C
    (Shape.Idx.first (s := S1x1x1x1x1) (by decide))

/-- The chain's words lead forward: at position `p` the end, or a position no smaller. -/
def ChainOK (C : BufTy.Contents (Elt F) arg8.view.ty) : Prop :=
  ∀ (u : Fin 2) (p : ℕ) (hp : p < 512), KeyOK p (chainWord arg8 C u p hp)

/-- What a walk holds: the table at anything, the point rows and the chain. -/
abbrev WalkRes (P : BufTy.Contents (Elt F) arg14.view.ty) (C : BufTy.Contents (Elt F) arg8.view.ty) : sProp 𝕄 :=
  iprop((∃ T, arg13.view.loc (c : Thread nD τ) ↦[arg13.view.set]{fullShare} T)
    ∗ (arg14.view.loc (c : Thread nD τ) ↦[arg14.view.set]{fullShare} P)
    ∗ (arg8.view.loc (c : Thread nD τ) ↦[arg8.view.set]{fullShare} C))

theorem slt_512 : ∀ q : Fin 512, Scalar.cmpi .slt (Scalar.addi (BitVec.ofNat 32 q.val) 1#32) 512#32
    = if q.val + 1 < 512 then 1#1 else 0#1 := by decide +kernel

/-- The word a walk goes on with after position `q`: a link at a later position. -/
theorem next_key {u : Fin 2} {q : ℕ} (hq : q < 512) {off : Fin 5 → ℕ} (hoff : off = chainOff u.val (min (q + 1) 511))
    (hin : ∀ a, off a + S1x1x1x1x1.size a ≤ S1x1x2x4x128.size a) (C : BufTy.Contents (Elt F) arg8.view.ty)
    (hC : ∀ (p : ℕ) (hp : p < 512), KeyOK p (chainWord arg8 C u p hp)) :
    KeyOK (q + 1) (Scalar.select (Scalar.cmpi .slt (Scalar.addi (BitVec.ofNat 32 q) 1#32) 512#32)
      (View.readAt (Elt F) arg8.view (Rect.unit (s := S1x1x2x4x128) off S1x1x1x1x1.size hin).toLoadRect C
        (Shape.Idx.first (s := S1x1x1x1x1) (by decide))) 1073741824#32) := by
  rw [slt_512 ⟨q, hq⟩]
  subst hoff
  by_cases h : q + 1 < 512
  · rw [if_pos h]
    refine (hC (min (q + 1) 511) (by omega)).mono ?_
    omega
  · rw [if_neg h]; exact .inl rfl

theorem defs₀_row2 (a : BitVec 32) : defs₀ (F := F) .tc (2 : (Λ₀ F).Label)
    ⟨i, arg13, harg13, arg14, harg14, v2, arg8, harg8, a⟩ = cc1_while1 i arg13 harg13 arg14 harg14 v2 arg8 harg8 a := by
  unfold defs₀; rw [Defs.onTc_tc]

/-- The first walk from a link at position `p` or later, with `512 - p` positions left at most. -/
theorem while1_spec (P : BufTy.Contents (Elt F) arg14.view.ty) (C : BufTy.Contents (Elt F) arg8.view.ty)
    (hC : ChainOK arg8 C) : ∀ (n p : ℕ) (k : BitVec 32), KeyOK p k → 512 - p ≤ n →
      WalkRes c arg13 arg14 arg8 P C
      ⊢ wp frame (wpE (defs₀ (F := F)) Variants.nat (c : Thread nD τ) (some n)) Set.univ
          (cc1_while1 i arg13 harg13 arg14 harg14 v2 arg8 harg8 k) (fun _ => WalkRes c arg13 arg14 arg8 P C) := by
  intro n
  induction n with
  | zero =>
    intro p k hk hn
    rcases hk with rfl | ⟨q, v, h1, h2, _⟩
    · unfold cc1_while1
      simp only [if_neg not_slt_none]
      iintro H
      sl_step
      iexact H
    · omega
  | succ n ih =>
    intro p k hk hn
    rcases hk with rfl | ⟨q, v, h1, hq, hv, rfl⟩
    · unfold cc1_while1
      simp only [if_neg not_slt_none]
      iintro H
      sl_step
      iexact H
    · unfold cc1_while1
      have hchk := chk17_key hq hv
      simp only [if_pos (slt_key hq hv)]
      iintro ⟨⟨%T, H1⟩, H2, H3⟩
      sl_exec_parts
      sl_unfold_run_names
      have hnext : KeyOK (q + 1) (Scalar.select (Scalar.cmpi .slt (Scalar.addi (Scalar.shrsi (BitVec.ofNat 32 (q * 16384 + v)) 14#32) 1#32) 512#32)
          (View.readAt (Elt F) arg8.view (Rect.unit (s := S1x1x2x4x128) (k1_off40 (BitVec.ofNat 32 (q * 16384 + v))) S1x1x1x1x1.size
            (k1_off40_inb _ hchk)).toLoadRect C (Shape.Idx.first (s := S1x1x1x1x1) (by decide))) 1073741824#32) := by
        rw [key_shr hq hv]
        exact next_key arg8 hq (off40_key hq hv) _ C (hC 0)
      iapply (wp_call Variants.nat (c : Thread nD τ) (some (n + 1)) Set.univ n (fun u hu => by cases hu; exact Nat.lt_succ_self n))
      rw [defs₀_row2]
      iapply (wp_wand_r Idealize.ShloMosaic.frame (wpE (defs₀ (F := F)) Variants.nat (c : Thread nD τ) (some n)) Set.univ)
      isplitl [H1 H2 H3]
      · iapply (ih (q + 1) _ hnext (by omega))
        isplitl [H1]
        · iexists _; iexact H1
        isplitl [H2]; · iexact H2
        iexact H3
      · iintro %_ H
        sl_step
        iexact H

theorem defs₀_row3 (a : BitVec 32) : defs₀ (F := F) .tc (3 : (Λ₀ F).Label)
    ⟨i, arg13, harg13, arg14, harg14, v2, arg8, harg8, a⟩ = cc1_while2 i arg13 harg13 arg14 harg14 v2 arg8 harg8 a := by
  unfold defs₀; rw [Defs.onTc_tc]

/-- The second walk, over the second half of the point rows. -/
theorem while2_spec (P : BufTy.Contents (Elt F) arg14.view.ty) (C : BufTy.Contents (Elt F) arg8.view.ty)
    (hC : ChainOK arg8 C) : ∀ (n p : ℕ) (k : BitVec 32), KeyOK p k → 512 - p ≤ n →
      WalkRes c arg13 arg14 arg8 P C
      ⊢ wp frame (wpE (defs₀ (F := F)) Variants.nat (c : Thread nD τ) (some n)) Set.univ
          (cc1_while2 i arg13 harg13 arg14 harg14 v2 arg8 harg8 k) (fun _ => WalkRes c arg13 arg14 arg8 P C) := by
  intro n
  induction n with
  | zero =>
    intro p k hk hn
    rcases hk with rfl | ⟨q, v, h1, h2, _⟩
    · unfold cc1_while2
      simp only [if_neg not_slt_none]
      iintro H
      sl_step
      iexact H
    · omega
  | succ n ih =>
    intro p k hk hn
    rcases hk with rfl | ⟨q, v, h1, hq, hv, rfl⟩
    · unfold cc1_while2
      simp only [if_neg not_slt_none]
      iintro H
      sl_step
      iexact H
    · unfold cc1_while2
      have hchk := chk34_key hq hv
      simp only [if_pos (slt_key hq hv)]
      iintro ⟨⟨%T, H1⟩, H2, H3⟩
      sl_exec_parts
      sl_unfold_run_names
      have hnext : KeyOK (q + 1) (Scalar.select (Scalar.cmpi .slt (Scalar.addi (Scalar.shrsi (BitVec.ofNat 32 (q * 16384 + v)) 14#32) 1#32) 512#32)
          (View.readAt (Elt F) arg8.view (Rect.unit (s := S1x1x2x4x128) (k1_off79 (BitVec.ofNat 32 (q * 16384 + v))) S1x1x1x1x1.size
            (k1_off79_inb _ hchk)).toLoadRect C (Shape.Idx.first (s := S1x1x1x1x1) (by decide))) 1073741824#32) := by
        rw [key_shr hq hv]
        exact next_key arg8 hq (off79_key hq hv) _ C (hC 1)
      iapply (wp_call Variants.nat (c : Thread nD τ) (some (n + 1)) Set.univ n (fun u hu => by cases hu; exact Nat.lt_succ_self n))
      rw [defs₀_row3]
      iapply (wp_wand_r Idealize.ShloMosaic.frame (wpE (defs₀ (F := F)) Variants.nat (c : Thread nD τ) (some n)) Set.univ)
      isplitl [H1 H2 H3]
      · iapply (ih (q + 1) _ hnext (by omega))
        isplitl [H1]
        · iexists _; iexact H1
        isplitl [H2]; · iexact H2
        iexact H3
      · iintro %_ H
        sl_step
        iexact H

/-- The call of the first walk from any link, by a caller that holds what the walk needs. -/
theorem call_while1 (P : BufTy.Contents (Elt F) arg14.view.ty) (C : BufTy.Contents (Elt F) arg8.view.ty)
    (hC : ChainOK arg8 C) (key : BitVec 32) (hk : KeyOK 0 key) {α : Type}
    (κ : BitVec 32 → Prog (TpuEff nD τ sig (Elt F) (Λ₀ F) .tc) α) (Q : α → sProp 𝕄) :
    iprop(WalkRes c arg13 arg14 arg8 P C ∗ (∀ x, WalkRes c arg13 arg14 arg8 P C
        -∗ wp Idealize.ShloMosaic.frame (wpE (defs₀ (F := F)) Variants.nat (c : Thread nD τ) none) Set.univ (κ x) Q))
      ⊢ wp Idealize.ShloMosaic.frame (wpE (defs₀ (F := F)) Variants.nat (c : Thread nD τ) none) Set.univ
          (.op (.call (2 : (Λ₀ F).Label) ⟨i, arg13, harg13, arg14, harg14, v2, arg8, harg8, key⟩) κ) Q := by
  iintro ⟨H, Hκ⟩
  iapply (wp_call Variants.nat (c : Thread nD τ) none Set.univ (512 : ℕ) (fun u hu => nomatch hu))
  rw [defs₀_row2]
  iapply (wp_wand_r Idealize.ShloMosaic.frame (wpE (defs₀ (F := F)) Variants.nat (c : Thread nD τ) (some 512)) Set.univ)
  isplitl [H]
  · iapply (while1_spec c i arg13 harg13 arg14 harg14 v2 arg8 harg8 P C hC 512 0 key hk (by omega))
    iexact H
  · iexact Hκ

/-- The link the first walk starts from: the chain's first word, or the end when there is nothing to scatter. -/
theorem first_key1 (C : BufTy.Contents (Elt F) arg8.view.ty) (hC : ChainOK arg8 C) (b : BitVec 1) :
    KeyOK 0 (Scalar.select b (View.readAt (Elt F) arg8.view (Rect.unit (s := S1x1x2x4x128) ![0, 0, 0, 0, 0] S1x1x1x1x1.size
      inb_S1x1x2x4x128_S1x1x1x1x1_0_0_0_0_0).toLoadRect C (Shape.Idx.first (s := S1x1x1x1x1) (by decide))) 1073741824#32) := by
  unfold Scalar.select
  split
  · exact hC 0 0 (by omega)
  · exact .inl rfl

/-- The call of the second walk from any link, by a caller that holds what the walk needs. -/
theorem call_while2 (P : BufTy.Contents (Elt F) arg14.view.ty) (C : BufTy.Contents (Elt F) arg8.view.ty)
    (hC : ChainOK arg8 C) (key : BitVec 32) (hk : KeyOK 0 key) {α : Type}
    (κ : BitVec 32 → Prog (TpuEff nD τ sig (Elt F) (Λ₀ F) .tc) α) (Q : α → sProp 𝕄) :
    iprop(WalkRes c arg13 arg14 arg8 P C ∗ (∀ x, WalkRes c arg13 arg14 arg8 P C
        -∗ wp Idealize.ShloMosaic.frame (wpE (defs₀ (F := F)) Variants.nat (c : Thread nD τ) none) Set.univ (κ x) Q))
      ⊢ wp Idealize.ShloMosaic.frame (wpE (defs₀ (F := F)) Variants.nat (c : Thread nD τ) none) Set.univ
          (.op (.call (3 : (Λ₀ F).Label) ⟨i, arg13, harg13, arg14, harg14, v2, arg8, harg8, key⟩) κ) Q := by
  iintro ⟨H, Hκ⟩
  iapply (wp_call Variants.nat (c : Thread nD τ) none Set.univ (512 : ℕ) (fun u hu => nomatch hu))
  rw [defs₀_row3]
  iapply (wp_wand_r Idealize.ShloMosaic.frame (wpE (defs₀ (F := F)) Variants.nat (c : Thread nD τ) (some 512)) Set.univ)
  isplitl [H]
  · iapply (while2_spec c i arg13 harg13 arg14 harg14 v2 arg8 harg8 P C hC 512 0 key hk (by omega))
    iexact H
  · iexact Hκ

/-- The link the second walk starts from: the chain's first word, or the end when there is nothing to scatter. -/
theorem first_key2 (C : BufTy.Contents (Elt F) arg8.view.ty) (hC : ChainOK arg8 C) (b : BitVec 1) :
    KeyOK 0 (Scalar.select b (View.readAt (Elt F) arg8.view (Rect.unit (s := S1x1x2x4x128) ![0, 0, 1, 0, 0] S1x1x1x1x1.size
      inb_S1x1x2x4x128_S1x1x1x1x1_0_0_1_0_0).toLoadRect C (Shape.Idx.first (s := S1x1x1x1x1) (by decide))) 1073741824#32) := by
  unfold Scalar.select
  split
  · exact hC 1 0 (by omega)
  · exact .inl rfl

end Cert.Proof.Kernel
-- ==== Proof.Kernel.Groups.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import Idealize.ShloMosaic.Adequacy
public import Idealize.ShloMosaic.Init
public import proofs.«01_k».proof.Proof.Kernel.While

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)

/-- Every word of the row-offset array is a row offset. -/
def RecsOK (R : BufTy.Contents (Elt F) arg7.view.ty) : Prop :=
  ∀ (off : Fin 5 → ℕ) (hin : ∀ a, off a + S1x1x1x1x1.size a ≤ S1x1x2x4x128.size a),
    RecOK (View.readAt (Elt F) arg7.view (Rect.unit (s := S1x1x2x4x128) off S1x1x1x1x1.size hin).toLoadRect R
      (Shape.Idx.first (s := S1x1x1x1x1) (by decide)))

theorem rec_inb {v : BitVec 32} (h : RecOK v) : ∀ a : Fin 2,
    (![(Scalar.indexCast v).toNat, 0] : Fin 2 → ℕ) a + S7x128.size a ≤ S64528x128.size a :=
  rows_inb (n := 64528) (by have : v.toNat ≤ 64512 := h; exact (by omega : v.toNat + 7 ≤ 64528))

set_option warn.classDefReducibility false in
/-- The first loop over the groups of first occurrences: every trip reads row offsets and point rows and rewrites
sixteen windows of the table. -/
@[sl_loop] def loopInv_k1_t2 (k1_h2 : k1_cond2 i = 1#1) (R : BufTy.Contents (Elt F) arg7.view.ty) (P : BufTy.Contents (Elt F) arg14.view.ty)
    (hR : RecsOK arg7 R) :
    LoopInvTy_k1_t2 (F := F) Unit ℕ (UR sig nD τ) ℕ Variants.nat c none Set.univ i arg2 harg2 arg3 harg3 arg4 harg4 arg5 harg5 arg6 harg6 arg7 harg7 arg8 harg8 arg9 harg9 arg10 harg10 arg11 harg11 arg12 harg12 arg13 harg13 arg14 harg14 k1_h2 where
  inv := fun _ _ => iprop((∃ T, arg13.view.loc (c : Thread nD τ) ↦[arg13.view.set]{fullShare} T)
    ∗ (arg14.view.loc (c : Thread nD τ) ↦[arg14.view.set]{fullShare} P)
    ∗ (arg7.view.loc (c : Thread nD τ) ↦[arg7.view.set]{fullShare} R))
  step := fun k acc => by
    have hk : k.val < 32 := Nat.lt_of_lt_of_le k.isLt k1_t2_abs.2.1
    unfold k1_t2_body
    iintro ⟨⟨%T, H1⟩, H2, H3⟩
    sl_exec (disch := first | exact ⟨fun _ => rec_inb (hR _ _), fun _ => rec_inb (hR _ _)⟩ | exact fun _ => rec_inb (hR _ _))
    sl_step
    isplitl [H1]
    · iexists _; iexact H1
    isplitl [H2]; · iexact H2
    iexact H3

set_option warn.classDefReducibility false in
/-- The second loop over the groups of first occurrences: every trip reads row offsets and point rows and rewrites
sixteen windows of the table. -/
@[sl_loop] def loopInv_k1_t3 (k1_h3 : k1_cond3 i = 1#1) (R : BufTy.Contents (Elt F) arg7.view.ty) (P : BufTy.Contents (Elt F) arg14.view.ty)
    (hR : RecsOK arg7 R) :
    LoopInvTy_k1_t3 (F := F) Unit ℕ (UR sig nD τ) ℕ Variants.nat c none Set.univ i arg2 harg2 arg3 harg3 arg4 harg4 arg5 harg5 arg6 harg6 arg7 harg7 arg8 harg8 arg9 harg9 arg10 harg10 arg11 harg11 arg12 harg12 arg13 harg13 arg14 harg14 k1_h3 where
  inv := fun _ _ => iprop((∃ T, arg13.view.loc (c : Thread nD τ) ↦[arg13.view.set]{fullShare} T)
    ∗ (arg14.view.loc (c : Thread nD τ) ↦[arg14.view.set]{fullShare} P)
    ∗ (arg7.view.loc (c : Thread nD τ) ↦[arg7.view.set]{fullShare} R))
  step := fun k acc => by
    have hk : k.val < 32 := Nat.lt_of_lt_of_le k.isLt k1_t3_abs.2.1
    unfold k1_t3_body
    iintro ⟨⟨%T, H1⟩, H2, H3⟩
    sl_exec (disch := first | exact ⟨fun _ => rec_inb (hR _ _), fun _ => rec_inb (hR _ _)⟩ | exact fun _ => rec_inb (hR _ _))
    sl_step
    isplitl [H1]
    · iexists _; iexact H1
    isplitl [H2]; · iexact H2
    iexact H3

end Cert.Proof.Kernel
-- ==== Proof.Kernel.Block.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import Idealize.ShloMosaic.Adequacy
public import Idealize.ShloMosaic.Init
public import proofs.«01_k».proof.Proof.Kernel.Groups
public import Idealize.ShloMosaic.Lib.Writes
public import Idealize.ShloMosaic.Lib.ValueLayout

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

/-! # One block of point features

A step of the kernel computes 1024 points in four segments of 256. Each segment is a product with the weights, its
channels along the rows; it is transposed in chunks of 128 channels and stored as three pieces. This module says what
the twelve pieces of a block leave: at point `r` and channel `o`, the value of segment `r / 256` at row `o` and column
`r % 256`, rounded. -/

variable (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (h4 : k1_cond4 i = 1#1)

theorem seg_inb (r : Fin 4) : ∀ a, (![0, 256 * r.val, 0] : Fin 3 → ℕ) a + S1x256x2048.size a ≤ S1x1024x2048.size a := by
  have := r.isLt
  intro a
  fin_cases a <;> simp [S1x256x2048, S1x1024x2048] <;> omega

theorem pieceN_inb (r : Fin 4) (j : Fin 2) :
    ∀ a, (![0, 256 * r.val, 128 * j.val] : Fin 3 → ℕ) a + S1x256x128.size a ≤ S1x1024x320.size a := by
  have := r.isLt
  have := j.isLt
  intro a
  fin_cases a <;> simp [S1x256x128, S1x1024x320] <;> omega

theorem pieceT_inb (r : Fin 4) :
    ∀ a, (![0, 256 * r.val, 256] : Fin 3 → ℕ) a + S1x256x64.size a ≤ S1x1024x320.size a := by
  have := r.isLt
  intro a
  fin_cases a <;> simp [S1x256x64, S1x1024x320] <;> omega

theorem slice_ok (j : Fin 2) : S384x256.Slices ![128 * j.val, 0] S128x256 := by
  revert j; decide

/-- Segment `r` of the step: the channels along the rows, the 256 points along the columns. -/
abbrev seg (r : Fin 4) : FVec F S384x256 .f32 :=
  k1_pay71 (View.readAt (Elt F) arg2.view (Rect.unit (s := S1x1024x2048) ![0, 256 * r.val, 0] S1x256x2048.size (seg_inb r)).toLoadRect X2)
    (View.readAt (Elt F) arg3.view (Rect.unit (s := S320x2048) ![0, 0] S320x2048.size inb_S320x2048_S320x2048_0_0).toLoadRect X3)
    (View.readAt (Elt F) arg4.view (Rect.unit (s := S3x32768) (k1_off80 i (BitVec.ofNat 32 (256 * r.val))) S1x256.size (k1_off80_inb i h4 r)).toLoadRect X4)
    (View.readAt (Elt F) arg5.view (Rect.unit (s := S320x128) ![0, 0] S320x128.size inb_S320x128_S320x128_0_0).toLoadRect X5)
    (View.readAt (Elt F) arg6.view (Rect.unit (s := S320x128) ![0, 0] S320x128.size inb_S320x128_S320x128_0_0).toLoadRect X6)

/-- Channels `128 j ..` of a segment, as stored. -/
abbrev pieceN (v : FVec F S384x256 .f32) (r : Fin 4) (j : Fin 2) : View.Piece (Elt F) S1x1024x320 .bf16 :=
  ⟨Rect.unit (s := S1x1024x320) ![0, 256 * r.val, 128 * j.val] S1x256x128.size (pieceN_inb r j),
    shapeCast S1x256x128 (truncf .bf16 (transpose S256x128 [1, 0] (extractStridedSlice S128x256 ![128 * j.val, 0] v (slice_ok j))
      transposes_S128x256_p1_0_S256x128) bitsLt_bf16_f32) shapeCasts_S256x128_S1x256x128⟩

/-- The last 64 channels of a segment, as stored. -/
abbrev pieceT (v : FVec F S384x256 .f32) (r : Fin 4) : View.Piece (Elt F) S1x1024x320 .bf16 :=
  ⟨Rect.unit (s := S1x1024x320) ![0, 256 * r.val, 256] S1x256x64.size (pieceT_inb r),
    shapeCast S1x256x64 (truncf .bf16 (extractStridedSlice S256x64 ![0, 0] (transpose S256x128 [1, 0] (extractStridedSlice S128x256 ![256, 0] v
      slices_S384x256_o256_0_S128x256)
      transposes_S128x256_p1_0_S256x128) slices_S256x128_o0_0_S256x64) bitsLt_bf16_f32) shapeCasts_S256x64_S1x256x64⟩

/-- The twelve pieces, for any four segments. -/
abbrev pieces (v : Fin 4 → FVec F S384x256 .f32) : List (View.Piece (Elt F) S1x1024x320 .bf16) :=
  [pieceT (v 3) 3, pieceN (v 3) 3 1, pieceN (v 3) 3 0, pieceT (v 2) 2, pieceN (v 2) 2 1, pieceN (v 2) 2 0,
    pieceT (v 1) 1, pieceN (v 1) 1 1, pieceN (v 1) 1 0, pieceT (v 0) 0, pieceN (v 0) 0 1, pieceN (v 0) 0 0]

/-- The block the pieces leave. -/
def blockOf (v : Fin 4 → FVec F S384x256 .f32) : S1x1024x320.Idx → F .bf16 := fun y =>
  truncf .bf16 (v ⟨(y 1).val / 256, by have := (y 1).isLt; simp [S1x1024x320] at this; omega⟩) bitsLt_bf16_f32
    (ix2 ⟨(y 2).val, by have := (y 2).isLt; simp [S1x1024x320] at this; omega⟩ ⟨(y 1).val % 256, by omega⟩)

theorem truncf_at {s t : Shape} (u : FVec F s .f32) (v : FVec F t .f32) (a : s.Idx) (b : t.Idx) (h : u a = v b) :
    truncf .bf16 u bitsLt_bf16_f32 a = truncf .bf16 v bitsLt_bf16_f32 b := by
  show FloatOps.truncf _ _ _ = FloatOps.truncf _ _ _
  rw [h]

/-- Rows are points, columns channels: the transposed chunk read at `(point, channel)`. -/
theorem chunk_at (v : FVec F S384x256 .f32) (o : ℕ) (h : S384x256.Slices ![o, 0] S128x256) (a : Fin 256) (b : Fin 128) (hb : o + b.val < 384) :
    transpose S256x128 [1, 0] (extractStridedSlice S128x256 ![o, 0] v h) transposes_S128x256_p1_0_S256x128 (ix2 a b)
      = v (ix2 ⟨o + b.val, hb⟩ a) := by
  rw [transpose_ix2_apply]
  refine extractStridedSlice_apply _ _ _ _ _ fun d => ?_
  match d with
  | ⟨0, _⟩ => rfl
  | ⟨1, _⟩ => exact (Nat.zero_add _).symm

theorem block_at (v : Fin 4 → FVec F S384x256 .f32) (r : Fin 4) (y : S1x1024x320.Idx) (a : Fin 256) (o : Fin 384)
    (h1 : (y 1).val = 256 * r.val + a.val) (h2 : (y 2).val = o.val) :
    blockOf v y = truncf .bf16 (v r) bitsLt_bf16_f32 (ix2 o a) := by
  have ha := a.isLt
  have hr : (⟨(y 1).val / 256, by have := (y 1).isLt; simp [S1x1024x320] at this; omega⟩ : Fin 4) = r :=
    Fin.ext (by show (y 1).val / 256 = _; omega)
  have e1 : (⟨(y 2).val, by have := (y 2).isLt; simp [S1x1024x320] at this; omega⟩ : Fin 384) = o := Fin.ext h2
  have e2 : (⟨(y 1).val % 256, by omega⟩ : Fin 256) = a := Fin.ext (by show (y 1).val % 256 = _; omega)
  unfold blockOf
  rw [hr, e1, e2]

theorem pieceN_eq (v : Fin 4 → FVec F S384x256 .f32) (r : Fin 4) (j : Fin 2) (x : S1x256x128.Idx) :
    (pieceN (v r) r j).2 x = blockOf v ((pieceN (v r) r j).1.emb x) := by
  have hj := j.isLt
  have hb : (x 2).val < 128 := (x 2).isLt
  rw [block_at v r _ (x 1) ⟨128 * j.val + (x 2).val, by omega⟩
    (by show 256 * r.val + 1 * (x 1).val = 256 * r.val + (x 1).val; omega) (by show 128 * j.val + 1 * (x 2).val = _; simp)]
  show shapeCast S1x256x128 (truncf .bf16 (transpose S256x128 [1, 0] (extractStridedSlice S128x256 ![128 * j.val, 0] (v r) (slice_ok j))
      transposes_S128x256_p1_0_S256x128) bitsLt_bf16_f32) shapeCasts_S256x128_S1x256x128 x = _
  have hx : x = ix3 (0 : Fin 1) (x 1) (x 2) := by
    funext d
    match d with
    | ⟨0, _⟩ => exact Subsingleton.elim (α := Fin 1) _ _
    | ⟨1, _⟩ => rfl
    | ⟨2, _⟩ => rfl
  refine (congrArg _ hx).trans ((shapeCast_ab_1ab_apply _ _ _ _ _).trans ?_)
  exact truncf_at _ _ _ _ (chunk_at (v r) (128 * j.val) (slice_ok j) (x 1) (x 2) (by omega))

theorem pieceT_eq (v : Fin 4 → FVec F S384x256 .f32) (r : Fin 4) (x : S1x256x64.Idx) :
    (pieceT (v r) r).2 x = blockOf v ((pieceT (v r) r).1.emb x) := by
  have hb : (x 2).val < 64 := (x 2).isLt
  rw [block_at v r _ (x 1) ⟨256 + (x 2).val, by omega⟩
    (by show 256 * r.val + 1 * (x 1).val = 256 * r.val + (x 1).val; omega) (by show 256 + 1 * (x 2).val = _; simp)]
  show shapeCast S1x256x64 (truncf .bf16 (extractStridedSlice S256x64 ![0, 0] (transpose S256x128 [1, 0] (extractStridedSlice S128x256 ![256, 0] (v r)
      slices_S384x256_o256_0_S128x256)
      transposes_S128x256_p1_0_S256x128) slices_S256x128_o0_0_S256x64) bitsLt_bf16_f32) shapeCasts_S256x64_S1x256x64 x = _
  have hx : x = ix3 (0 : Fin 1) (x 1) (x 2) := by
    funext d
    match d with
    | ⟨0, _⟩ => exact Subsingleton.elim (α := Fin 1) _ _
    | ⟨1, _⟩ => rfl
    | ⟨2, _⟩ => rfl
  refine (congrArg _ hx).trans ((shapeCast_ab_1ab_apply _ _ _ _ _).trans ?_)
  refine truncf_at _ _ _ _ ?_
  refine (extractStridedSlice_apply _ _ _ _ (ix2 (x 1) ⟨(x 2).val, by omega⟩) fun d => ?_).trans
    (chunk_at (v r) 256 slices_S384x256_o256_0_S128x256 (x 1) ⟨(x 2).val, by omega⟩ (by show 256 + (x 2).val < 384; omega))
  match d with
  | ⟨0, _⟩ => exact (Nat.zero_add _).symm
  | ⟨1, _⟩ => exact (Nat.zero_add _).symm

theorem mem_pieceN (v : FVec F S384x256 .f32) (r : Fin 4) (j : Fin 2) (y : S1x1024x320.Idx)
    (h1 : (y 1).val / 256 = r.val) (h2 : (y 2).val / 128 = j.val) : y ∈ (pieceN v r j).1.set := by
  have h0 : (y 0).val < 1 := (y 0).isLt
  refine (Rect.mem_set_unit (inb := pieceN_inb r j)).2 fun d => ?_
  match d with
  | ⟨0, _⟩ => exact ⟨Nat.zero_le _, by show (y 0).val < 0 + 1; omega⟩
  | ⟨1, _⟩ => exact ⟨by show 256 * r.val ≤ (y 1).val; omega, by show (y 1).val < 256 * r.val + 256; omega⟩
  | ⟨2, _⟩ => exact ⟨by show 128 * j.val ≤ (y 2).val; omega, by show (y 2).val < 128 * j.val + 128; omega⟩

theorem mem_pieceT (v : FVec F S384x256 .f32) (r : Fin 4) (y : S1x1024x320.Idx)
    (h1 : (y 1).val / 256 = r.val) (h2 : 256 ≤ (y 2).val) : y ∈ (pieceT v r).1.set := by
  have h0 : (y 0).val < 1 := (y 0).isLt
  have h3 : (y 2).val < 320 := (y 2).isLt
  refine (Rect.mem_set_unit (inb := pieceT_inb r)).2 fun d => ?_
  match d with
  | ⟨0, _⟩ => exact ⟨Nat.zero_le _, by show (y 0).val < 0 + 1; omega⟩
  | ⟨1, _⟩ => exact ⟨by show 256 * r.val ≤ (y 1).val; omega, by show (y 1).val < 256 * r.val + 256; omega⟩
  | ⟨2, _⟩ => exact ⟨by show 256 ≤ (y 2).val; omega, by show (y 2).val < 256 + 64; omega⟩

theorem pieces_cover (v : Fin 4 → FVec F S384x256 .f32) (y : S1x1024x320.Idx) : ∃ p ∈ pieces v, y ∈ p.1.set := by
  have hy : (y 1).val < 1024 := (y 1).isLt
  obtain ⟨r, hr⟩ : ∃ r : Fin 4, (y 1).val / 256 = r.val := ⟨⟨(y 1).val / 256, by omega⟩, rfl⟩
  by_cases h2 : (y 2).val < 256
  · obtain ⟨j, hj⟩ : ∃ j : Fin 2, (y 2).val / 128 = j.val := ⟨⟨(y 2).val / 128, by omega⟩, rfl⟩
    refine ⟨pieceN (v r) r j, ?_, mem_pieceN (v r) r j y hr hj⟩
    fin_cases r <;> fin_cases j <;> simp [pieces]
  · refine ⟨pieceT (v r) r, ?_, mem_pieceT (v r) r y hr (by omega)⟩
    fin_cases r <;> simp [pieces]

/-- What the twelve stores leave of whatever the block held. -/
theorem read_pieces (v : Fin 4 → FVec F S384x256 .f32) (f : BufTy.Contents (Elt F) arg12.view.ty) :
    arg12.view.read (Elt F) (arg12.view.writes (Elt F) f (pieces v)) = blockOf v := by
  funext y
  refine View.read_writes_apply_of_pieces _ f (blockOf v) _ ?_ y (pieces_cover v y)
  simp only [pieces, List.forall_mem_cons, List.forall_mem_nil, and_true]
  exact ⟨pieceT_eq v 3, pieceN_eq v 3 1, pieceN_eq v 3 0, pieceT_eq v 2, pieceN_eq v 2 1, pieceN_eq v 2 0,
    pieceT_eq v 1, pieceN_eq v 1 1, pieceN_eq v 1 0, pieceT_eq v 0, pieceN_eq v 0 1, pieceN_eq v 0 0, fun _ h => absurd h List.not_mem_nil⟩

end Cert.Proof.Kernel
-- ==== Proof.Kernel.Body.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import Idealize.ShloMosaic.Adequacy
public import Idealize.ShloMosaic.Init
public import proofs.«01_k».proof.Proof.Kernel.Groups
public import proofs.«01_k».proof.Proof.Kernel.Block

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)

/-- Buffer `m` held whole at contents `X`. -/
abbrev pt {sp : Space} {s : Shape} {e : EltTy} (c : Dev nD) (m : Memref sig .tc sp s e) (X : BufTy.Contents (Elt F) m.view.ty) : sProp 𝕄 :=
  m.view.loc (c : Thread nD τ) ↦[m.view.set]{fullShare} X

/-- The first step of a scene: table and lanes are cleared, the block is computed, no walk yet. -/
theorem body_first (X2 X3 X4 X5 X6 R C f12) (hR : RecsOK arg7 R) (hC : ChainOK arg8 C) (h1 : k1_cond1 i = 1#1) (h2 : ¬ k1_cond2 i = 1#1) (h3 : ¬ k1_cond3 i = 1#1) (h4 : k1_cond4 i = 1#1) (h5 : ¬ k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜arg12.view.read (Elt F) f = blockOf (seg i arg2 arg3 arg4 arg5 arg6 X2 X3 X4 X5 X6 h4)⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists _
    isplitr
    swap
    · iexact H12
    · ipureintro
      sl_unfold_run_names
      exact read_pieces arg12 (seg i arg2 arg3 arg4 arg5 arg6 X2 X3 X4 X5 X6 h4) _
  isplitl [H13]; · iexists _; iexact H13
  iexists _; iexact H14

/-- A step that walks the previous block's points and computes its own. -/
theorem body_middle (X2 X3 X4 X5 X6 R C f12) (hR : RecsOK arg7 R) (hC : ChainOK arg8 C) (h1 : ¬ k1_cond1 i = 1#1) (h2 : k1_cond2 i = 1#1) (h3 : k1_cond3 i = 1#1) (h4 : k1_cond4 i = 1#1) (h5 : ¬ k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜arg12.view.read (Elt F) f = blockOf (seg i arg2 arg3 arg4 arg5 arg6 X2 X3 X4 X5 X6 h4)⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists _
    isplitr
    swap
    · iexact H12
    · ipureintro
      sl_unfold_run_names
      exact read_pieces arg12 (seg i arg2 arg3 arg4 arg5 arg6 X2 X3 X4 X5 X6 h4) _
  isplitl [H13]; · iexists _; iexact H13
  iexists _; iexact H14

/-- The step after the last block: it only walks. -/
theorem body_walk (X2 X3 X4 X5 X6 R C f12) (hR : RecsOK arg7 R) (hC : ChainOK arg8 C) (h1 : ¬ k1_cond1 i = 1#1) (h2 : k1_cond2 i = 1#1) (h3 : k1_cond3 i = 1#1) (h4 : ¬ k1_cond4 i = 1#1) (h5 : ¬ k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜f = f12⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists f12
    isplitr
    · ipureintro
      rfl
    · iexact H12
  isplitl [H13]; · iexists _; iexact H13
  iexists _; iexact H14

/-- A step that writes a block of the table out. -/
theorem body_out (X2 X3 X4 X5 X6 R C f12) (hR : RecsOK arg7 R) (hC : ChainOK arg8 C) (h1 : ¬ k1_cond1 i = 1#1) (h2 : ¬ k1_cond2 i = 1#1) (h3 : ¬ k1_cond3 i = 1#1) (h4 : ¬ k1_cond4 i = 1#1) (h5 : k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜f = f12⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists f12
    isplitr
    · ipureintro
      rfl
    · iexact H12
  isplitl [H13]; · iexists _; iexact H13
  iexists _; iexact H14

end Cert.Proof.Kernel
-- ==== Proof.Kernel.Region0.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import Idealize.ShloMosaic.Adequacy
public import Idealize.ShloMosaic.Init
public import proofs.«01_k».proof.Proof.Kernel.Index
public import proofs.«01_k».proof.Proof.Kernel.Body
public import Idealize.ShloMosaic.Lib.Pipeline.ValueKit

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The index kernel's region -/

/-- The lane numbers the kernel makes. -/
abbrev lanes : IVec S3x128 32 := iota .tc S3x128 32 [1] iota_S3x128_d1_w32

section Run
variable (c : Dev nD) (arg0 : Memref sig .tc .vmem S3x32768 .i32) (harg0 : arg0.IsWhole)
  (arg1 : Memref sig .tc .vmem S3x64x4x128 .i32) (harg1 : arg1.IsWhole) (arg2 : Memref sig .tc .vmem S3x64x4x128 .i32) (harg2 : arg2.IsWhole)
  (X : BufTy.Contents (Elt F) arg0.view.ty)

/-- Everything the loop writes, last first. -/
abbrev indexPieces := pb_k0_t1 (F := F) Variants.nat c none arg0 harg0 arg1 harg1 arg2 harg2 lanes X k0_t1_loop.trips

theorem index_cover (y : S3x64x4x128.Idx) :
    (∃ p ∈ (indexPieces c arg0 harg0 arg1 harg1 arg2 harg2 X).1, y ∈ p.1.set) ∧ (∃ p ∈ (indexPieces c arg0 harg0 arg1 harg1 arg2 harg2 X).2, y ∈ p.1.set) :=
  loop_cover arg0 X Variants.nat c none harg0 arg1 harg1 arg2 harg2 k0_t1_loop.trips le_rfl y (by
    have h : (y 1).val < 64 := (y 1).isLt
    have e : k0_t1_loop.trips = 64 := by decide
    omega)

/-- Every row offset the loop leaves is within the table. -/
theorem index_recs (y : S3x64x4x128.Idx) : RecOK (View.canon (indexPieces c arg0 harg0 arg1 harg1 arg2 harg2 X).1 y) :=
  canon_good (fun _ v => RecOK v) _ (loop_good arg0 lane_iota X Variants.nat c none harg0 arg1 harg1 arg2 harg2 _ le_rfl).1 y
    (index_cover c arg0 harg0 arg1 harg1 arg2 harg2 X y).1

/-- Every link the loop leaves points forward. -/
theorem index_keys (y : S3x64x4x128.Idx) :
    KeyOK (128 * (y 2).val + (y 3).val) (View.canon (indexPieces c arg0 harg0 arg1 harg1 arg2 harg2 X).2 y) :=
  canon_good (fun y v => KeyOK (128 * (y 2).val + (y 3).val) v) _
    (loop_good arg0 lane_iota X Variants.nat c none harg0 arg1 harg1 arg2 harg2 _ le_rfl).2 y (index_cover c arg0 harg0 arg1 harg1 arg2 harg2 X y).2

/-- The body runs, leaving the two outputs at the canonical contents. -/
theorem index_run :
    (iprop(pt c arg0 X ∗ (∃ f, pt c arg1 f) ∗ (∃ f, pt c arg2 f)) : sProp 𝕄)
    ⊢ wp Idealize.ShloMosaic.frame (wpE (defs₀ (F := F)) Variants.nat (c : Thread nD τ) none) Set.univ (cc0_voxel_index arg0 harg0 arg1 harg1 arg2 harg2) (fun _ =>
      (iprop(pt c arg0 X
        ∗ (∃ f, ⌜arg1.view.read (Elt F) f = View.canon (indexPieces c arg0 harg0 arg1 harg1 arg2 harg2 X).1⌝ ∗ pt c arg1 f)
        ∗ (∃ f, ⌜arg2.view.read (Elt F) f = View.canon (indexPieces c arg0 harg0 arg1 harg1 arg2 harg2 X).2⌝ ∗ pt c arg2 f)) : sProp 𝕄)) := by
  rw [cc0_voxel_index_eq_skeleton]
  unfold cc0_voxel_index_skel
  iintro ⟨H0, ⟨%f1, H1⟩, ⟨%f2, H2⟩⟩
  sl_exec
  sl_step
  isplitl [H0]; · iexact H0
  isplitl [H1]
  · iexists _
    isplitr
    swap
    · iexact H1
    · ipureintro
      exact View.read_writes_eq_canon arg1.view _ _ fun y => (index_cover c arg0 harg0 arg1 harg1 arg2 harg2 X y).1
  iexists _
  isplitr
  swap
  · iexact H2
  · ipureintro
    exact View.read_writes_eq_canon arg2.view _ _ fun y => (index_cover c arg0 harg0 arg1 harg1 arg2 harg2 X y).2

end Run

/-! ## The proof data -/

/-- The valuation of the core's buffers a region starts from. -/
abbrev Vals (F : FTy → Type) : Type := (c : Dev nD) → (b : Ref sig .tc) → Buf (Elt F) ((c : Thread nD τ).loc b)

variable (V : Vals F)

/-- The ids as staged. -/
abbrev stg0 (c : Dev nD) : ((cfg0 (F := F)).win 0).block.Idx → Elt F ((cfg0 (F := F)).win 0).elt :=
  (((cfg0 (F := F)).win 0).blk t0_0).view.read (Elt F) (V c (Pipeline.arrRef spec0 0))

/-- What the loop writes, over the staging buffers. -/
abbrev pieces0 (c : Dev nD) := indexPieces (F := F) c (stage0_0 0) (hstage0_0 0) (stage0_1 0) (hstage0_1 0) (stage0_2 0) (hstage0_2 0) (stg0 V c)

/-- The index kernel's proof data: the arrays at `V`; the two outputs left at their canonical contents. -/
def dat0 (c : Dev nD) : Dat τ (Elt F) Unit ℕ (UR sig nD τ) ℕ (cfg0 (F := F)) c where
  A w := V c (Pipeline.arrRef spec0 w)
  after w _ := match w with
    | ⟨0, _⟩ => stg0 V c
    | ⟨1, _⟩ => View.canon (pieces0 V c).1
    | ⟨2, _⟩ => View.canon (pieces0 V c).2
  Φ _ := Pipeline.scopedRest spec0 c
  q _ := fullShare
  owed _ := 0

theorem before0_in (c : Dev nD) (d : ((cfg0 (F := F)).win 0).block.Idx → Elt F ((cfg0 (F := F)).win 0).elt) : (dat0 V c).before 0 t0_0 d = stg0 V c := by
  unfold Dat.before; exact if_pos ((Pipeline.Window.fetch_const win0_0 rfl (fun _ _ => rfl) (n := 1) (by decide) t0_0).mpr rfl)

/-- The body obligation of the index kernel's region. -/
theorem body_obligation0 (c : Dev nD) : BodyObligation (dat0 V c) (defs₀ (F := F)) Variants.nat () Set.univ := fun t => by
  obtain rfl := fin_N0 t
  rw [bigSep_W0, bigSep_W0]
  rw [show (dat0 V c).Φ t0_0.castSucc = (Pipeline.scopedRest spec0 c : sProp 𝕄) from rfl, show (dat0 V c).Φ t0_0.succ = (Pipeline.scopedRest spec0 c : sProp 𝕄) from rfl,
    show (dat0 V c).owesAt () t0_0.succ = (dat0 V c).owesAt () t0_0.castSucc from rfl]
  show _ ⊢ wp Idealize.ShloMosaic.frame (wpE (defs₀ (F := F)) Variants.nat (c : Thread nD τ) none) Set.univ (bodyAt0 t0_0) (fun _ =>
    iprop(Pipeline.scopedRest spec0 c ∗ (dat0 V c).owesAt () t0_0.castSucc ∗ owns (c : Thread nD τ) (stage0_0 0) fullShare (stg0 V c)
      ∗ owns (c : Thread nD τ) (stage0_1 0) fullShare (View.canon (pieces0 V c).1) ∗ owns (c : Thread nD τ) (stage0_2 0) fullShare (View.canon (pieces0 V c).2)))
  unfold owns
  iintro ⟨HΦ, Howes, ⟨%d0, %f0, %hf0, H0⟩, ⟨%d1, %f1, -, H1⟩, ⟨%d2, %f2, -, H2⟩⟩
  have hf0' : f0 = stg0 V c := hf0.trans (before0_in V c d0)
  subst hf0'
  iapply (wp_wand_r Idealize.ShloMosaic.frame (wpE (defs₀ (F := F)) Variants.nat (c : Thread nD τ) none) Set.univ)
  isplitl [H0 H1 H2]
  · iapply (index_run (F := F) c (stage0_0 0) (hstage0_0 0) (stage0_1 0) (hstage0_1 0) (stage0_2 0) (hstage0_2 0) (stg0 V c))
    isplitl [H0]; · iexact H0
    isplitl [H1]; · iexists f1; iexact H1
    iexists f2; iexact H2
  iintro %_ ⟨H0, ⟨%g1, %hg1, H1⟩, ⟨%g2, %hg2, H2⟩⟩
  isplitl [HΦ]; · iexact HΦ
  isplitl [Howes]; · iexact Howes
  isplitl [H0]; · iexists _; isplitr; swap; (· iexact H0); ipureintro; rfl
  isplitl [H1]; · iexists g1; isplitr; swap; (· iexact H1); ipureintro; exact hg1
  iexists g2; isplitr; swap; (· iexact H2); ipureintro; exact hg2

/-! ## What the region leaves -/

/-- The row offsets' array. -/
theorem arr0_1 (c : Dev nD) : (dat0 V c).arrAt 1 (cfg0 (F := F)).N = View.canon (pieces0 V c).1 := by
  refine (dat0 V c).arrAt_eq_of_after_last 1 t0_0 (show win0_1.WholeAt (⟨0, by decide⟩ : Fin grid0.N) by decide +kernel) _ fun j => ?_
  blk_simp
  rfl

/-- The links' array. -/
theorem arr0_2 (c : Dev nD) : (dat0 V c).arrAt 2 (cfg0 (F := F)).N = View.canon (pieces0 V c).2 := by
  refine (dat0 V c).arrAt_eq_of_after_last 2 t0_0 (show win0_2.WholeAt (⟨0, by decide⟩ : Fin grid0.N) by decide +kernel) _ fun j => ?_
  blk_simp
  rfl

end Cert.Proof.Kernel
-- ==== Proof.Kernel.Region1.lean ====
module

public import proofs.«01_k».proof.Proof.Kernel.Region0
public import Idealize.ShloMosaic.Lib.Pipeline.TableIdle
public import Idealize.ShloMosaic.Lib.Pipeline.FrameBody

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

/-! # The main kernel's region -/

/-! ## The schedule -/

/-- A computing step is a scene's first, or walks as well. -/
theorem live_cases : ∀ i : grid1.Coords, k1_cond4 i = 1#1 →
    (k1_cond1 i = 1#1 ∧ ¬ k1_cond2 i = 1#1 ∧ ¬ k1_cond3 i = 1#1 ∧ ¬ k1_cond5 i = 1#1) ∨
    (¬ k1_cond1 i = 1#1 ∧ k1_cond2 i = 1#1 ∧ k1_cond3 i = 1#1 ∧ ¬ k1_cond5 i = 1#1) := by decide +kernel

/-- A step that computes no block walks the last one's points, or gives out results. -/
theorem idle_cases : ∀ i : grid1.Coords, ¬ k1_cond4 i = 1#1 →
    (¬ k1_cond1 i = 1#1 ∧ k1_cond2 i = 1#1 ∧ k1_cond3 i = 1#1 ∧ ¬ k1_cond5 i = 1#1) ∨
    (¬ k1_cond1 i = 1#1 ∧ ¬ k1_cond2 i = 1#1 ∧ ¬ k1_cond3 i = 1#1 ∧ k1_cond5 i = 1#1) := by decide +kernel

/-- The step that computes the block staged at `t`. -/
abbrev liveN (n : ℕ) : ℕ := 42 * (n / 42) + min (n % 42) 31

theorem liveN_lt {n : ℕ} (h : n < 126) : liveN n < 126 := by unfold liveN; omega

def live (t : Fin grid1.N) : Fin grid1.N := ⟨liveN t.val, lt_of_lt_of_eq (liveN_lt (lt_of_lt_of_eq t.isLt N_1)) N_1.symm⟩

theorem live_cond : ∀ t : Fin grid1.N, k1_cond4 (grid1.coords (live t)) = 1#1 := by decide +kernel
theorem live_self : ∀ t : Fin grid1.N, k1_cond4 (grid1.coords t) = 1#1 → live t = t := by decide +kernel
theorem idle_mod : ∀ t : Fin grid1.N, ¬ k1_cond4 (grid1.coords t) = 1#1 → 32 ≤ t.val % 42 := by decide +kernel
theorem live_pred (t : Fin grid1.N) (h : 32 ≤ t.val % 42) : live t = live ⟨t.val - 1, by have := t.isLt; omega⟩ :=
  Fin.ext (show liveN t.val = liveN (t.val - 1) by unfold liveN; omega)
theorem flush_tab : ∀ t : Fin grid1.N, decide ((t.val + 1) % 42 < 32) = (win1_10.flush t || (!(k1_cond4 (grid1.coords t) == 1#1) && decide (t.val % 42 < 32))) := by
  decide +kernel

/-! ## One step, over the buffers it is handed -/

/-- Segment `r` of a block, from the staged blocks. -/
abbrev segV (i : grid1.Coords) (h4 : k1_cond4 i = 1#1) (x : S1x1024x2048.Idx → Elt F .i8) (w : S320x2048.Idx → Elt F .fp8e4m3) (s : S3x32768.Idx → Elt F .f32)
    (ws b : S320x128.Idx → Elt F .f32) (r : Fin 4) : FVec F S384x256 .f32 :=
  k1_pay71 (fun j => x ((Rect.unit (s := S1x1024x2048) ![0, 256 * r.val, 0] S1x256x2048.size (seg_inb r)).toLoadRect.idx j))
    (fun j => w ((Rect.unit (s := S320x2048) ![0, 0] S320x2048.size inb_S320x2048_S320x2048_0_0).toLoadRect.idx j))
    (fun j => s ((Rect.unit (s := S3x32768) (k1_off80 i (BitVec.ofNat 32 (256 * r.val))) S1x256.size (k1_off80_inb i h4 r)).toLoadRect.idx j))
    (fun j => ws ((Rect.unit (s := S320x128) ![0, 0] S320x128.size inb_S320x128_S320x128_0_0).toLoadRect.idx j))
    (fun j => b ((Rect.unit (s := S320x128) ![0, 0] S320x128.size inb_S320x128_S320x128_0_0).toLoadRect.idx j))

section Step
variable (c : Dev nD) (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)

theorem recsOK_of (R) (X : S1x1x2x4x128.Idx → Elt F .i32) (hX : arg7.view.read (Elt F) R = X) (h : ∀ x, RecOK (X x)) : RecsOK arg7 R := fun _ _ => by
  subst hX
  exact h _

theorem chainOK_of (C) (X : S1x1x2x4x128.Idx → Elt F .i32) (hX : arg8.view.read (Elt F) C = X)
    (h : ∀ x : S1x1x2x4x128.Idx, KeyOK (128 * (x 3).val + (x 4).val) (X x)) : ChainOK arg8 C := fun u p hp => by
  subst hX
  have h' := h ((Rect.unit (s := S1x1x2x4x128) (chainOff u.val p) S1x1x1x1x1.size (chainOff_inb hp u)).toLoadRect.idx (Shape.Idx.first (s := S1x1x1x1x1) (by decide)))
  have e : 128 * (((Rect.unit (s := S1x1x2x4x128) (chainOff u.val p) S1x1x1x1x1.size (chainOff_inb hp u)).toLoadRect.idx (Shape.Idx.first (s := S1x1x1x1x1) (by decide))) 3).val
      + (((Rect.unit (s := S1x1x2x4x128) (chainOff u.val p) S1x1x1x1x1.size (chainOff_inb hp u)).toLoadRect.idx (Shape.Idx.first (s := S1x1x1x1x1) (by decide))) 4).val = p := by
    show 128 * (p / 128 + 1 * 0) + (p % 128 + 1 * 0) = p
    omega
  rw [e] at h'
  exact h'

/-- The segments' values from what the staged buffers read as. -/
theorem blockOf_seg (X2 X3 X4 X5 X6) (h4 : k1_cond4 i = 1#1) (x w s ws b) (e2 : arg2.view.read (Elt F) X2 = x) (e3 : arg3.view.read (Elt F) X3 = w)
    (e4 : arg4.view.read (Elt F) X4 = s) (e5 : arg5.view.read (Elt F) X5 = ws) (e6 : arg6.view.read (Elt F) X6 = b) :
    blockOf (seg i arg2 arg3 arg4 arg5 arg6 X2 X3 X4 X5 X6 h4) = blockOf (segV (F := F) i h4 x w s ws b) := by
  subst e2; subst e3; subst e4; subst e5; subst e6
  rfl

/-- A step that computes its block. -/
theorem body_live (X2 X3 X4 X5 X6 R C f12) (hR : RecsOK arg7 R) (hC : ChainOK arg8 C) (h4 : k1_cond4 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜arg12.view.read (Elt F) f = blockOf (seg i arg2 arg3 arg4 arg5 arg6 X2 X3 X4 X5 X6 h4)⌝ ∗ pt c arg12 f) ∗ (∃ f, pt c arg13 f) ∗ (∃ f, pt c arg14 f)) : sProp 𝕄)) := by
  rcases live_cases i h4 with ⟨h1, h2, h3, h5⟩ | ⟨h1, h2, h3, h5⟩
  · exact body_first c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5
  · exact body_middle c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5

/-- A step that computes none leaves the block as it was. -/
theorem body_idle (X2 X3 X4 X5 X6 R C f12) (hR : RecsOK arg7 R) (hC : ChainOK arg8 C) (h4 : ¬ k1_cond4 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜f = f12⌝ ∗ pt c arg12 f) ∗ (∃ f, pt c arg13 f) ∗ (∃ f, pt c arg14 f)) : sProp 𝕄)) := by
  rcases idle_cases i h4 with ⟨h1, h2, h3, h5⟩ | ⟨h1, h2, h3, h5⟩
  · exact body_walk c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5
  · exact body_out c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5

end Step

/-- The scratch buffers, as the region's invariant holds them. -/
theorem pt_table (c : Dev nD) (f : Buf (Elt F) ((c : Thread nD τ).loc cc1_scratch0)) :
    (pt c (Memref.whole cc1_scratch0) f : sProp 𝕄) = (((c : Thread nD τ).loc cc1_scratch0) ↦{fullShare} f) := by
  unfold pt
  rw [(Memref.isWhole_whole _).set_eq_univ]
theorem pt_lanes (c : Dev nD) (f : Buf (Elt F) ((c : Thread nD τ).loc cc1_scratch1)) :
    (pt c (Memref.whole cc1_scratch1) f : sProp 𝕄) = (((c : Thread nD τ).loc cc1_scratch1) ↦{fullShare} f) := by
  unfold pt
  rw [(Memref.isWhole_whole _).set_eq_univ]

/-! ## The proof data -/

variable (V : Vals F)

/-- Window `w`'s block at step `t`. -/
abbrev blk1 (c : Dev nD) (w : Fin (cfg1 (F := F)).W) (t : Fin (cfg1 (F := F)).N) := (((cfg1 (F := F)).win w).blk t).view.read (Elt F) (V c (Pipeline.arrRef spec1 w))

/-- The block computed at the live step `t`. -/
def pf1 (c : Dev nD) (t : Fin grid1.N) (h4 : k1_cond4 (grid1.coords t) = 1#1) : S1x1024x320.Idx → Elt F .bf16 :=
  blockOf (segV (grid1.coords t) h4 (blk1 V c 0 t) (blk1 V c 1 t) (blk1 V c 2 t) (blk1 V c 3 t) (blk1 V c 4 t))

/-- The main kernel's proof data: the arrays at `V`; the point features' block as computed; the three voxel results
    not named. -/
def dat1 (c : Dev nD) : Dat τ (Elt F) Unit ℕ (UR sig nD τ) ℕ (cfg1 (F := F)) c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => pf1 V c (live t) (live_cond t)
    | ⟨8, _⟩ => fun _ => (0#32 : Elt F .i32)
    | ⟨9, _⟩ => pf1 V c (live t) (live_cond t)
    | ⟨10, _⟩ => pf1 V c (live t) (live_cond t)
  Φ _ := Pipeline.scopedRest spec1 c
  q _ := fullShare
  owed _ := 0

theorem before1_0 (c : Dev nD) (t : Fin (cfg1 (F := F)).N) (d) : (dat1 V c).before 0 t d = blk1 V c 0 t :=
  (dat1 V c).before_in_eq_fetched 0 rfl (fun _ => rfl) (fun _ _ _ => rfl) (fun _ => rfl) t d

theorem before1_1 (c : Dev nD) (t : Fin (cfg1 (F := F)).N) (d) : (dat1 V c).before 1 t d = blk1 V c 1 t :=
  (dat1 V c).before_in_eq_fetched 1 rfl (fun _ => rfl) (fun _ _ _ => rfl) (fun _ => rfl) t d

theorem before1_2 (c : Dev nD) (t : Fin (cfg1 (F := F)).N) (d) : (dat1 V c).before 2 t d = blk1 V c 2 t :=
  (dat1 V c).before_in_eq_fetched 2 rfl (fun _ => rfl) (fun _ _ _ => rfl) (fun _ => rfl) t d

theorem before1_3 (c : Dev nD) (t : Fin (cfg1 (F := F)).N) (d) : (dat1 V c).before 3 t d = blk1 V c 3 t :=
  (dat1 V c).before_in_eq_fetched 3 rfl (fun _ => rfl) (fun _ _ _ => rfl) (fun _ => rfl) t d

theorem before1_4 (c : Dev nD) (t : Fin (cfg1 (F := F)).N) (d) : (dat1 V c).before 4 t d = blk1 V c 4 t :=
  (dat1 V c).before_in_eq_fetched 4 rfl (fun _ => rfl) (fun _ _ _ => rfl) (fun _ => rfl) t d

theorem before1_5 (c : Dev nD) (t : Fin (cfg1 (F := F)).N) (d) : (dat1 V c).before 5 t d = blk1 V c 5 t :=
  (dat1 V c).before_in_eq_fetched 5 rfl (fun _ => rfl) (fun _ _ _ => rfl) (fun _ => rfl) t d

theorem before1_6 (c : Dev nD) (t : Fin (cfg1 (F := F)).N) (d) : (dat1 V c).before 6 t d = blk1 V c 6 t :=
  (dat1 V c).before_in_eq_fetched 6 rfl (fun _ => rfl) (fun _ _ _ => rfl) (fun _ => rfl) t d

theorem fresh10 (n : ℕ) (hn : n ≤ 126) : (cfg1 (F := F)).fresh 10 n = decide (n % 42 < 32) :=
  Cfg.fresh_tab cfg1 10 (fun n => decide (n % 42 < 32)) rfl (fun t => flush_tab t) n hn

theorem before1_out (c : Dev nD) (t : Fin (cfg1 (F := F)).N) (h4 : ¬ k1_cond4 (grid1.coords t) = 1#1) (d) :
    (dat1 V c).before 10 t d = pf1 V c (live t) (live_cond t) := by
  have hm := idle_mod t h4
  have hlt : t.val < 126 := lt_of_lt_of_eq t.isLt N_1
  have e := (dat1 V c).before_out_traj 10 rfl (fun _ _ => rfl) (fun t _ _ hf => by
    have ht : t.val < 126 := lt_of_lt_of_eq t.isLt N_1
    rw [fresh10 t.val (by omega)] at hf
    have h := live_pred t (by have := of_decide_eq_false hf; omega)
    show pf1 V c (live t) (live_cond t) = pf1 V c (live _) (live_cond _)
    congr 1) t.val t rfl d
  rw [e, fresh10 t.val (by omega), if_neg (by simp; omega)]
  have h := live_pred t hm
  show pf1 V c (live _) (live_cond _) = pf1 V c (live t) (live_cond t)
  congr 1
  exact h.symm

/-! ## The body obligation -/

/-- The windows whose contents the proof does not name. -/
abbrev fgt1 : Fin 11 → Bool := fun w => w.val == 7 || w.val == 8 || w.val == 9

/-- What the step gives back of the point features' buffer. -/
abbrev back10 (c : Dev nD) (t : Fin (cfg1 (F := F)).N) : sProp 𝕄 :=
  match (cfg1 (F := F)).idle 10 ((cfg1 (F := F)).grid.coords t) with
  | true =>
    match ((cfg1 (F := F)).win 10).flush t with
    | false => iprop(∃ d, owns (c : Thread nD τ) (st1_10 (F := F) t) fullShare ((dat1 V c).before 10 t d))
    | true => owns (c : Thread nD τ) (st1_10 (F := F) t) fullShare ((dat1 V c).after 10 t)
  | false => owns (c : Thread nD τ) (st1_10 (F := F) t) fullShare ((dat1 V c).after 10 t)

theorem back10_live (c : Dev nD) (t : Fin (cfg1 (F := F)).N) (h4 : k1_cond4 (grid1.coords t) = 1#1) :
    back10 V c t = owns (c : Thread nD τ) (st1_10 (F := F) t) fullShare (pf1 V c t h4) := by
  have hi : (cfg1 (F := F)).idle 10 ((cfg1 (F := F)).grid.coords t) = false := show (!(k1_cond4 (grid1.coords t) == 1#1)) = false by rw [h4]; rfl
  have hl := live_self t h4
  have ha : (dat1 V c).after 10 t = pf1 V c t h4 := by
    show pf1 V c (live t) (live_cond t) = _
    congr 1
  unfold back10
  rewrite [hi]
  show owns (c : Thread nD τ) (st1_10 (F := F) t) fullShare ((dat1 V c).after 10 t) = _
  rw [ha]

theorem back10_idle (c : Dev nD) (t : Fin (cfg1 (F := F)).N) (h4 : ¬ k1_cond4 (grid1.coords t) = 1#1) (d) :
    owns (c : Thread nD τ) (st1_10 (F := F) t) fullShare ((dat1 V c).before 10 t d) ⊢ back10 V c t := by
  have hi : (cfg1 (F := F)).idle 10 ((cfg1 (F := F)).grid.coords t) = true := show (!(k1_cond4 (grid1.coords t) == 1#1)) = true by
    rw [Bool.not_eq_true', beq_eq_false_iff_ne]; exact h4
  unfold back10
  rewrite [hi]
  cases hf : ((cfg1 (F := F)).win 10).flush t
  · iintro H; iexists d; iexact H
  · rw [before1_out V c t h4 d]
    iintro H; iexact H

/-- The links point forward and the row offsets are in the table, in the arrays the region is given. -/
structure ScalarsOK (c : Dev nD) : Prop where
  off : ∀ y, RecOK (V c main_v1 y)
  key : ∀ y : S3x32x2x4x128.Idx, KeyOK (128 * (y 3).val + (y 4).val) (V c main_v2 y)

theorem blk_key (c : Dev nD) (hV : ScalarsOK V c) (t : Fin (cfg1 (F := F)).N) (x : S1x1x2x4x128.Idx) :
    KeyOK (128 * (x 3).val + (x 4).val) (blk1 V c 6 t x) := by
  have h := hV.key ((((cfg1 (F := F)).win 6).blk t).view.emb x)
  have e3 : ((((cfg1 (F := F)).win 6).blk t).view.emb x (3 : Fin 5)).val = (x 3).val := by
    blk_simp
    show 0 * _ + _ = _
    rw [Nat.zero_mul, Nat.zero_add]
  have e4 : ((((cfg1 (F := F)).win 6).blk t).view.emb x (4 : Fin 5)).val = (x 4).val := by
    blk_simp
    show 0 * _ + _ = _
    rw [Nat.zero_mul, Nat.zero_add]
  rw [e3, e4] at h
  exact h

set_option maxHeartbeats 1000000 in
/-- The body obligation of the main kernel's region. -/
theorem body_obligation1 (c : Dev nD) (hV : ScalarsOK V c) : BodyObligationLoose (dat1 V c) (defs₀ (F := F)) Variants.nat () Set.univ fgt1 := fun t => by
  rw [bigSep_W1, bigSep_W1]
  rw [show (dat1 V c).Φ t.castSucc = (Pipeline.scopedRest spec1 c : sProp 𝕄) from rfl, show (dat1 V c).Φ t.succ = (Pipeline.scopedRest spec1 c : sProp 𝕄) from rfl,
    show (dat1 V c).owesAt () t.succ = (dat1 V c).owesAt () t.castSucc from rfl, scopedRest1_eq]
  show iprop(_ ∗ (dat1 V c).owesAt () t.castSucc ∗ (∃ d, owns (c : Thread nD τ) (st1_0 (F := F) t) fullShare ((dat1 V c).before 0 t d)) ∗ (∃ d, owns (c : Thread nD τ) (st1_1 (F := F) t) fullShare ((dat1 V c).before 1 t d)) ∗ (∃ d, owns (c : Thread nD τ) (st1_2 (F := F) t) fullShare ((dat1 V c).before 2 t d)) ∗ (∃ d, owns (c : Thread nD τ) (st1_3 (F := F) t) fullShare ((dat1 V c).before 3 t d)) ∗ (∃ d, owns (c : Thread nD τ) (st1_4 (F := F) t) fullShare ((dat1 V c).before 4 t d)) ∗ (∃ d, owns (c : Thread nD τ) (st1_5 (F := F) t) fullShare ((dat1 V c).before 5 t d)) ∗ (∃ d, owns (c : Thread nD τ) (st1_6 (F := F) t) fullShare ((dat1 V c).before 6 t d)) ∗ (∃ X, owns (c : Thread nD τ) (st1_7 (F := F) t) fullShare X) ∗ (∃ X, owns (c : Thread nD τ) (st1_8 (F := F) t) fullShare X) ∗ (∃ X, owns (c : Thread nD τ) (st1_9 (F := F) t) fullShare X) ∗ (∃ d, owns (c : Thread nD τ) (st1_10 (F := F) t) fullShare ((dat1 V c).before 10 t d))) ⊢ wp Idealize.ShloMosaic.frame (wpE (defs₀ (F := F)) Variants.nat (c : Thread nD τ) none) Set.univ (bodyAt1 t) (fun _ =>
    iprop(_ ∗ (dat1 V c).owesAt () t.castSucc ∗ owns (c : Thread nD τ) (st1_0 (F := F) t) fullShare (blk1 V c 0 t) ∗ owns (c : Thread nD τ) (st1_1 (F := F) t) fullShare (blk1 V c 1 t) ∗ owns (c : Thread nD τ) (st1_2 (F := F) t) fullShare (blk1 V c 2 t) ∗ owns (c : Thread nD τ) (st1_3 (F := F) t) fullShare (blk1 V c 3 t) ∗ owns (c : Thread nD τ) (st1_4 (F := F) t) fullShare (blk1 V c 4 t) ∗ owns (c : Thread nD τ) (st1_5 (F := F) t) fullShare (blk1 V c 5 t) ∗ owns (c : Thread nD τ) (st1_6 (F := F) t) fullShare (blk1 V c 6 t) ∗ (∃ X, owns (c : Thread nD τ) (st1_7 (F := F) t) fullShare X) ∗ (∃ X, owns (c : Thread nD τ) (st1_8 (F := F) t) fullShare X) ∗ (∃ X, owns (c : Thread nD τ) (st1_9 (F := F) t) fullShare X) ∗ back10 V c t))
  by_cases h4 : k1_cond4 (grid1.coords t) = 1#1
  · rw [back10_live V c t h4]
    unfold owns
    iintro ⟨⟨Hs0, Hs1, Hs2, ⟨%T, HT⟩, ⟨%P, HP⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%X7, %f7, -, H7⟩, ⟨%X8, %f8, -, H8⟩, ⟨%X9, %f9, -, H9⟩, ⟨%d10, %f10, -, H10⟩⟩
    replace hf0 : (st1_0 (F := F) t).view.read (Elt F) f0 = blk1 V c 0 t := hf0.trans (before1_0 V c t d0)
    replace hf1 : (st1_1 (F := F) t).view.read (Elt F) f1 = blk1 V c 1 t := hf1.trans (before1_1 V c t d1)
    replace hf2 : (st1_2 (F := F) t).view.read (Elt F) f2 = blk1 V c 2 t := hf2.trans (before1_2 V c t d2)
    replace hf3 : (st1_3 (F := F) t).view.read (Elt F) f3 = blk1 V c 3 t := hf3.trans (before1_3 V c t d3)
    replace hf4 : (st1_4 (F := F) t).view.read (Elt F) f4 = blk1 V c 4 t := hf4.trans (before1_4 V c t d4)
    replace hf5 : (st1_5 (F := F) t).view.read (Elt F) f5 = blk1 V c 5 t := hf5.trans (before1_5 V c t d5)
    replace hf6 : (st1_6 (F := F) t).view.read (Elt F) f6 = blk1 V c 6 t := hf6.trans (before1_6 V c t d6)
    have hR : RecsOK (st1_5 (F := F) t) f5 := recsOK_of _ _ _ hf5 fun x => hV.off _
    have hC : ChainOK (st1_6 (F := F) t) f6 := chainOK_of _ _ _ hf6 (blk_key V c hV t)
    iapply (wp_wand_r Idealize.ShloMosaic.frame (wpE (defs₀ (F := F)) Variants.nat (c : Thread nD τ) none) Set.univ)
    isplitl [H0 H1 H2 H3 H4 H5 H6 H7 H8 H9 H10 HT HP]
    · iapply (body_live (F := F) c (grid1.coords t) (win1_0.stage ((cfg1 (F := F)).slots t 0)) (hstage1_0 (((cfg1 (F := F)).slots t 0).cast nbuf1_0)) (win1_1.stage ((cfg1 (F := F)).slots t 1)) (hstage1_1 (((cfg1 (F := F)).slots t 1).cast nbuf1_1)) (win1_2.stage ((cfg1 (F := F)).slots t 2)) (hstage1_2 (((cfg1 (F := F)).slots t 2).cast nbuf1_2)) (win1_3.stage ((cfg1 (F := F)).slots t 3)) (hstage1_3 (((cfg1 (F := F)).slots t 3).cast nbuf1_3)) (win1_4.stage ((cfg1 (F := F)).slots t 4)) (hstage1_4 (((cfg1 (F := F)).slots t 4).cast nbuf1_4)) (win1_5.stage ((cfg1 (F := F)).slots t 5)) (hstage1_5 (((cfg1 (F := F)).slots t 5).cast nbuf1_5)) (win1_6.stage ((cfg1 (F := F)).slots t 6)) (hstage1_6 (((cfg1 (F := F)).slots t 6).cast nbuf1_6)) (win1_7.stage ((cfg1 (F := F)).slots t 7)) (hstage1_7 (((cfg1 (F := F)).slots t 7).cast nbuf1_7)) (win1_8.stage ((cfg1 (F := F)).slots t 8)) (hstage1_8 (((cfg1 (F := F)).slots t 8).cast nbuf1_8)) (win1_9.stage ((cfg1 (F := F)).slots t 9)) (hstage1_9 (((cfg1 (F := F)).slots t 9).cast nbuf1_9)) (win1_10.stage ((cfg1 (F := F)).slots t 10)) (hstage1_10 (((cfg1 (F := F)).slots t 10).cast nbuf1_10)) (Memref.whole cc1_scratch0) (Memref.isWhole_whole _) (Memref.whole cc1_scratch1) (Memref.isWhole_whole _)
        _ _ _ _ _ f5 f6 _ hR hC h4)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HT]; · iexists T; rw [pt_table]; iexact HT
      iexists P; rw [pt_lanes]; iexact HP
    iintro %_ ⟨H0, H1, H2, H3, H4, H5, H6, ⟨%g7, H7⟩, ⟨%g8, H8⟩, ⟨%g9, H9⟩, ⟨%g10, %hg10, H10⟩, ⟨%gT, HT⟩, ⟨%gP, HP⟩⟩
    isplitl [Hs0 Hs1 Hs2 HT HP]
    · isplitl [Hs0]; · iexact Hs0
      isplitl [Hs1]; · iexact Hs1
      isplitl [Hs2]; · iexact Hs2
      isplitl [HT]; · iexists gT; rw [← pt_table]; iexact HT
      iexists gP; rw [← pt_lanes]; iexact HP
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexists f5; isplitr; swap; (· iexact H5); ipureintro; exact hf5
    isplitl [H6]; · iexists f6; isplitr; swap; (· iexact H6); ipureintro; exact hf6
    isplitl [H7]; · iexists _; iexists g7; isplitr; swap; (· iexact H7); ipureintro; rfl
    isplitl [H8]; · iexists _; iexists g8; isplitr; swap; (· iexact H8); ipureintro; rfl
    isplitl [H9]; · iexists _; iexists g9; isplitr; swap; (· iexact H9); ipureintro; rfl
    iexists g10; isplitr; swap; (· iexact H10); ipureintro
    exact hg10.trans (blockOf_seg _ _ _ _ _ _ _ _ _ _ _ h4 _ _ _ _ _ hf0 hf1 hf2 hf3 hf4)
  · unfold owns
    iintro ⟨⟨Hs0, Hs1, Hs2, ⟨%T, HT⟩, ⟨%P, HP⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%X7, %f7, -, H7⟩, ⟨%X8, %f8, -, H8⟩, ⟨%X9, %f9, -, H9⟩, ⟨%d10, %f10, %hf10, H10⟩⟩
    replace hf0 : (st1_0 (F := F) t).view.read (Elt F) f0 = blk1 V c 0 t := hf0.trans (before1_0 V c t d0)
    replace hf1 : (st1_1 (F := F) t).view.read (Elt F) f1 = blk1 V c 1 t := hf1.trans (before1_1 V c t d1)
    replace hf2 : (st1_2 (F := F) t).view.read (Elt F) f2 = blk1 V c 2 t := hf2.trans (before1_2 V c t d2)
    replace hf3 : (st1_3 (F := F) t).view.read (Elt F) f3 = blk1 V c 3 t := hf3.trans (before1_3 V c t d3)
    replace hf4 : (st1_4 (F := F) t).view.read (Elt F) f4 = blk1 V c 4 t := hf4.trans (before1_4 V c t d4)
    replace hf5 : (st1_5 (F := F) t).view.read (Elt F) f5 = blk1 V c 5 t := hf5.trans (before1_5 V c t d5)
    replace hf6 : (st1_6 (F := F) t).view.read (Elt F) f6 = blk1 V c 6 t := hf6.trans (before1_6 V c t d6)
    have hR : RecsOK (st1_5 (F := F) t) f5 := recsOK_of _ _ _ hf5 fun x => hV.off _
    have hC : ChainOK (st1_6 (F := F) t) f6 := chainOK_of _ _ _ hf6 (blk_key V c hV t)
    iapply (wp_wand_r Idealize.ShloMosaic.frame (wpE (defs₀ (F := F)) Variants.nat (c : Thread nD τ) none) Set.univ)
    isplitl [H0 H1 H2 H3 H4 H5 H6 H7 H8 H9 H10 HT HP]
    · iapply (body_idle (F := F) c (grid1.coords t) (win1_0.stage ((cfg1 (F := F)).slots t 0)) (hstage1_0 (((cfg1 (F := F)).slots t 0).cast nbuf1_0)) (win1_1.stage ((cfg1 (F := F)).slots t 1)) (hstage1_1 (((cfg1 (F := F)).slots t 1).cast nbuf1_1)) (win1_2.stage ((cfg1 (F := F)).slots t 2)) (hstage1_2 (((cfg1 (F := F)).slots t 2).cast nbuf1_2)) (win1_3.stage ((cfg1 (F := F)).slots t 3)) (hstage1_3 (((cfg1 (F := F)).slots t 3).cast nbuf1_3)) (win1_4.stage ((cfg1 (F := F)).slots t 4)) (hstage1_4 (((cfg1 (F := F)).slots t 4).cast nbuf1_4)) (win1_5.stage ((cfg1 (F := F)).slots t 5)) (hstage1_5 (((cfg1 (F := F)).slots t 5).cast nbuf1_5)) (win1_6.stage ((cfg1 (F := F)).slots t 6)) (hstage1_6 (((cfg1 (F := F)).slots t 6).cast nbuf1_6)) (win1_7.stage ((cfg1 (F := F)).slots t 7)) (hstage1_7 (((cfg1 (F := F)).slots t 7).cast nbuf1_7)) (win1_8.stage ((cfg1 (F := F)).slots t 8)) (hstage1_8 (((cfg1 (F := F)).slots t 8).cast nbuf1_8)) (win1_9.stage ((cfg1 (F := F)).slots t 9)) (hstage1_9 (((cfg1 (F := F)).slots t 9).cast nbuf1_9)) (win1_10.stage ((cfg1 (F := F)).slots t 10)) (hstage1_10 (((cfg1 (F := F)).slots t 10).cast nbuf1_10)) (Memref.whole cc1_scratch0) (Memref.isWhole_whole _) (Memref.whole cc1_scratch1) (Memref.isWhole_whole _)
        _ _ _ _ _ f5 f6 _ hR hC h4)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HT]; · iexists T; rw [pt_table]; iexact HT
      iexists P; rw [pt_lanes]; iexact HP
    iintro %_ ⟨H0, H1, H2, H3, H4, H5, H6, ⟨%g7, H7⟩, ⟨%g8, H8⟩, ⟨%g9, H9⟩, ⟨%g10, %hg10, H10⟩, ⟨%gT, HT⟩, ⟨%gP, HP⟩⟩
    isplitl [Hs0 Hs1 Hs2 HT HP]
    · isplitl [Hs0]; · iexact Hs0
      isplitl [Hs1]; · iexact Hs1
      isplitl [Hs2]; · iexact Hs2
      isplitl [HT]; · iexists gT; rw [← pt_table]; iexact HT
      iexists gP; rw [← pt_lanes]; iexact HP
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexists f5; isplitr; swap; (· iexact H5); ipureintro; exact hf5
    isplitl [H6]; · iexists f6; isplitr; swap; (· iexact H6); ipureintro; exact hf6
    isplitl [H7]; · iexists _; iexists g7; isplitr; swap; (· iexact H7); ipureintro; rfl
    isplitl [H8]; · iexists _; iexists g8; isplitr; swap; (· iexact H8); ipureintro; rfl
    isplitl [H9]; · iexists _; iexists g9; isplitr; swap; (· iexact H9); ipureintro; rfl
    subst hg10
    ihave H := (back10_idle V c t h4 d10) $$ [H10]
    · unfold owns; iexists _; isplitr; swap; (· iexact H10); ipureintro; exact hf10
    iexact H

end Cert.Proof.Kernel
-- ==== Proof.Kernel.Run.lean ====
module

public import proofs.«01_k».proof.Proof.Kernel.Region1
public import Idealize.ShloMosaic.Lib.Pipeline.Frame
public import Idealize.ShloMosaic.Lib.Pipeline.Regions
public import Idealize.ShloMosaic.Lib.Pipeline.RegionsOwned
public import Idealize.ShloMosaic.Lib.Pipeline.RegionsLoop
public import Idealize.ShloMosaic.Lib.Pipeline.RegionArraysF
public import Idealize.ShloMosaic.Lib.Pipeline.RegionsOwned
public import Idealize.ShloMosaic.Lib.Pipeline.Kit

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg)

variable {F : FTy → Type} [FloatOps F]

local notation "𝕄" => MT nD τ sig Unit (Elt F) ℕ (UR sig nD τ) ℕ

/-! # The run of the whole program -/

variable (m : (ℓ : Loc nD τ sig) → Buf (Elt F) ℓ)

/-! ## Writing arrays into a valuation -/

section Put
variable (c : Dev nD) (W : Valuation τ sig (Elt F))

/-- Two arrays replaced. -/
def put2 (a : Buf (Elt F) ((c : Thread nD τ).loc main_v0_0)) (b : Buf (Elt F) ((c : Thread nD τ).loc main_v0_1)) : Valuation τ sig (Elt F) :=
  Function.update (Function.update W main_v0_0 a) main_v0_1 b

/-- Four arrays replaced. -/
def put4 (a : Buf (Elt F) ((c : Thread nD τ).loc main_v8_0)) (b : Buf (Elt F) ((c : Thread nD τ).loc main_v8_1)) (d : Buf (Elt F) ((c : Thread nD τ).loc main_v8_2))
    (e : Buf (Elt F) ((c : Thread nD τ).loc main_v8_3)) : Valuation τ sig (Elt F) :=
  Function.update (Function.update (Function.update (Function.update W main_v8_0 a) main_v8_1 b) main_v8_2 d) main_v8_3 e

theorem put2_of (a b) (r : Ref sig .tc) (h : r ∉ ([main_v0_0, main_v0_1] : List (Ref sig .tc))) : put2 c W a b r = W r := by
  simp only [put2, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem put2_0 (a b) : put2 c W a b main_v0_0 = a :=
  (Function.update_of_ne (StableHlo.devRef_ne_of_ne (by decide)) _ _).trans (Function.update_self _ _ _)
theorem put2_1 (a b) : put2 c W a b main_v0_1 = b := Function.update_self _ _ _
theorem put4_of (a b d e) (r : Ref sig .tc) (h : r ∉ ([main_v8_0, main_v8_1, main_v8_2, main_v8_3] : List (Ref sig .tc))) : put4 c W a b d e r = W r := by
  simp only [put4, Function.update_of_ne (StableHlo.devRef_ne_of_ne (List.ne_of_not_mem_cons h) : (Proc.devRef .tc r : DevRef τ sig) ≠ Proc.devRef .tc main_v8_0), Function.update_of_ne (StableHlo.devRef_ne_of_ne (List.ne_of_not_mem_cons (List.not_mem_of_not_mem_cons h)) : (Proc.devRef .tc r : DevRef τ sig) ≠ Proc.devRef .tc main_v8_1), Function.update_of_ne (StableHlo.devRef_ne_of_ne (List.ne_of_not_mem_cons (List.not_mem_of_not_mem_cons (List.not_mem_of_not_mem_cons h))) : (Proc.devRef .tc r : DevRef τ sig) ≠ Proc.devRef .tc main_v8_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v8_3)]
theorem put4_0 (a b d e) : put4 c W a b d e main_v8_0 = a :=
  (Function.update_of_ne (StableHlo.devRef_ne_of_ne (by decide)) _ _).trans <| (Function.update_of_ne (StableHlo.devRef_ne_of_ne (by decide)) _ _).trans <|
    (Function.update_of_ne (StableHlo.devRef_ne_of_ne (by decide)) _ _).trans (Function.update_self _ _ _)
theorem put4_1 (a b d e) : put4 c W a b d e main_v8_1 = b :=
  (Function.update_of_ne (StableHlo.devRef_ne_of_ne (by decide)) _ _).trans <| (Function.update_of_ne (StableHlo.devRef_ne_of_ne (by decide)) _ _).trans (Function.update_self _ _ _)
theorem put4_2 (a b d e) : put4 c W a b d e main_v8_2 = d :=
  (Function.update_of_ne (StableHlo.devRef_ne_of_ne (by decide)) _ _).trans (Function.update_self _ _ _)
theorem put4_3 (a b d e) : put4 c W a b d e main_v8_3 = e := Function.update_self _ _ _

end Put

/-! ## The buffers between the items -/

/-- The launch contents, as the index kernel's region reads them. -/
abbrev vals0 : Vals F := fun c b => V0 m c b

/-- After the index kernel: its two outputs' arrays. -/
def W1 (c : Dev nD) : Valuation τ sig (Elt F) :=
  put2 c (V0 m c) ((dat0 (vals0 m) c).arrAt 1 (cfg0 (F := F)).N) ((dat0 (vals0 m) c).arrAt 2 (cfg0 (F := F)).N)

/-- After the host's reshapes. -/
def W2 (c : Dev nD) : Valuation τ sig (Elt F) := StableHlo.after hostOps1 (W1 m c)

abbrev vals1 : Vals F := fun c b => W2 m c b

/-- What the main kernel's region may leave in its arrays: the point features' known. -/
abbrev Left (c : Dev nD) : Type :=
  { A : (w : Fin (cfg1 (F := F)).W) → Buf (Elt F) (((cfg1 (F := F)).win w).arr.view.loc (c.tc : Thread nD τ)) //
    ∀ w, fgt1 w = false → A w = (dat1 (vals1 m) c).arrAt w (cfg1 (F := F)).N }

/-- After the main kernel. -/
def W3 (c : Dev nD) (γ : Left m c) : Valuation τ sig (Elt F) :=
  put4 c (W2 m c) (γ.1 7) (γ.1 8) (γ.1 9) (γ.1 10)

/-- At the end. -/
def W4 (c : Dev nD) (γ : Left m c) : Valuation τ sig (Elt F) := StableHlo.after hostOps2 (W3 m c γ)

theorem W1_of (c : Dev nD) (r : Ref sig .tc) (h : r ∉ ([main_v0_0, main_v0_1] : List (Ref sig .tc))) : W1 m c r = V0 m c r := put2_of c _ _ _ r h
theorem W1_0 (c : Dev nD) : W1 m c main_v0_0 = (dat0 (vals0 m) c).arrAt 1 (cfg0 (F := F)).N := put2_0 c _ _ _
theorem W1_1 (c : Dev nD) : W1 m c main_v0_1 = (dat0 (vals0 m) c).arrAt 2 (cfg0 (F := F)).N := put2_1 c _ _ _
theorem W2_of (c : Dev nD) (r : Ref sig .tc) (h : r ∉ hostOps1_W) : W2 m c r = W1 m c r :=
  StableHlo.after_of_writes_sub hostOps1 _ hostOps1_writes h
theorem W3_of (c : Dev nD) (γ : Left m c) (r : Ref sig .tc) (h : r ∉ ([main_v8_0, main_v8_1, main_v8_2, main_v8_3] : List (Ref sig .tc))) : W3 m c γ r = W2 m c r :=
  put4_of c _ _ _ _ _ r h
theorem W3_7 (c : Dev nD) (γ : Left m c) : W3 m c γ main_v8_0 = γ.1 7 := put4_0 c _ _ _ _ _
theorem W3_8 (c : Dev nD) (γ : Left m c) : W3 m c γ main_v8_1 = γ.1 8 := put4_1 c _ _ _ _ _
theorem W3_9 (c : Dev nD) (γ : Left m c) : W3 m c γ main_v8_2 = γ.1 9 := put4_2 c _ _ _ _ _
theorem W3_10 (c : Dev nD) (γ : Left m c) : W3 m c γ main_v8_3 = γ.1 10 := put4_3 c _ _ _ _ _
theorem W4_of (c : Dev nD) (γ : Left m c) (r : Ref sig .tc) (h : r ∉ hostOps2_W) : W4 m c γ r = W3 m c γ r :=
  StableHlo.after_of_writes_sub hostOps2 _ hostOps2_writes h

/-- An argument reaches the end as launched. -/
theorem W4_arg (c : Dev nD) (γ : Left m c) (r : Ref sig .tc) (h1 : r ∉ ([main_v0_0, main_v0_1] : List (Ref sig .tc))) (h2 : r ∉ hostOps1_W)
    (h3 : r ∉ ([main_v8_0, main_v8_1, main_v8_2, main_v8_3] : List (Ref sig .tc))) (h4 : r ∉ hostOps2_W) : W4 m c γ r = m ((c : Thread nD τ).loc r) :=
  (W4_of m c γ r h4).trans <| (W3_of m c γ r h3).trans <| (W2_of m c r h2).trans <| (W1_of m c r h1).trans rfl

/-- The point features at the end. -/
theorem W4_out (c : Dev nD) (γ : Left m c) : W4 m c γ main_v8_3 = (dat1 (vals1 m) c).arrAt 10 (cfg1 (F := F)).N :=
  (W4_of m c γ main_v8_3 (by decide)).trans <| (W3_10 m c γ).trans (γ.2 10 rfl)

/-! ## The scalars the main kernel is given -/

theorem W2_recs (c : Dev nD) : W2 m c main_v1 = shapeCast S3x32x2x4x128 (View.canon (pieces0 (vals0 m) c).1) shapeCasts_S3x64x4x128_S3x32x2x4x128 := by
  rw [← arr0_1 (vals0 m) c, ← W1_0 m c]
  unfold W2
  unfold_abbrev_sides
  after_results
  rfl

theorem W2_chain (c : Dev nD) : W2 m c main_v2 = shapeCast S3x32x2x4x128 (View.canon (pieces0 (vals0 m) c).2) shapeCasts_S3x64x4x128_S3x32x2x4x128 := by
  rw [← arr0_2 (vals0 m) c, ← W1_1 m c]
  unfold W2
  unfold_abbrev_sides
  after_results
  rfl

theorem scalarsOK (c : Dev nD) : ScalarsOK (vals1 m) c where
  off y := by
    show RecOK (W2 m c main_v1 y)
    rw [W2_recs]
    exact index_recs c (stage0_0 0) (hstage0_0 0) (stage0_1 0) (hstage0_1 0) (stage0_2 0) (hstage0_2 0) (stg0 (vals0 m) c) _
  key y := by
    show KeyOK _ (W2 m c main_v2 y)
    rw [W2_chain]
    have h0 : (y 0).val < 3 := (y 0).isLt
    have h1 : (y 1).val < 32 := (y 1).isLt
    have h2 : (y 2).val < 2 := (y 2).isLt
    have h3 : (y 3).val < 4 := (y 3).isLt
    have h4 : (y 4).val < 128 := (y 4).isLt
    have h := index_keys c (stage0_0 0) (hstage0_0 0) (stage0_1 0) (hstage0_1 0) (stage0_2 0) (hstage0_2 0) (stg0 (vals0 m) c)
      (ix4 ⟨(y 0).val, h0⟩ ⟨2 * (y 1).val + (y 2).val, by omega⟩ ⟨(y 3).val, h3⟩ ⟨(y 4).val, h4⟩ : S3x64x4x128.Idx)
    rw [shapeCast_apply _ _ y (ix4 ⟨(y 0).val, h0⟩ ⟨2 * (y 1).val + (y 2).val, by omega⟩ ⟨(y 3).val, h3⟩ ⟨(y 4).val, h4⟩ : S3x64x4x128.Idx) (by
      rw [Shape.rowMajor_val_four, Shape.rowMajor_val_five]
      show (((y 0).val * 64 + (2 * (y 1).val + (y 2).val)) * 4 + (y 3).val) * 128 + (y 4).val
        = ((((y 0).val * 32 + (y 1).val) * 2 + (y 2).val) * 4 + (y 3).val) * 128 + (y 4).val
      omega)]
    exact h

section Left

attribute [local irreducible] W2 W3

/-- Each window's array after the main kernel is the contents `W3` names for it. -/
theorem left_eq (c : Dev nD) (γ : Left m c) (w : Fin (cfg1 (F := F)).W) : γ.1 w = W3 m c γ (Pipeline.arrRef spec1 w) := by
  fin_cases w
  · exact (γ.2 0 rfl).trans <| ((dat1 (vals1 m) c).arrAt_in 0 rfl _).trans (W3_of m c γ main_arg0 (by decide)).symm
  · exact (γ.2 1 rfl).trans <| ((dat1 (vals1 m) c).arrAt_in 1 rfl _).trans (W3_of m c γ main_v3 (by decide)).symm
  · exact (γ.2 2 rfl).trans <| ((dat1 (vals1 m) c).arrAt_in 2 rfl _).trans (W3_of m c γ main_arg1 (by decide)).symm
  · exact (γ.2 3 rfl).trans <| ((dat1 (vals1 m) c).arrAt_in 3 rfl _).trans (W3_of m c γ main_v5 (by decide)).symm
  · exact (γ.2 4 rfl).trans <| ((dat1 (vals1 m) c).arrAt_in 4 rfl _).trans (W3_of m c γ main_v7 (by decide)).symm
  · exact (γ.2 5 rfl).trans <| ((dat1 (vals1 m) c).arrAt_in 5 rfl _).trans (W3_of m c γ main_v1 (by decide)).symm
  · exact (γ.2 6 rfl).trans <| ((dat1 (vals1 m) c).arrAt_in 6 rfl _).trans (W3_of m c γ main_v2 (by decide)).symm
  · exact (W3_7 m c γ).symm
  · exact (W3_8 m c γ).symm
  · exact (W3_9 m c γ).symm
  · exact (W3_10 m c γ).symm

end Left

/-! ## The regions -/

abbrev L : GSem nD τ sig → Finset Unit := fun _ => ∅
abbrev lv : GSem nD τ sig → Unit → ℕ := fun _ _ => 0

/-- Both regions' proof data. -/
def pdats : (p : Fin 2) → (c : Dev nD) → Dat τ (Elt F) Unit ℕ (UR sig nD τ) ℕ (Pipeline.pin (pcfgs (F := F)) adm p) c
  | ⟨0, _⟩ => fun c => dat0 (vals0 m) c
  | ⟨1, _⟩ => fun c => dat1 (vals1 m) c

/-- The windows not named. -/
def fg : (p : Fin 2) → Fin (Pipeline.pin (pcfgs (F := F)) adm p).W → Bool
  | ⟨0, _⟩ => fun _ => false
  | ⟨1, _⟩ => fgt1

/-- The proof data, the unnamed windows forgotten. -/
abbrev rdats (p : Fin 2) (c : Dev nD) : RDat τ (Elt F) Unit ℕ (UR sig nD τ) ℕ (Pipeline.pin (pcfgs (F := F)) adm p) c :=
  (pdats m p c).toRForget (fg p)

/-- What rides along: the core owes nothing. -/
abbrev Idle (c : Dev nD) : sProp 𝕄 := iprop(∃ W, owes (c : Thread nD τ) (0 : CellTallies nD τ sig Unit) W)

set_option backward.isDefEq.respectTransparency.types false in
/-- The index kernel's region. -/
def reg0 : RDat.RegionSeg (pcfgs (F := F)) adm (rdats m) () defs₀ Variants.nat L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (vals0 m) c).loose.toRForget
  hwaits := RDat.hwaits_of_owed_zero _ _ _ _ L lv 0 fun _ _ => rfl
  pre c := iprop(StableHlo.held (c : Thread nD τ) (Pipeline.ucRefs τ sig) (V0 m c) ∗ Idle c)
  post c := iprop(StableHlo.held (c : Thread nD τ) (Pipeline.ucRefs τ sig) (W1 m c) ∗ Idle c)
  X _ := BI.emp
  Y _ := BI.emp
  Z c := Pipeline.unscopedRest (Ix := Unit) (Name := ℕ) (U := UR sig nD τ) (Lvl := ℕ) spec0 c (vals0 m c)
  hentry c := by
    show _ ⊢ |={Set.univ}=> iprop((pdats m 0 c).arrays ((pdats m 0 c).arrAt · 0) ∗ Pipeline.prefHeld (pcfgs (F := F) 0).pre c (fun _ => fullShare) (adm 0).1
      ∗ (pdats m 0 c).owesAt () 0 ∗ _ ∗ _)
    rw [Pipeline.ownSems0_none, ← Pipeline.unscopedBufs_held (Ix := Unit) (Name := ℕ) (U := UR sig nD τ) (Lvl := ℕ) c (V0 m c)]
    have hsplit := Pipeline.arrays_of_unscopedBufs (p := 0) (pcfgs (F := F)) adm (pdats m) (launch0 (F := F)).win (launch0 (F := F)).arr_whole c
      ((pdats m 0 c).share_full fun _ => rfl) (vals0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = (Pipeline.scopedRest spec0 c : sProp 𝕄) from rfl]
    iintro ⟨-, -, Hr⟩; iexact Hr
  hout c := by
    rw [Pipeline.ownSems0_none, show (rdats m 0 c).Φ (Fin.last _) = (Pipeline.scopedRest spec0 c : sProp 𝕄) from rfl]
    iintro Hr
    isplitr; · iempintro
    isplitr; · iempintro
    iexact Hr
  hexit c := by
    show iprop(((pdats m 0 c).toRForget (fg 0)).arraysAt (cfg0 (F := F)).N ∗ (pdats m 0 c).owesAt () (Fin.last (cfg0 (F := F)).N) ∗ _ ∗ _) ⊢ _
    rw [← Pipeline.unscopedBufs_held (Ix := Unit) (Name := ℕ) (U := UR sig nD τ) (Lvl := ℕ) c (W1 m c)]
    iintro ⟨Ha, HO, -, Hrest⟩
    ihave Ha := ((pdats m 0 c).arraysAt_forget (fg 0) (cfg0 (F := F)).N) $$ Ha
    icases Ha with ⟨%A, %hA, Ha⟩
    have hjoin := Pipeline.unscopedBufs_of_arrays (p := 0) (pcfgs (F := F)) adm (Ix := Unit) (Name := ℕ) (U := UR sig nD τ) (Lvl := ℕ) (launch0 (F := F)).win (launch0 (F := F)).arr_whole c
      (pdats m) ((pdats m 0 c).share_full fun _ => rfl) (vals0 m c) (fun b => W1 m c b) A
      (fun w => by
        rw [hA w rfl]
        fin_cases w
        · exact ((pdats m 0 c).arrAt_in 0 rfl _).trans (W1_of m c main_arg5 (by decide)).symm
        · exact (W1_0 m c).symm
        · exact (W1_1 m c).symm)
      (fun b hb => W1_of m c b fun h => by
        rcases List.mem_cons.mp h with rfl | h
        · exact hb (Finset.mem_image.mpr ⟨1, Finset.mem_univ _, rfl⟩)
        · rcases List.mem_cons.mp h with rfl | h
          · exact hb (Finset.mem_image.mpr ⟨2, Finset.mem_univ _, rfl⟩)
          · exact absurd h List.not_mem_nil)
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
set_option maxHeartbeats 2000000 in
/-- The main kernel's region. -/
def reg1 : RDat.RegionSeg (pcfgs (F := F)) adm (rdats m) () defs₀ Variants.nat L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (vals1 m) c (scalarsOK m c)).toRForget
  hwaits := RDat.hwaits_of_owed_zero _ _ _ _ L lv 1 fun _ _ => rfl
  pre c := iprop(StableHlo.held (c : Thread nD τ) (Pipeline.ucRefs τ sig) (W2 m c) ∗ Idle c)
  post c := iprop((∃ γ : Left m c, StableHlo.held (c : Thread nD τ) (Pipeline.ucRefs τ sig) (W3 m c γ)) ∗ Idle c)
  X _ := BI.emp
  Y _ := BI.emp
  Z c := Pipeline.unscopedRest (Ix := Unit) (Name := ℕ) (U := UR sig nD τ) (Lvl := ℕ) spec1 c (vals1 m c)
  hentry c := by
    show _ ⊢ |={Set.univ}=> iprop((pdats m 1 c).arrays ((pdats m 1 c).arrAt · 0) ∗ Pipeline.prefHeld (pcfgs (F := F) 1).pre c (fun _ => fullShare) (adm 1).1
      ∗ (pdats m 1 c).owesAt () 0 ∗ _ ∗ _)
    rw [Pipeline.ownSems0_none, ← Pipeline.unscopedBufs_held (Ix := Unit) (Name := ℕ) (U := UR sig nD τ) (Lvl := ℕ) c (W2 m c)]
    have hsplit := Pipeline.arrays_of_unscopedBufs (p := 1) (pcfgs (F := F)) adm (pdats m) (launch1 (F := F)).win (launch1 (F := F)).arr_whole c
      ((pdats m 1 c).share_full fun _ => rfl) (vals1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = (Pipeline.scopedRest spec1 c : sProp 𝕄) from rfl]
    iintro ⟨-, -, Hr⟩; iexact Hr
  hout c := by
    rw [Pipeline.ownSems0_none, show (rdats m 1 c).Φ (Fin.last _) = (Pipeline.scopedRest spec1 c : sProp 𝕄) from rfl]
    iintro Hr
    isplitr; · iempintro
    isplitr; · iempintro
    iexact Hr
  hexit c := by
    show iprop(((pdats m 1 c).toRForget (fg 1)).arraysAt (cfg1 (F := F)).N ∗ (pdats m 1 c).owesAt () (Fin.last (cfg1 (F := F)).N) ∗ _ ∗ _) ⊢ _
    iintro ⟨Ha, HO, -, Hrest⟩
    ihave Ha := ((pdats m 1 c).arraysAt_forget (fg 1) (cfg1 (F := F)).N) $$ Ha
    icases Ha with ⟨%A, %hA, Ha⟩
    have hjoin := Pipeline.unscopedBufs_of_arrays (p := 1) (pcfgs (F := F)) adm (Ix := Unit) (Name := ℕ) (U := UR sig nD τ) (Lvl := ℕ) (launch1 (F := F)).win (launch1 (F := F)).arr_whole c
      (pdats m) ((pdats m 1 c).share_full fun _ => rfl) (vals1 m c) (fun b => W3 m c ⟨A, hA⟩ b) A
      (left_eq m c ⟨A, hA⟩)
      (fun b hb => W3_of m c ⟨A, hA⟩ b fun h => by
        rcases List.mem_cons.mp h with rfl | h
        · exact hb (Finset.mem_image.mpr ⟨7, Finset.mem_univ _, rfl⟩)
        rcases List.mem_cons.mp h with rfl | h
        · exact hb (Finset.mem_image.mpr ⟨8, Finset.mem_univ _, rfl⟩)
        rcases List.mem_cons.mp h with rfl | h
        · exact hb (Finset.mem_image.mpr ⟨9, Finset.mem_univ _, rfl⟩)
        rcases List.mem_cons.mp h with rfl | h
        · exact hb (Finset.mem_image.mpr ⟨10, Finset.mem_univ _, rfl⟩)
        exact absurd h List.not_mem_nil)
    rw [Pipeline.unscopedBufs_held (Ix := Unit) (Name := ℕ) (U := UR sig nD τ) (Lvl := ℕ) c (W3 m c ⟨A, hA⟩)] at hjoin
    imodintro
    isplitl [Ha Hrest]
    · iexists (⟨A, hA⟩ : Left m c); iapply hjoin; isplitl [Ha] <;> iassumption
    unfold Pipeline.Dat.owesAt Pipeline.owesWithin
    icases HO with ⟨%W, -, HO⟩; iexists W; iexact HO

/-! ## The whole program -/

/-- The program's items on core `c`: the index kernel, the reshapes, the main kernel, the last reshape. -/
def segs (_ : Dev nD) : List (RDat.Seg (pcfgs (F := F)) adm (rdats m) () defs₀ Variants.nat L lv) :=
  [.region (reg0 m),
   .host (HostSeg.ofOps (pcfgs (F := F)) defs₀ Variants.nat L lv (Pipeline.ucRefs τ sig) hostOps1
    (fun op h => Pipeline.sub_ucRefs op ((List.forall_iff_forall_mem.mp hostOps1_sub) op h))
    (fun op h => (List.forall_iff_forall_mem.mp hostOps1_fresh) op h) (W1 m) Idle),
   .region (reg1 m),
   .host (HostSeg.ofOpsEx (pcfgs (F := F)) defs₀ Variants.nat L lv (Pipeline.ucRefs τ sig) hostOps2
    (fun op h => Pipeline.sub_ucRefs op ((List.forall_iff_forall_mem.mp hostOps2_sub) op h))
    (fun op h => (List.forall_iff_forall_mem.mp hostOps2_fresh) op h) (W3 m) Idle)]

/-- What the end state holds on core `c`: the arguments as launched, the point features' array as the main kernel's blocks make it. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5))
  ∧ s.mem ((c : Thread nD τ).loc main_v8_3) = (dat1 (vals1 m) c).arrAt 10 (cfg1 (F := F)).N

set_option backward.isDefEq.respectTransparency.types false in
/-- From any memory the program runs to its end: every argument as launched, every semaphore at zero, the point features' array as the
    main kernel's blocks make it. -/
theorem run_all (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rdats m) () cellOf_inj emb₁ defs₀ Variants.nat L lv m ρ main
    (segs m)
    (fun c Q => by
      rewrite [main_chain c, RDat.Seg.run_eq_chain,
        show (segs m c).map RDat.Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide) 0 (fun _ _ => rfl)
    (fun _ => BI.emp) (initOf (Pipeline.cells (cfgs (F := F)) cellOf_inj) (Pipeline.launchToks (cfgs (F := F)) cellOf_inj)) ?_
    (T₀ := fun c => iprop(StableHlo.held (c : Thread nD τ) (Pipeline.ucRefs τ sig) (V0 m c) ∗ Idle c))
    (Tₙ := fun c => iprop(∃ γ, StableHlo.held (c : Thread nD τ) (Pipeline.ucRefs τ sig) (W4 m c γ)))
    (hch := fun c => ⟨.rfl, .rfl, .rfl, .rfl, .rfl⟩)
    (hinit := ?_) (QY := Ends m)
    (hfin := fun c s' => ?_) (hQ := fun _ h hz => ⟨h, funext fun g => hz g (.inr (regions_no_unscoped g.2))⟩)
  · show (BI.own (emb₁ _) : sProp 𝕄) ⊢ _
    iintro Hu; imodintro
    isplitl [Hu]; · iexact Hu
    iapply (show (BI.emp : sProp 𝕄) ⊢ BI.bigSep Finset.univ (fun _ : Dev nD => BI.emp) from by rw [BI.bigSep_emp_const])
    iempintro
  · have hsplit : (BI.bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ BI.emp))
        ⊢ (BI.bigSep Finset.univ fun c : Dev nD => iprop(StableHlo.held (c : Thread nD τ) (Pipeline.ucRefs τ sig) (V0 m c) ∗ Idle c) : sProp 𝕄) :=
      BI.bigSep_mono fun c _ => by
        rw [← Pipeline.unscopedBufs_held (Ix := Unit) (Name := ℕ) (U := UR sig nD τ) (Lvl := ℕ) c (V0 m c)]
        show iprop(_ ∗ _ ∗ _ ∗ _ ∗ _ ∗ _) ⊢ (iprop(_ ∗ _) : sProp 𝕄)
        iintro ⟨Hb, -, HO, -⟩
        isplitl [Hb]; · iexact Hb
        iexists _; iexact HO
    iintro ⟨H, -⟩
    ihave H' := hsplit $$ H
    imodintro; iexact H'
  · unfold StableHlo.held
    iintro ⟨⟨%γ, Hh⟩, HSI⟩
    ihave Hr := (pointsTo_read_all (Pipeline.ucRefs τ sig) (fun b => ((c : Thread nD τ).1, b)) (W4 m c γ) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (W4_arg m c γ main_arg0 (by decide) (by decide) (by decide) (by decide)),
        (h (Proc.devRef .tc main_arg1) (Finset.mem_filter.mpr ⟨StableHlo.devRef_mem_tcRefs main_arg1, by decide⟩)).trans (W4_arg m c γ main_arg1 (by decide) (by decide) (by decide) (by decide)),
        (h (Proc.devRef .tc main_arg2) (Finset.mem_filter.mpr ⟨StableHlo.devRef_mem_tcRefs main_arg2, by decide⟩)).trans (W4_arg m c γ main_arg2 (by decide) (by decide) (by decide) (by decide)),
        (h (Proc.devRef .tc main_arg3) (Finset.mem_filter.mpr ⟨StableHlo.devRef_mem_tcRefs main_arg3, by decide⟩)).trans (W4_arg m c γ main_arg3 (by decide) (by decide) (by decide) (by decide)),
        (h (Proc.devRef .tc main_arg4) (Finset.mem_filter.mpr ⟨StableHlo.devRef_mem_tcRefs main_arg4, by decide⟩)).trans (W4_arg m c γ main_arg4 (by decide) (by decide) (by decide) (by decide)),
        (h (Proc.devRef .tc main_arg5) (Finset.mem_filter.mpr ⟨StableHlo.devRef_mem_tcRefs main_arg5, by decide⟩)).trans (W4_arg m c γ main_arg5 (by decide) (by decide) (by decide) (by decide))⟩,
        (h (Proc.devRef .tc main_v8_3) (Finset.mem_filter.mpr ⟨StableHlo.devRef_mem_tcRefs main_v8_3, by decide⟩)).trans (W4_out m c γ)⟩
    · iexact HSI

end Cert.Proof.Kernel
-- ==== Proof.KernelIdeal.Words.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init
public import Idealize.ShloMosaic.Lib.PackedFields

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # The words of the two index arrays, and the windows they address

The kernel reads two arrays of words: row offsets into the table (seven rows a voxel) and links of the chain
of repeated voxels (`position · 2 ^ 14 + voxel`, or `2 ^ 30` for the end). The lemmas here say that words of these
shapes address inside the table, the point rows and the chain. -/

/-- A row offset: the first of seven rows of the table that exist. -/
def RecOK (w : BitVec 32) : Prop := w.toNat ≤ 64512

/-- A link at a position `p` or later: the end of the chain, or `q · 2 ^ 14 + v` for a position `p ≤ q < 512` and a
voxel `v < 9000`. -/
def KeyOK (p : ℕ) (k : BitVec 32) : Prop :=
  k = 1073741824#32 ∨ ∃ q v : ℕ, p ≤ q ∧ q < 512 ∧ v < 9000 ∧ k = BitVec.ofNat 32 (q * 16384 + v)

theorem KeyOK.mono {p p' : ℕ} {k : BitVec 32} (h : KeyOK p k) (hp : p' ≤ p) : KeyOK p' k := by
  rcases h with h | ⟨q, v, h1, h2, h3, h4⟩
  · exact .inl h
  · exact .inr ⟨q, v, by omega, h2, h3, h4⟩

theorem key_shr {q v : ℕ} (hq : q < 512) (hv : v < 9000) :
    Scalar.shrsi (BitVec.ofNat 32 (q * 16384 + v)) 14#32 = BitVec.ofNat 32 q := by
  refine (PackedFields.shrsi_eq_iff (u := .scalar) _ 14 q (by omega) (by omega)).2 ?_
  rw [BitVec.toNat_ofNat]; omega

theorem key_and {q v : ℕ} (hq : q < 512) (hv : v < 9000) :
    Scalar.andi (BitVec.ofNat 32 (q * 16384 + v)) 16383#32 = BitVec.ofNat 32 v := by
  apply BitVec.eq_of_toNat_eq
  show (BitVec.ofNat 32 (q * 16384 + v) &&& 16383#32).toNat = _
  rw [BitVec.toNat_and, BitVec.toNat_ofNat, BitVec.toNat_ofNat, BitVec.toNat_ofNat,
    show (16383 % 2 ^ 32 : ℕ) = 2 ^ 14 - 1 from rfl, Nat.and_two_pow_sub_one_eq_mod]
  omega

/-- The chain's end is no key to follow. -/
theorem not_slt_none : ¬ Scalar.cmpi .slt 1073741824#32 1073741824#32 = 1#1 := by decide

/-- Every other link is. -/
theorem slt_key {q v : ℕ} (hq : q < 512) (hv : v < 9000) :
    Scalar.cmpi .slt (BitVec.ofNat 32 (q * 16384 + v)) 1073741824#32 = 1#1 := by
  have : (BitVec.ofNat 32 (q * 16384 + v)).toInt = (q * 16384 + v : ℕ) := by
    rw [BitVec.toInt_ofNat', Int.bmod_eq_of_le] <;> omega
  have h : (BitVec.ofNat 32 (q * 16384 + v)).slt 1073741824#32 = true := by
    rw [BitVec.slt, this]; simp; omega
  show BitVec.ofBool _ = _
  rw [h]; rfl

/-- The chain's position read after position `q`: the next one, held at the last. -/
abbrev chainOff (u : ℕ) (p : ℕ) : Fin 5 → ℕ := ![0, 0, u, p / 128, p % 128]

theorem off40_pos : ∀ q : Fin 512, ∀ a, k1_off40 (BitVec.ofNat 32 (q.val * 16384)) a = chainOff 0 (min (q.val + 1) 511) a := by
  decide +kernel

theorem off79_pos : ∀ q : Fin 512, ∀ a, k1_off79 (BitVec.ofNat 32 (q.val * 16384)) a = chainOff 1 (min (q.val + 1) 511) a := by
  decide +kernel

theorem off40_key {q v : ℕ} (hq : q < 512) (hv : v < 9000) :
    k1_off40 (BitVec.ofNat 32 (q * 16384 + v)) = chainOff 0 (min (q + 1) 511) := by
  rw [← funext (off40_pos ⟨q, hq⟩)]
  have h0 := key_shr hq (v := 0) (by omega)
  rw [Nat.add_zero] at h0
  unfold k1_off40
  simp only [key_shr hq hv, h0]

theorem off79_key {q v : ℕ} (hq : q < 512) (hv : v < 9000) :
    k1_off79 (BitVec.ofNat 32 (q * 16384 + v)) = chainOff 1 (min (q + 1) 511) := by
  rw [← funext (off79_pos ⟨q, hq⟩)]
  have h0 := key_shr hq (v := 0) (by omega)
  rw [Nat.add_zero] at h0
  unfold k1_off79
  simp only [key_shr hq hv, h0]

theorem chainOff_inb {p : ℕ} (hp : p < 512) (u : Fin 2) :
    ∀ a, chainOff u.val p a + S1x1x1x1x1.size a ≤ S1x1x2x4x128.size a := by
  have h1 : p / 128 < 4 := by omega
  have h2 : p % 128 < 128 := by omega
  have hu := u.isLt
  intro a
  fin_cases a <;> simp [chainOff, S1x1x1x1x1, S1x1x2x4x128] <;> omega

theorem off38_key {q v : ℕ} (hq : q < 512) (hv : v < 9000) : k1_off38 (BitVec.ofNat 32 (q * 16384 + v)) = ![v * 7, 0] := by
  unfold k1_off38
  simp only [key_and hq hv]
  have : (Scalar.indexCast (Scalar.muli (BitVec.ofNat 32 v) 7#32)).toNat = v * 7 := by
    show (BitVec.ofNat 32 v * 7#32).toNat = _
    rw [BitVec.toNat_mul, BitVec.toNat_ofNat, BitVec.toNat_ofNat]; omega
  rw [this]

theorem off77_key {q v : ℕ} (hq : q < 512) (hv : v < 9000) : k1_off77 (BitVec.ofNat 32 (q * 16384 + v)) = ![v * 7, 0] :=
  off38_key hq hv

theorem off39_key {q v : ℕ} (hq : q < 512) (hv : v < 9000) : k1_off39 (BitVec.ofNat 32 (q * 16384 + v)) = ![q * 7, 0] := by
  unfold k1_off39
  simp only [key_shr hq hv]
  have : (Scalar.indexCast (Scalar.muli (Scalar.addi 0#32 (BitVec.ofNat 32 q)) 7#32)).toNat = q * 7 := by
    show ((0#32 + BitVec.ofNat 32 q) * 7#32).toNat = _
    rw [BitVec.zero_add, BitVec.toNat_mul, BitVec.toNat_ofNat, BitVec.toNat_ofNat]; omega
  rw [this]

theorem off78_key {q v : ℕ} (hq : q < 512) (hv : v < 9000) :
    k1_off78 (BitVec.ofNat 32 (q * 16384 + v)) = ![(512 + q) * 7, 0] := by
  unfold k1_off78
  simp only [key_shr hq hv]
  have : (Scalar.indexCast (Scalar.muli (Scalar.addi 512#32 (BitVec.ofNat 32 q)) 7#32)).toNat = (512 + q) * 7 := by
    show ((512#32 + BitVec.ofNat 32 q) * 7#32).toNat = _
    rw [BitVec.toNat_mul, BitVec.toNat_add, BitVec.toNat_ofNat, BitVec.toNat_ofNat, BitVec.toNat_ofNat]; omega
  rw [this]

/-- Seven rows from row `r` of an array of `128` lanes. -/
theorem rows_inb {r n : ℕ} (h : r + 7 ≤ n) : ∀ a : Fin 2, (![r, 0] : Fin 2 → ℕ) a + S7x128.size a ≤ (![n, 128] : Fin 2 → ℕ) a := by
  intro a
  fin_cases a
  · simpa [S7x128] using h
  · simp [S7x128]

/-- A link's words address inside the table, the point rows and the chain. -/
theorem chk17_key {q v : ℕ} (hq : q < 512) (hv : v < 9000) : k1_chk17 (BitVec.ofNat 32 (q * 16384 + v)) := by
  refine ⟨?_, ?_, ?_⟩
  · rw [off38_key hq hv]; exact rows_inb (n := 64528) (by omega)
  · rw [off39_key hq hv]; exact rows_inb (n := 7176) (by omega)
  · rw [off40_key hq hv]; exact chainOff_inb (by omega) 0

theorem chk34_key {q v : ℕ} (hq : q < 512) (hv : v < 9000) : k1_chk34 (BitVec.ofNat 32 (q * 16384 + v)) := by
  refine ⟨?_, ?_, ?_⟩
  · rw [off77_key hq hv]; exact rows_inb (n := 64528) (by omega)
  · rw [off78_key hq hv]; exact rows_inb (n := 7176) (by omega)
  · rw [off79_key hq hv]; exact chainOff_inb (by omega) 1

end Cert.Proof.KernelIdeal
-- ==== Proof.KernelIdeal.Index.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Adequacy
public import Idealize.ShloMosaic.Init
public import Idealize.ShloMosaic.Lib.KernelVsHost
public import Idealize.ShloMosaic.Lib.Pipeline.FrameBody
public import proofs.«01_k».proof.Proof.KernelIdeal.Words

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.ShloMosaic.ValueIdx

variable {F : FTy → Type} [FloatOps F]

/-! # What the index kernel writes

One trip of its loop writes, for a unit of 512 points in four chunks of 128, a row offset and a chain link per point.
The lemmas say that the words have the shapes of `RecOK` and `KeyOK`: every scan step keeps them. -/

/-- The lane numbers. -/
def LaneOK (v0 : IVec S3x128 32) : Prop := ∀ j, v0 j = BitVec.ofNat 32 (j 1).val

/-- Chain links for chunk `cc`, each at its own position or later. -/
def KVec (cc : ℕ) (v : IVec S3x128 32) : Prop := ∀ j : S3x128.Idx, KeyOK (128 * cc + (j 1).val) (v j)

theorem lane_iota : LaneOK (iota .tc S3x128 32 [1] iota_S3x128_d1_w32) := fun j => by
  unfold iota
  congr 1
  simp

theorem slt_nat {l : ℕ} (m : BitVec 32) (hl : l < 128) (hm : m.toNat ≤ 128) (h : (BitVec.ofNat 32 l).slt m = true) : l < m.toNat := by
  rw [BitVec.slt, BitVec.toInt_ofNat', BitVec.toInt_eq_toNat_bmod, Int.bmod_eq_of_le, Int.bmod_eq_of_le] at h
  · simpa using h
  all_goals omega

theorem kvec_minsi {cc : ℕ} {a b : IVec S3x128 32} (ha : KVec cc a) (hb : KVec cc b) : KVec cc (minsi a b) := fun j => by
  show KeyOK _ (if (a j).slt (b j) then a j else b j)
  split
  · exact ha j
  · exact hb j

theorem kvec_none (cc : ℕ) : KVec cc (broadcast S3x128 1073741824#32) := fun _ => .inl rfl

theorem kvec_step {cc : ℕ} {v0 : IVec S3x128 32} (h0 : LaneOK v0) {m : BitVec 32} (hm : 0 < m.toNat ∧ m.toNat ≤ 128)
    {v : IVec S3x128 32} (hv : KVec cc v) {h} :
    KVec cc (minsi v (select (cmpi .slt v0 (broadcast S3x128 m)) (dynamicRotate 1 m none v h) (broadcast S3x128 1073741824#32))) := by
  refine kvec_minsi hv fun j => ?_
  have hj : (j 1).val < 128 := (j 1).isLt
  show KeyOK _ (if BitVec.ofBool ((v0 j).slt m) = 1 then dynamicRotate 1 m none v h j else 1073741824#32)
  split
  next hc =>
    have hs : (BitVec.ofNat 32 (j 1).val).slt m = true := by
      rw [h0 j] at hc
      cases hb : (BitVec.ofNat 32 (j 1).val).slt m
      · rw [hb] at hc; exact absurd hc (by decide)
      · rfl
    have hlt := slt_nat m hj hm.2 hs
    rw [dynamicRotate_apply 1 m v h j (ix2 (j 0) ⟨(j 1).val + 128 - m.toNat, by omega⟩) (fun b => by
      match b with
      | ⟨0, _⟩ => rfl
      | ⟨1, _⟩ =>
        show (j 1).val + 128 - m.toNat = ((j 1).val + 128 - m.toNat % 128) % 128
        rcases Nat.lt_or_ge m.toNat 128 with h | h
        · rw [Nat.mod_eq_of_lt h, Nat.mod_eq_of_lt (by omega)]
        · have : m.toNat = 128 := by omega
          rw [this]; omega)]
    exact (hv _).mono (by show 128 * cc + (j 1).val ≤ 128 * cc + ((j 1).val + 128 - m.toNat); omega)
  next => exact .inl rfl

/-- A valid voxel is one below 9000. -/
theorem valid_lt {w : BitVec 32} (h : IntOp.andi (IntOp.cmpi .sge w 0#32) (IntOp.cmpi .slt w 9000#32) = 1#1) : w.toNat < 9000 := by
  have h1 : (0#32).sle w = true ∧ w.slt 9000#32 = true := by
    have : (BitVec.ofBool ((0#32).sle w) &&& BitVec.ofBool (w.slt 9000#32)) = 1#1 := h
    cases ha : (0#32).sle w <;> cases hb : w.slt 9000#32 <;> simp [ha, hb] at this ⊢
  obtain ⟨ha, hb⟩ := h1
  rw [BitVec.sle] at ha
  rw [BitVec.slt] at hb
  have h9 : (9000#32).toInt = 9000 := by decide
  have h0 : (0#32).toInt = 0 := by decide
  simp only [decide_eq_true_eq, h9, h0] at ha hb
  rw [BitVec.toInt_eq_toNat_cond] at ha hb
  split at ha <;> omega

theorem andi_right {a b : BitVec 1} (h : IntOp.andi a b = 1#1) : b = 1#1 := by
  revert a b; decide

theorem andi_left {a b : BitVec 1} (h : IntOp.andi a b = 1#1) : a = 1#1 := by
  revert a b; decide

theorem kvec_base (cc : Fin 4) {v0 : IVec S3x128 32} (h0 : LaneOK v0) {x : IVec S3x128 32} {d : IVec S3x128 1} {off : BitVec 32}
    (hoff : off = BitVec.ofNat 32 (128 * cc.val)) :
    KVec cc.val (select (andi d (andi (cmpi .sge x (broadcast S3x128 0#32)) (cmpi .slt x (broadcast S3x128 9000#32))))
      (ori (shli (addi v0 (broadcast S3x128 off)) (broadcast S3x128 14#32)) x) (broadcast S3x128 1073741824#32)) := fun j => by
  subst hoff
  have hj : (j 1).val < 128 := (j 1).isLt
  have hcc := cc.isLt
  show KeyOK _ (if IntOp.andi (d j) (IntOp.andi (IntOp.cmpi .sge (x j) 0#32) (IntOp.cmpi .slt (x j) 9000#32)) = 1 then
    (IntOp.shli .vector (v0 j + BitVec.ofNat 32 (128 * cc.val)) 14#32) ||| x j else 1073741824#32)
  split
  next hc =>
    have hv := valid_lt (andi_right hc)
    refine .inr ⟨128 * cc.val + (j 1).val, (x j).toNat, le_rfl, by omega, hv, ?_⟩
    rw [h0 j]
    have e : IntOp.shli .vector (BitVec.ofNat 32 (j 1).val + BitVec.ofNat 32 (128 * cc.val)) 14#32
        = BitVec.ofNat 32 ((128 * cc.val + (j 1).val) * 16384) := by
      unfold IntOp.shli
      rw [if_pos (by decide)]
      apply BitVec.eq_of_toNat_eq
      rw [BitVec.shiftLeft_eq', BitVec.toNat_shiftLeft, BitVec.toNat_add, BitVec.toNat_ofNat, BitVec.toNat_ofNat, BitVec.toNat_ofNat,
        BitVec.toNat_ofNat, Nat.shiftLeft_eq, show 2 ^ (14 % 2 ^ 32) = 16384 from rfl]
      omega
    rw [e]
    apply BitVec.eq_of_toNat_eq
    rw [BitVec.toNat_or, BitVec.toNat_ofNat, BitVec.toNat_ofNat, Nat.mod_eq_of_lt (by omega), Nat.mod_eq_of_lt (by omega),
      show (128 * cc.val + (j 1).val) * 16384 = (128 * cc.val + (j 1).val) <<< 14 from by rw [Nat.shiftLeft_eq],
      Nat.shiftLeft_add_eq_or_of_lt (by omega)]
  next => exact .inl rfl

/-- The first link of the next chunk, for every lane. -/
theorem kvec_tail (cc : ℕ) {v : IVec S3x128 32} (hv : KVec (cc + 1) v) {h1 h2 h3} :
    KVec cc (broadcastTo S3x128 (shapeCast S3x1 (extractStridedSlice S3x1 ![0, 0] v h1) h2) h3) := fun j => by
  have hj : (j 1).val < 128 := (j 1).isLt
  have e : broadcastTo S3x128 (shapeCast S3x1 (extractStridedSlice S3x1 ![0, 0] v h1) h2) h3 j = v (ix2 (j 0) (0 : Fin 128)) :=
    (broadcastTo_apply (shapeCast S3x1 (extractStridedSlice S3x1 ![0, 0] v h1) h2) h3 j (ix2 (j 0) (0 : Fin 1))
      (fun a => by match a with | ⟨0, _⟩ => rfl | ⟨1, _⟩ => rfl)).trans
    ((shapeCast_apply (extractStridedSlice S3x1 ![0, 0] v h1) h2 (ix2 (j 0) (0 : Fin 1)) (ix2 (j 0) (0 : Fin 1)) rfl).trans
    (congrArg v (funext fun a => by
      match a with
      | ⟨0, _⟩ => exact Fin.ext (Nat.zero_add _)
      | ⟨1, _⟩ => rfl)))
  rw [e]
  exact (hv _).mono (by show 128 * cc + (j 1).val ≤ 128 * (cc + 1) + 0; omega)

/-- Row offsets. -/
theorem rvec {x : IVec S3x128 32} {d : IVec S3x128 1} (j : S3x128.Idx) :
    RecOK (muli (select (andi (andi (cmpi .sge x (broadcast S3x128 0#32)) (cmpi .slt x (broadcast S3x128 9000#32))) d) x (broadcast S3x128 9216#32))
      (broadcast S3x128 7#32) j) := by
  show RecOK ((if IntOp.andi (IntOp.andi (IntOp.cmpi .sge (x j) 0#32) (IntOp.cmpi .slt (x j) 9000#32)) (d j) = 1 then x j else 9216#32) * 7#32)
  unfold RecOK
  rw [BitVec.toNat_mul]
  split
  next hc =>
    have hv := valid_lt (andi_left hc)
    rw [show (7#32).toNat = 7 from rfl, Nat.mod_eq_of_lt (by omega)]; omega
  next => decide

/-! ## The pieces of one trip -/

abbrev Piece4 := View.Piece (Elt F) S3x64x4x128 .i32

/-- A piece of row offsets. -/
def RecPiece (p : Piece4 (F := F)) : Prop := ∀ x : p.1.shape.Idx, RecOK (p.2 x)

/-- A piece of links: each for the position its place stands for. -/
def KeyPiece (p : Piece4 (F := F)) : Prop := ∀ x : p.1.shape.Idx, KeyOK (128 * (p.1.emb x 2).val + (p.1.emb x 3).val) (p.2 x)

theorem recPiece_mk {off : Fin 4 → ℕ} {inb} {v : IVec S3x128 32} (hv : ∀ j, RecOK (v j)) {h : S3x128.ShapeCasts S3x1x1x128} :
    RecPiece (F := F) ⟨Rect.unit (s := S3x64x4x128) off S3x1x1x128.size inb, shapeCast S3x1x1x128 v h⟩ := fun x => by
  show RecOK (shapeCast S3x1x1x128 v h x)
  unfold shapeCast
  exact hv _

theorem keyPiece_mk {off : Fin 4 → ℕ} {inb} {v : IVec S3x128 32} {cc : ℕ} (h2 : off 2 = cc) (h3 : off 3 = 0) (hv : KVec cc v)
    {h : S3x128.ShapeCasts S3x1x1x128} :
    KeyPiece (F := F) ⟨Rect.unit (s := S3x64x4x128) off S3x1x1x128.size inb, shapeCast S3x1x1x128 v h⟩ := fun x => by
  have x1 : ((x : S3x1x1x128.Idx) 1).val < 1 := (x 1).isLt
  have x2 : ((x : S3x1x1x128.Idx) 2).val < 1 := (x 2).isLt
  show KeyOK (128 * (off 2 + 1 * (x 2).val) + (off 3 + 1 * (x 3).val)) (shapeCast S3x1x1x128 v h (x : S3x1x1x128.Idx))
  rw [shapeCast_apply v h (x : S3x1x1x128.Idx) (ix2 (x 0) (x 3)) (by
    rw [Shape.rowMajor_val_two, Shape.rowMajor_val_four]
    show (x 0).val * 128 + (x 3).val = (((x 0).val * 1 + (x 1).val) * 1 + (x 2).val) * 128 + (x 3).val
    omega)]
  exact (hv _).mono (by show _ ≤ 128 * cc + (x 3).val; omega)

/-- The seven scan steps on a chunk's own keys. -/
theorem kvec_scan (cc : Fin 4) {v0 : IVec S3x128 32} (h0 : LaneOK v0) {x : IVec S3x128 32} {d : IVec S3x128 1} {off : BitVec 32}
    (hoff : off = BitVec.ofNat 32 (128 * cc.val)) {m1 m2 m3 m4 m5 m6 m7 : BitVec 32}
    (h1 : 0 < m1.toNat ∧ m1.toNat ≤ 128) (h2 : 0 < m2.toNat ∧ m2.toNat ≤ 128) (h3 : 0 < m3.toNat ∧ m3.toNat ≤ 128)
    (h4 : 0 < m4.toNat ∧ m4.toNat ≤ 128) (h5 : 0 < m5.toNat ∧ m5.toNat ≤ 128) (h6 : 0 < m6.toNat ∧ m6.toNat ≤ 128)
    (h7 : 0 < m7.toNat ∧ m7.toNat ≤ 128) {r} :
    let st := fun (m : BitVec 32) (v : IVec S3x128 32) =>
      minsi v (select (cmpi .slt v0 (broadcast S3x128 m)) (dynamicRotate 1 m none v r) (broadcast S3x128 1073741824#32))
    KVec cc.val (st m7 (st m6 (st m5 (st m4 (st m3 (st m2 (st m1
      (select (andi d (andi (cmpi .sge x (broadcast S3x128 0#32)) (cmpi .slt x (broadcast S3x128 9000#32))))
        (ori (shli (addi v0 (broadcast S3x128 off)) (broadcast S3x128 14#32)) x) (broadcast S3x128 1073741824#32))))))))) :=
  kvec_step h0 h7 (kvec_step h0 h6 (kvec_step h0 h5 (kvec_step h0 h4 (kvec_step h0 h3 (kvec_step h0 h2 (kvec_step h0 h1
    (kvec_base cc h0 hoff)))))))

section Trip
variable (arg0 : Memref sig .tc .vmem S3x32768 .i32) {v0 : IVec S3x128 32} (h0 : LaneOK v0)
  (X : BufTy.Contents (Elt F) arg0.view.ty) (k : Fin k0_t1_loop.trips)
include h0

theorem kvec3 : KVec 3 (trip_k0_t1.sl.v451 arg0 v0 X k) :=
  kvec_minsi (kvec_scan 3 h0 rfl (by decide) (by decide) (by decide) (by decide) (by decide) (by decide) (by decide)) (kvec_none 3)

theorem kvec2 : KVec 2 (trip_k0_t1.sl.v459 arg0 v0 X k) :=
  kvec_minsi (kvec_scan 2 h0 rfl (by decide) (by decide) (by decide) (by decide) (by decide) (by decide) (by decide))
    (kvec_tail 2 (kvec3 arg0 h0 X k))

theorem kvec1 : KVec 1 (trip_k0_t1.sl.v467 arg0 v0 X k) :=
  kvec_minsi (kvec_scan 1 h0 rfl (by decide) (by decide) (by decide) (by decide) (by decide) (by decide) (by decide))
    (kvec_tail 1 (kvec2 arg0 h0 X k))

theorem kvec0 {h1 h2 h3} : KVec 0 (minsi (trip_k0_t1.sl.v182 arg0 v0 X k)
    (broadcastTo S3x128 (shapeCast S3x1 (extractStridedSlice S3x1 ![0, 0] (trip_k0_t1.sl.v467 arg0 v0 X k) h1) h2) h3)) :=
  kvec_minsi (kvec_scan 0 h0 rfl (by decide) (by decide) (by decide) (by decide) (by decide) (by decide) (by decide))
    (kvec_tail 0 (kvec1 arg0 h0 X k))

variable (𝒱 : Variants) (c : Dev nD) (bd : Option 𝒱.V) (harg0 : arg0.IsWhole)
  (arg1 : Memref sig .tc .vmem S3x64x4x128 .i32) (harg1 : arg1.IsWhole) (arg2 : Memref sig .tc .vmem S3x64x4x128 .i32) (harg2 : arg2.IsWhole)

theorem trip_recs : ∀ p ∈ (tripL_k0_t1 (F := F) 𝒱 c bd arg0 harg0 arg1 harg1 arg2 harg2 v0 X k).1, RecPiece p := by
  unfold tripL_k0_t1 trip_k0_t1
  dsimp only
  intro p hp
  simp only [List.mem_cons, List.not_mem_nil, or_false] at hp
  rcases hp with rfl | rfl | rfl | rfl
  · exact recPiece_mk (fun j => rvec j)
  · exact recPiece_mk (fun j => rvec j)
  · exact recPiece_mk (fun j => rvec j)
  · exact recPiece_mk (fun j => rvec j)

theorem trip_keys : ∀ p ∈ (tripL_k0_t1 (F := F) 𝒱 c bd arg0 harg0 arg1 harg1 arg2 harg2 v0 X k).2, KeyPiece p := by
  unfold tripL_k0_t1 trip_k0_t1
  dsimp only
  intro p hp
  simp only [List.mem_cons, List.not_mem_nil, or_false] at hp
  rcases hp with rfl | rfl | rfl | rfl
  · exact keyPiece_mk (by rw [k0_off2_eq]; rfl) (by rw [k0_off2_eq]; rfl) (kvec0 arg0 h0 X k)
  · exact keyPiece_mk (by rw [k0_off3_eq]; rfl) (by rw [k0_off3_eq]; rfl) (kvec1 arg0 h0 X k)
  · exact keyPiece_mk (by rw [k0_off4_eq]; rfl) (by rw [k0_off4_eq]; rfl) (kvec2 arg0 h0 X k)
  · exact keyPiece_mk (by rw [k0_off5_eq]; rfl) (by rw [k0_off5_eq]; rfl) (kvec3 arg0 h0 X k)

omit h0 in
/-- A block of one unit and chunk holds the places of that unit and chunk. -/
theorem mem_unit {off : Fin 4 → ℕ} {inb} {u cc : ℕ} (e : off = ![0, u, cc, 0]) (y : S3x64x4x128.Idx) (hu : (y 1).val = u) (hc : (y 2).val = cc) :
    y ∈ (Rect.unit (s := S3x64x4x128) off S3x1x1x128.size inb).set := by
  subst e
  refine (Rect.mem_set_unit (inb := inb)).mpr fun a => ?_
  match a with
  | ⟨0, _⟩ => exact ⟨Nat.zero_le _, by show (y 0).val < 0 + 3; have := (y 0).isLt; simpa using this⟩
  | ⟨1, _⟩ => exact ⟨hu.ge, by show (y 1).val < u + 1; omega⟩
  | ⟨2, _⟩ => exact ⟨hc.ge, by show (y 2).val < cc + 1; omega⟩
  | ⟨3, _⟩ => exact ⟨Nat.zero_le _, by show (y 3).val < 0 + 128; have := (y 3).isLt; simpa using this⟩

omit h0 in
theorem trip_cover (y : S3x64x4x128.Idx) (hy : (y 1).val = k.val) :
    (∃ p ∈ (tripL_k0_t1 (F := F) 𝒱 c bd arg0 harg0 arg1 harg1 arg2 harg2 v0 X k).1, y ∈ p.1.set) ∧
    (∃ p ∈ (tripL_k0_t1 (F := F) 𝒱 c bd arg0 harg0 arg1 harg1 arg2 harg2 v0 X k).2, y ∈ p.1.set) := by
  have h2 : (y 2).val < 4 := (y 2).isLt
  unfold tripL_k0_t1 trip_k0_t1
  dsimp only
  simp only [List.mem_cons, List.not_mem_nil, or_false, exists_eq_or_imp, exists_eq_left]
  rcases (by omega : (y 2).val = 0 ∨ (y 2).val = 1 ∨ (y 2).val = 2 ∨ (y 2).val = 3) with h | h | h | h
  · exact ⟨.inr (.inr (.inr (mem_unit (k0_off2_eq k) y hy h))), .inl (mem_unit (k0_off2_eq k) y hy h)⟩
  · exact ⟨.inr (.inr (.inl (mem_unit (k0_off3_eq k) y hy h))), .inr (.inl (mem_unit (k0_off3_eq k) y hy h))⟩
  · exact ⟨.inr (.inl (mem_unit (k0_off4_eq k) y hy h)), .inr (.inr (.inl (mem_unit (k0_off4_eq k) y hy h)))⟩
  · exact ⟨.inl (mem_unit (k0_off5_eq k) y hy h), .inr (.inr (.inr (mem_unit (k0_off5_eq k) y hy h)))⟩

end Trip

section Loop
variable (arg0 : Memref sig .tc .vmem S3x32768 .i32) {v0 : IVec S3x128 32} (h0 : LaneOK v0)
  (X : BufTy.Contents (Elt F) arg0.view.ty) (𝒱 : Variants) (c : Dev nD) (bd : Option 𝒱.V) (harg0 : arg0.IsWhole)
  (arg1 : Memref sig .tc .vmem S3x64x4x128 .i32) (harg1 : arg1.IsWhole) (arg2 : Memref sig .tc .vmem S3x64x4x128 .i32) (harg2 : arg2.IsWhole)

local notation "PB" => pb_k0_t1 (F := F) 𝒱 c bd arg0 harg0 arg1 harg1 arg2 harg2 v0 X

include h0 in
theorem loop_good : ∀ n ≤ k0_t1_loop.trips, (∀ p ∈ (PB n).1, RecPiece p) ∧ (∀ p ∈ (PB n).2, KeyPiece p)
  | 0, _ => ⟨fun p hp => absurd hp List.not_mem_nil, fun p hp => absurd hp List.not_mem_nil⟩
  | n + 1, hn => by
    have ih := loop_good n (Nat.le_of_succ_le hn)
    have e := pb_k0_t1_succ (F := F) 𝒱 c bd arg0 harg0 arg1 harg1 arg2 harg2 v0 X ⟨n, hn⟩
    rw [show PB (n + 1) = _ from e]
    refine ⟨fun p hp => ?_, fun p hp => ?_⟩
    · rcases List.mem_append.mp hp with h | h
      · exact trip_recs arg0 h0 X ⟨n, hn⟩ 𝒱 c bd harg0 arg1 harg1 arg2 harg2 p h
      · exact ih.1 p h
    · rcases List.mem_append.mp hp with h | h
      · exact trip_keys arg0 h0 X ⟨n, hn⟩ 𝒱 c bd harg0 arg1 harg1 arg2 harg2 p h
      · exact ih.2 p h

theorem loop_cover : ∀ n ≤ k0_t1_loop.trips, ∀ y : S3x64x4x128.Idx, (y 1).val < n →
    (∃ p ∈ (PB n).1, y ∈ p.1.set) ∧ (∃ p ∈ (PB n).2, y ∈ p.1.set)
  | 0, _, _, h => absurd h (Nat.not_lt_zero _)
  | n + 1, hn, y, hy => by
    have e := pb_k0_t1_succ (F := F) 𝒱 c bd arg0 harg0 arg1 harg1 arg2 harg2 v0 X ⟨n, hn⟩
    rw [show PB (n + 1) = _ from e]
    rcases Nat.lt_succ_iff_lt_or_eq.mp hy with h | h
    · obtain ⟨⟨p, hp, hpy⟩, ⟨q, hq, hqy⟩⟩ := loop_cover n (Nat.le_of_succ_le hn) y h
      exact ⟨⟨p, List.mem_append_right _ hp, hpy⟩, ⟨q, List.mem_append_right _ hq, hqy⟩⟩
    · obtain ⟨⟨p, hp, hpy⟩, ⟨q, hq, hqy⟩⟩ := trip_cover (F := F) arg0 X ⟨n, hn⟩ (v0 := v0) 𝒱 c bd harg0 arg1 harg1 arg2 harg2 y h
      exact ⟨⟨p, List.mem_append_left _ hp, hpy⟩, ⟨q, List.mem_append_left _ hq, hqy⟩⟩

end Loop

/-- A property every payload has, the covered place has. -/
theorem canon_good {S : Shape} {e : EltTy} (P : S.Idx → Elt F e → Prop) :
    ∀ (L : List (View.Piece (Elt F) S e)), (∀ p ∈ L, ∀ x, P (p.1.emb x) (p.2 x)) → ∀ y, (∃ p ∈ L, y ∈ p.1.set) → P y (View.canon L y)
  | [], _, _, h => by obtain ⟨_, hm, _⟩ := h; exact absurd hm List.not_mem_nil
  | p :: L, hL, y, h => by
    by_cases hy : y ∈ p.1.set
    · obtain ⟨r, w⟩ := p
      obtain ⟨x, rfl⟩ : ∃ x, r.emb x = y := r.exists_idx_of_mem hy
      rw [View.canon_cons_emb]
      exact hL _ List.mem_cons_self x
    · rw [View.canon_cons_of_not_mem _ _ hy]
      refine canon_good P L (fun q hq => hL q (List.mem_cons_of_mem _ hq)) y ?_
      obtain ⟨q, hm, hq⟩ := h
      rcases List.mem_cons.mp hm with rfl | hm
      · exact absurd hq hy
      · exact ⟨q, hm, hq⟩

end Cert.Proof.KernelIdeal
-- ==== Proof.KernelIdeal.While.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init
public import proofs.«01_k».proof.Proof.KernelIdeal.Words

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # The two chain walks

After the first occurrences of its voxels, a step of the kernel walks the chain of the repeated ones with a while
loop. Each of the two walks is met here by an induction on how many positions are left: a walk reads and writes the
table, reads the point rows and the chain, and ends. -/

local notation "𝕄" => MT nD τ sig Unit (Elt F) ℕ (UR sig nD τ) ℕ

variable (c : Dev nD) (i : grid1.Coords)
  (arg13 : Memref sig .tc .vmem S64528x128 .f32) (harg13 : arg13.IsWhole)
  (arg14 : Memref sig .tc .vmem S7176x128 .f32) (harg14 : arg14.IsWhole) (v2 : IVec S7x128 1)
  (arg8 : Memref sig .tc .smem S1x1x2x4x128 .i32) (harg8 : arg8.IsWhole)

/-- The word of the chain of unit `u` at position `p`, read where the kernel reads it. -/
abbrev chainWord (C : BufTy.Contents (Elt F) arg8.view.ty) (u : Fin 2) (p : ℕ) (hp : p < 512) : BitVec 32 :=
  View.readAt (Elt F) arg8.view (Rect.unit (s := S1x1x2x4x128) (chainOff u.val p) S1x1x1x1x1.size (chainOff_inb hp u)).toLoadRect C
    (Shape.Idx.first (s := S1x1x1x1x1) (by decide))

/-- The chain's words lead forward: at position `p` the end, or a position no smaller. -/
def ChainOK (C : BufTy.Contents (Elt F) arg8.view.ty) : Prop :=
  ∀ (u : Fin 2) (p : ℕ) (hp : p < 512), KeyOK p (chainWord arg8 C u p hp)

/-- What a walk holds: the table at anything, the point rows and the chain. -/
abbrev WalkRes (P : BufTy.Contents (Elt F) arg14.view.ty) (C : BufTy.Contents (Elt F) arg8.view.ty) : sProp 𝕄 :=
  iprop((∃ T, arg13.view.loc (c : Thread nD τ) ↦[arg13.view.set]{fullShare} T)
    ∗ (arg14.view.loc (c : Thread nD τ) ↦[arg14.view.set]{fullShare} P)
    ∗ (arg8.view.loc (c : Thread nD τ) ↦[arg8.view.set]{fullShare} C))

theorem slt_512 : ∀ q : Fin 512, Scalar.cmpi .slt (Scalar.addi (BitVec.ofNat 32 q.val) 1#32) 512#32
    = if q.val + 1 < 512 then 1#1 else 0#1 := by decide +kernel

/-- The word a walk goes on with after position `q`: a link at a later position. -/
theorem next_key {u : Fin 2} {q : ℕ} (hq : q < 512) {off : Fin 5 → ℕ} (hoff : off = chainOff u.val (min (q + 1) 511))
    (hin : ∀ a, off a + S1x1x1x1x1.size a ≤ S1x1x2x4x128.size a) (C : BufTy.Contents (Elt F) arg8.view.ty)
    (hC : ∀ (p : ℕ) (hp : p < 512), KeyOK p (chainWord arg8 C u p hp)) :
    KeyOK (q + 1) (Scalar.select (Scalar.cmpi .slt (Scalar.addi (BitVec.ofNat 32 q) 1#32) 512#32)
      (View.readAt (Elt F) arg8.view (Rect.unit (s := S1x1x2x4x128) off S1x1x1x1x1.size hin).toLoadRect C
        (Shape.Idx.first (s := S1x1x1x1x1) (by decide))) 1073741824#32) := by
  rw [slt_512 ⟨q, hq⟩]
  subst hoff
  by_cases h : q + 1 < 512
  · rw [if_pos h]
    refine (hC (min (q + 1) 511) (by omega)).mono ?_
    omega
  · rw [if_neg h]; exact .inl rfl

theorem defs₀_row2 (a : BitVec 32) : defs₀ (F := F) .tc (2 : (Λ₀ F).Label)
    ⟨i, arg13, harg13, arg14, harg14, v2, arg8, harg8, a⟩ = cc1_while1 i arg13 harg13 arg14 harg14 v2 arg8 harg8 a := by
  unfold defs₀; rw [Defs.onTc_tc]

/-- The first walk from a link at position `p` or later, with `512 - p` positions left at most. -/
theorem while1_spec (P : BufTy.Contents (Elt F) arg14.view.ty) (C : BufTy.Contents (Elt F) arg8.view.ty)
    (hC : ChainOK arg8 C) : ∀ (n p : ℕ) (k : BitVec 32), KeyOK p k → 512 - p ≤ n →
      WalkRes c arg13 arg14 arg8 P C
      ⊢ wp frame (wpE (defs₀ (F := F)) Variants.nat (c : Thread nD τ) (some n)) Set.univ
          (cc1_while1 i arg13 harg13 arg14 harg14 v2 arg8 harg8 k) (fun _ => WalkRes c arg13 arg14 arg8 P C) := by
  intro n
  induction n with
  | zero =>
    intro p k hk hn
    rcases hk with rfl | ⟨q, v, h1, h2, _⟩
    · unfold cc1_while1
      simp only [if_neg not_slt_none]
      iintro H
      sl_step
      iexact H
    · omega
  | succ n ih =>
    intro p k hk hn
    rcases hk with rfl | ⟨q, v, h1, hq, hv, rfl⟩
    · unfold cc1_while1
      simp only [if_neg not_slt_none]
      iintro H
      sl_step
      iexact H
    · unfold cc1_while1
      have hchk := chk17_key hq hv
      simp only [if_pos (slt_key hq hv)]
      iintro ⟨⟨%T, H1⟩, H2, H3⟩
      sl_exec_parts
      sl_unfold_run_names
      have hnext : KeyOK (q + 1) (Scalar.select (Scalar.cmpi .slt (Scalar.addi (Scalar.shrsi (BitVec.ofNat 32 (q * 16384 + v)) 14#32) 1#32) 512#32)
          (View.readAt (Elt F) arg8.view (Rect.unit (s := S1x1x2x4x128) (k1_off40 (BitVec.ofNat 32 (q * 16384 + v))) S1x1x1x1x1.size
            (k1_off40_inb _ hchk)).toLoadRect C (Shape.Idx.first (s := S1x1x1x1x1) (by decide))) 1073741824#32) := by
        rw [key_shr hq hv]
        exact next_key arg8 hq (off40_key hq hv) _ C (hC 0)
      iapply (wp_call Variants.nat (c : Thread nD τ) (some (n + 1)) Set.univ n (fun u hu => by cases hu; exact Nat.lt_succ_self n))
      rw [defs₀_row2]
      iapply (wp_wand_r Idealize.ShloMosaic.frame (wpE (defs₀ (F := F)) Variants.nat (c : Thread nD τ) (some n)) Set.univ)
      isplitl [H1 H2 H3]
      · iapply (ih (q + 1) _ hnext (by omega))
        isplitl [H1]
        · iexists _; iexact H1
        isplitl [H2]; · iexact H2
        iexact H3
      · iintro %_ H
        sl_step
        iexact H

theorem defs₀_row3 (a : BitVec 32) : defs₀ (F := F) .tc (3 : (Λ₀ F).Label)
    ⟨i, arg13, harg13, arg14, harg14, v2, arg8, harg8, a⟩ = cc1_while2 i arg13 harg13 arg14 harg14 v2 arg8 harg8 a := by
  unfold defs₀; rw [Defs.onTc_tc]

/-- The second walk, over the second half of the point rows. -/
theorem while2_spec (P : BufTy.Contents (Elt F) arg14.view.ty) (C : BufTy.Contents (Elt F) arg8.view.ty)
    (hC : ChainOK arg8 C) : ∀ (n p : ℕ) (k : BitVec 32), KeyOK p k → 512 - p ≤ n →
      WalkRes c arg13 arg14 arg8 P C
      ⊢ wp frame (wpE (defs₀ (F := F)) Variants.nat (c : Thread nD τ) (some n)) Set.univ
          (cc1_while2 i arg13 harg13 arg14 harg14 v2 arg8 harg8 k) (fun _ => WalkRes c arg13 arg14 arg8 P C) := by
  intro n
  induction n with
  | zero =>
    intro p k hk hn
    rcases hk with rfl | ⟨q, v, h1, h2, _⟩
    · unfold cc1_while2
      simp only [if_neg not_slt_none]
      iintro H
      sl_step
      iexact H
    · omega
  | succ n ih =>
    intro p k hk hn
    rcases hk with rfl | ⟨q, v, h1, hq, hv, rfl⟩
    · unfold cc1_while2
      simp only [if_neg not_slt_none]
      iintro H
      sl_step
      iexact H
    · unfold cc1_while2
      have hchk := chk34_key hq hv
      simp only [if_pos (slt_key hq hv)]
      iintro ⟨⟨%T, H1⟩, H2, H3⟩
      sl_exec_parts
      sl_unfold_run_names
      have hnext : KeyOK (q + 1) (Scalar.select (Scalar.cmpi .slt (Scalar.addi (Scalar.shrsi (BitVec.ofNat 32 (q * 16384 + v)) 14#32) 1#32) 512#32)
          (View.readAt (Elt F) arg8.view (Rect.unit (s := S1x1x2x4x128) (k1_off79 (BitVec.ofNat 32 (q * 16384 + v))) S1x1x1x1x1.size
            (k1_off79_inb _ hchk)).toLoadRect C (Shape.Idx.first (s := S1x1x1x1x1) (by decide))) 1073741824#32) := by
        rw [key_shr hq hv]
        exact next_key arg8 hq (off79_key hq hv) _ C (hC 1)
      iapply (wp_call Variants.nat (c : Thread nD τ) (some (n + 1)) Set.univ n (fun u hu => by cases hu; exact Nat.lt_succ_self n))
      rw [defs₀_row3]
      iapply (wp_wand_r Idealize.ShloMosaic.frame (wpE (defs₀ (F := F)) Variants.nat (c : Thread nD τ) (some n)) Set.univ)
      isplitl [H1 H2 H3]
      · iapply (ih (q + 1) _ hnext (by omega))
        isplitl [H1]
        · iexists _; iexact H1
        isplitl [H2]; · iexact H2
        iexact H3
      · iintro %_ H
        sl_step
        iexact H

/-- The call of the first walk from any link, by a caller that holds what the walk needs. -/
theorem call_while1 (P : BufTy.Contents (Elt F) arg14.view.ty) (C : BufTy.Contents (Elt F) arg8.view.ty)
    (hC : ChainOK arg8 C) (key : BitVec 32) (hk : KeyOK 0 key) {α : Type}
    (κ : BitVec 32 → Prog (TpuEff nD τ sig (Elt F) (Λ₀ F) .tc) α) (Q : α → sProp 𝕄) :
    iprop(WalkRes c arg13 arg14 arg8 P C ∗ (∀ x, WalkRes c arg13 arg14 arg8 P C
        -∗ wp Idealize.ShloMosaic.frame (wpE (defs₀ (F := F)) Variants.nat (c : Thread nD τ) none) Set.univ (κ x) Q))
      ⊢ wp Idealize.ShloMosaic.frame (wpE (defs₀ (F := F)) Variants.nat (c : Thread nD τ) none) Set.univ
          (.op (.call (2 : (Λ₀ F).Label) ⟨i, arg13, harg13, arg14, harg14, v2, arg8, harg8, key⟩) κ) Q := by
  iintro ⟨H, Hκ⟩
  iapply (wp_call Variants.nat (c : Thread nD τ) none Set.univ (512 : ℕ) (fun u hu => nomatch hu))
  rw [defs₀_row2]
  iapply (wp_wand_r Idealize.ShloMosaic.frame (wpE (defs₀ (F := F)) Variants.nat (c : Thread nD τ) (some 512)) Set.univ)
  isplitl [H]
  · iapply (while1_spec c i arg13 harg13 arg14 harg14 v2 arg8 harg8 P C hC 512 0 key hk (by omega))
    iexact H
  · iexact Hκ

/-- The link the first walk starts from: the chain's first word, or the end when there is nothing to scatter. -/
theorem first_key1 (C : BufTy.Contents (Elt F) arg8.view.ty) (hC : ChainOK arg8 C) (b : BitVec 1) :
    KeyOK 0 (Scalar.select b (View.readAt (Elt F) arg8.view (Rect.unit (s := S1x1x2x4x128) ![0, 0, 0, 0, 0] S1x1x1x1x1.size
      inb_S1x1x2x4x128_S1x1x1x1x1_0_0_0_0_0).toLoadRect C (Shape.Idx.first (s := S1x1x1x1x1) (by decide))) 1073741824#32) := by
  unfold Scalar.select
  split
  · exact hC 0 0 (by omega)
  · exact .inl rfl

/-- The call of the second walk from any link, by a caller that holds what the walk needs. -/
theorem call_while2 (P : BufTy.Contents (Elt F) arg14.view.ty) (C : BufTy.Contents (Elt F) arg8.view.ty)
    (hC : ChainOK arg8 C) (key : BitVec 32) (hk : KeyOK 0 key) {α : Type}
    (κ : BitVec 32 → Prog (TpuEff nD τ sig (Elt F) (Λ₀ F) .tc) α) (Q : α → sProp 𝕄) :
    iprop(WalkRes c arg13 arg14 arg8 P C ∗ (∀ x, WalkRes c arg13 arg14 arg8 P C
        -∗ wp Idealize.ShloMosaic.frame (wpE (defs₀ (F := F)) Variants.nat (c : Thread nD τ) none) Set.univ (κ x) Q))
      ⊢ wp Idealize.ShloMosaic.frame (wpE (defs₀ (F := F)) Variants.nat (c : Thread nD τ) none) Set.univ
          (.op (.call (3 : (Λ₀ F).Label) ⟨i, arg13, harg13, arg14, harg14, v2, arg8, harg8, key⟩) κ) Q := by
  iintro ⟨H, Hκ⟩
  iapply (wp_call Variants.nat (c : Thread nD τ) none Set.univ (512 : ℕ) (fun u hu => nomatch hu))
  rw [defs₀_row3]
  iapply (wp_wand_r Idealize.ShloMosaic.frame (wpE (defs₀ (F := F)) Variants.nat (c : Thread nD τ) (some 512)) Set.univ)
  isplitl [H]
  · iapply (while2_spec c i arg13 harg13 arg14 harg14 v2 arg8 harg8 P C hC 512 0 key hk (by omega))
    iexact H
  · iexact Hκ

/-- The link the second walk starts from: the chain's first word, or the end when there is nothing to scatter. -/
theorem first_key2 (C : BufTy.Contents (Elt F) arg8.view.ty) (hC : ChainOK arg8 C) (b : BitVec 1) :
    KeyOK 0 (Scalar.select b (View.readAt (Elt F) arg8.view (Rect.unit (s := S1x1x2x4x128) ![0, 0, 1, 0, 0] S1x1x1x1x1.size
      inb_S1x1x2x4x128_S1x1x1x1x1_0_0_1_0_0).toLoadRect C (Shape.Idx.first (s := S1x1x1x1x1) (by decide))) 1073741824#32) := by
  unfold Scalar.select
  split
  · exact hC 1 0 (by omega)
  · exact .inl rfl

end Cert.Proof.KernelIdeal
-- ==== Proof.KernelIdeal.Groups.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init
public import proofs.«01_k».proof.Proof.KernelIdeal.While

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)

/-- Every word of the row-offset array is a row offset. -/
def RecsOK (R : BufTy.Contents (Elt F) arg7.view.ty) : Prop :=
  ∀ (off : Fin 5 → ℕ) (hin : ∀ a, off a + S1x1x1x1x1.size a ≤ S1x1x2x4x128.size a),
    RecOK (View.readAt (Elt F) arg7.view (Rect.unit (s := S1x1x2x4x128) off S1x1x1x1x1.size hin).toLoadRect R
      (Shape.Idx.first (s := S1x1x1x1x1) (by decide)))

theorem rec_inb {v : BitVec 32} (h : RecOK v) : ∀ a : Fin 2,
    (![(Scalar.indexCast v).toNat, 0] : Fin 2 → ℕ) a + S7x128.size a ≤ S64528x128.size a :=
  rows_inb (n := 64528) (by have : v.toNat ≤ 64512 := h; exact (by omega : v.toNat + 7 ≤ 64528))

set_option warn.classDefReducibility false in
/-- The first loop over the groups of first occurrences: every trip reads row offsets and point rows and rewrites
sixteen windows of the table. -/
@[sl_loop] def loopInv_k1_t2 (k1_h2 : k1_cond2 i = 1#1) (R : BufTy.Contents (Elt F) arg7.view.ty) (P : BufTy.Contents (Elt F) arg14.view.ty)
    (hR : RecsOK arg7 R) :
    LoopInvTy_k1_t2 (F := F) Unit ℕ (UR sig nD τ) ℕ Variants.nat c none Set.univ i arg2 harg2 arg3 harg3 arg4 harg4 arg5 harg5 arg6 harg6 arg7 harg7 arg8 harg8 arg9 harg9 arg10 harg10 arg11 harg11 arg12 harg12 arg13 harg13 arg14 harg14 k1_h2 where
  inv := fun _ _ => iprop((∃ T, arg13.view.loc (c : Thread nD τ) ↦[arg13.view.set]{fullShare} T)
    ∗ (arg14.view.loc (c : Thread nD τ) ↦[arg14.view.set]{fullShare} P)
    ∗ (arg7.view.loc (c : Thread nD τ) ↦[arg7.view.set]{fullShare} R))
  step := fun k acc => by
    have hk : k.val < 32 := Nat.lt_of_lt_of_le k.isLt k1_t2_abs.2.1
    unfold k1_t2_body
    iintro ⟨⟨%T, H1⟩, H2, H3⟩
    sl_exec (disch := first | exact ⟨fun _ => rec_inb (hR _ _), fun _ => rec_inb (hR _ _)⟩ | exact fun _ => rec_inb (hR _ _))
    sl_step
    isplitl [H1]
    · iexists _; iexact H1
    isplitl [H2]; · iexact H2
    iexact H3

set_option warn.classDefReducibility false in
/-- The second loop over the groups of first occurrences: every trip reads row offsets and point rows and rewrites
sixteen windows of the table. -/
@[sl_loop] def loopInv_k1_t3 (k1_h3 : k1_cond3 i = 1#1) (R : BufTy.Contents (Elt F) arg7.view.ty) (P : BufTy.Contents (Elt F) arg14.view.ty)
    (hR : RecsOK arg7 R) :
    LoopInvTy_k1_t3 (F := F) Unit ℕ (UR sig nD τ) ℕ Variants.nat c none Set.univ i arg2 harg2 arg3 harg3 arg4 harg4 arg5 harg5 arg6 harg6 arg7 harg7 arg8 harg8 arg9 harg9 arg10 harg10 arg11 harg11 arg12 harg12 arg13 harg13 arg14 harg14 k1_h3 where
  inv := fun _ _ => iprop((∃ T, arg13.view.loc (c : Thread nD τ) ↦[arg13.view.set]{fullShare} T)
    ∗ (arg14.view.loc (c : Thread nD τ) ↦[arg14.view.set]{fullShare} P)
    ∗ (arg7.view.loc (c : Thread nD τ) ↦[arg7.view.set]{fullShare} R))
  step := fun k acc => by
    have hk : k.val < 32 := Nat.lt_of_lt_of_le k.isLt k1_t3_abs.2.1
    unfold k1_t3_body
    iintro ⟨⟨%T, H1⟩, H2, H3⟩
    sl_exec (disch := first | exact ⟨fun _ => rec_inb (hR _ _), fun _ => rec_inb (hR _ _)⟩ | exact fun _ => rec_inb (hR _ _))
    sl_step
    isplitl [H1]
    · iexists _; iexact H1
    isplitl [H2]; · iexact H2
    iexact H3

end Cert.Proof.KernelIdeal
-- ==== Proof.KernelIdeal.Block.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init
public import proofs.«01_k».proof.Proof.KernelIdeal.Groups
public import Idealize.ShloMosaic.Lib.Writes
public import Idealize.ShloMosaic.Lib.ValueLayout

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

/-! # One block of point features

A step of the kernel computes 1024 points in four segments of 256. Each segment is a product with the weights, its
channels along the rows; it is transposed in chunks of 128 channels and stored as three pieces. This module says what
the twelve pieces of a block leave: at point `r` and channel `o`, the value of segment `r / 256` at row `o` and column
`r % 256`, rounded. -/

variable (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (h4 : k1_cond4 i = 1#1)

theorem seg_inb (r : Fin 4) : ∀ a, (![0, 256 * r.val, 0] : Fin 3 → ℕ) a + S1x256x2048.size a ≤ S1x1024x2048.size a := by
  have := r.isLt
  intro a
  fin_cases a <;> simp [S1x256x2048, S1x1024x2048] <;> omega

theorem pieceN_inb (r : Fin 4) (j : Fin 2) :
    ∀ a, (![0, 256 * r.val, 128 * j.val] : Fin 3 → ℕ) a + S1x256x128.size a ≤ S1x1024x320.size a := by
  have := r.isLt
  have := j.isLt
  intro a
  fin_cases a <;> simp [S1x256x128, S1x1024x320] <;> omega

theorem pieceT_inb (r : Fin 4) :
    ∀ a, (![0, 256 * r.val, 256] : Fin 3 → ℕ) a + S1x256x64.size a ≤ S1x1024x320.size a := by
  have := r.isLt
  intro a
  fin_cases a <;> simp [S1x256x64, S1x1024x320] <;> omega

theorem slice_ok (j : Fin 2) : S384x256.Slices ![128 * j.val, 0] S128x256 := by
  revert j; decide

/-- Segment `r` of the step: the channels along the rows, the 256 points along the columns. -/
abbrev seg (r : Fin 4) : FVec F S384x256 .f32 :=
  k1_pay71 (View.readAt (Elt F) arg2.view (Rect.unit (s := S1x1024x2048) ![0, 256 * r.val, 0] S1x256x2048.size (seg_inb r)).toLoadRect X2)
    (View.readAt (Elt F) arg3.view (Rect.unit (s := S320x2048) ![0, 0] S320x2048.size inb_S320x2048_S320x2048_0_0).toLoadRect X3)
    (View.readAt (Elt F) arg4.view (Rect.unit (s := S3x32768) (k1_off80 i (BitVec.ofNat 32 (256 * r.val))) S1x256.size (k1_off80_inb i h4 r)).toLoadRect X4)
    (View.readAt (Elt F) arg5.view (Rect.unit (s := S320x128) ![0, 0] S320x128.size inb_S320x128_S320x128_0_0).toLoadRect X5)
    (View.readAt (Elt F) arg6.view (Rect.unit (s := S320x128) ![0, 0] S320x128.size inb_S320x128_S320x128_0_0).toLoadRect X6)

/-- Channels `128 j ..` of a segment, as stored. -/
abbrev pieceN (v : FVec F S384x256 .f32) (r : Fin 4) (j : Fin 2) : View.Piece (Elt F) S1x1024x320 .bf16 :=
  ⟨Rect.unit (s := S1x1024x320) ![0, 256 * r.val, 128 * j.val] S1x256x128.size (pieceN_inb r j),
    shapeCast S1x256x128 (truncf .bf16 (transpose S256x128 [1, 0] (extractStridedSlice S128x256 ![128 * j.val, 0] v (slice_ok j))
      transposes_S128x256_p1_0_S256x128) bitsLt_bf16_f32) shapeCasts_S256x128_S1x256x128⟩

/-- The last 64 channels of a segment, as stored. -/
abbrev pieceT (v : FVec F S384x256 .f32) (r : Fin 4) : View.Piece (Elt F) S1x1024x320 .bf16 :=
  ⟨Rect.unit (s := S1x1024x320) ![0, 256 * r.val, 256] S1x256x64.size (pieceT_inb r),
    shapeCast S1x256x64 (truncf .bf16 (extractStridedSlice S256x64 ![0, 0] (transpose S256x128 [1, 0] (extractStridedSlice S128x256 ![256, 0] v
      slices_S384x256_o256_0_S128x256)
      transposes_S128x256_p1_0_S256x128) slices_S256x128_o0_0_S256x64) bitsLt_bf16_f32) shapeCasts_S256x64_S1x256x64⟩

/-- The twelve pieces, for any four segments. -/
abbrev pieces (v : Fin 4 → FVec F S384x256 .f32) : List (View.Piece (Elt F) S1x1024x320 .bf16) :=
  [pieceT (v 3) 3, pieceN (v 3) 3 1, pieceN (v 3) 3 0, pieceT (v 2) 2, pieceN (v 2) 2 1, pieceN (v 2) 2 0,
    pieceT (v 1) 1, pieceN (v 1) 1 1, pieceN (v 1) 1 0, pieceT (v 0) 0, pieceN (v 0) 0 1, pieceN (v 0) 0 0]

/-- The block the pieces leave. -/
def blockOf (v : Fin 4 → FVec F S384x256 .f32) : S1x1024x320.Idx → F .bf16 := fun y =>
  truncf .bf16 (v ⟨(y 1).val / 256, by have := (y 1).isLt; simp [S1x1024x320] at this; omega⟩) bitsLt_bf16_f32
    (ix2 ⟨(y 2).val, by have := (y 2).isLt; simp [S1x1024x320] at this; omega⟩ ⟨(y 1).val % 256, by omega⟩)

theorem truncf_at {s t : Shape} (u : FVec F s .f32) (v : FVec F t .f32) (a : s.Idx) (b : t.Idx) (h : u a = v b) :
    truncf .bf16 u bitsLt_bf16_f32 a = truncf .bf16 v bitsLt_bf16_f32 b := by
  show FloatOps.truncf _ _ _ = FloatOps.truncf _ _ _
  rw [h]

/-- Rows are points, columns channels: the transposed chunk read at `(point, channel)`. -/
theorem chunk_at (v : FVec F S384x256 .f32) (o : ℕ) (h : S384x256.Slices ![o, 0] S128x256) (a : Fin 256) (b : Fin 128) (hb : o + b.val < 384) :
    transpose S256x128 [1, 0] (extractStridedSlice S128x256 ![o, 0] v h) transposes_S128x256_p1_0_S256x128 (ix2 a b)
      = v (ix2 ⟨o + b.val, hb⟩ a) := by
  rw [transpose_ix2_apply]
  refine extractStridedSlice_apply _ _ _ _ _ fun d => ?_
  match d with
  | ⟨0, _⟩ => rfl
  | ⟨1, _⟩ => exact (Nat.zero_add _).symm

theorem block_at (v : Fin 4 → FVec F S384x256 .f32) (r : Fin 4) (y : S1x1024x320.Idx) (a : Fin 256) (o : Fin 384)
    (h1 : (y 1).val = 256 * r.val + a.val) (h2 : (y 2).val = o.val) :
    blockOf v y = truncf .bf16 (v r) bitsLt_bf16_f32 (ix2 o a) := by
  have ha := a.isLt
  have hr : (⟨(y 1).val / 256, by have := (y 1).isLt; simp [S1x1024x320] at this; omega⟩ : Fin 4) = r :=
    Fin.ext (by show (y 1).val / 256 = _; omega)
  have e1 : (⟨(y 2).val, by have := (y 2).isLt; simp [S1x1024x320] at this; omega⟩ : Fin 384) = o := Fin.ext h2
  have e2 : (⟨(y 1).val % 256, by omega⟩ : Fin 256) = a := Fin.ext (by show (y 1).val % 256 = _; omega)
  unfold blockOf
  rw [hr, e1, e2]

theorem pieceN_eq (v : Fin 4 → FVec F S384x256 .f32) (r : Fin 4) (j : Fin 2) (x : S1x256x128.Idx) :
    (pieceN (v r) r j).2 x = blockOf v ((pieceN (v r) r j).1.emb x) := by
  have hj := j.isLt
  have hb : (x 2).val < 128 := (x 2).isLt
  rw [block_at v r _ (x 1) ⟨128 * j.val + (x 2).val, by omega⟩
    (by show 256 * r.val + 1 * (x 1).val = 256 * r.val + (x 1).val; omega) (by show 128 * j.val + 1 * (x 2).val = _; simp)]
  show shapeCast S1x256x128 (truncf .bf16 (transpose S256x128 [1, 0] (extractStridedSlice S128x256 ![128 * j.val, 0] (v r) (slice_ok j))
      transposes_S128x256_p1_0_S256x128) bitsLt_bf16_f32) shapeCasts_S256x128_S1x256x128 x = _
  have hx : x = ix3 (0 : Fin 1) (x 1) (x 2) := by
    funext d
    match d with
    | ⟨0, _⟩ => exact Subsingleton.elim (α := Fin 1) _ _
    | ⟨1, _⟩ => rfl
    | ⟨2, _⟩ => rfl
  refine (congrArg _ hx).trans ((shapeCast_ab_1ab_apply _ _ _ _ _).trans ?_)
  exact truncf_at _ _ _ _ (chunk_at (v r) (128 * j.val) (slice_ok j) (x 1) (x 2) (by omega))

theorem pieceT_eq (v : Fin 4 → FVec F S384x256 .f32) (r : Fin 4) (x : S1x256x64.Idx) :
    (pieceT (v r) r).2 x = blockOf v ((pieceT (v r) r).1.emb x) := by
  have hb : (x 2).val < 64 := (x 2).isLt
  rw [block_at v r _ (x 1) ⟨256 + (x 2).val, by omega⟩
    (by show 256 * r.val + 1 * (x 1).val = 256 * r.val + (x 1).val; omega) (by show 256 + 1 * (x 2).val = _; simp)]
  show shapeCast S1x256x64 (truncf .bf16 (extractStridedSlice S256x64 ![0, 0] (transpose S256x128 [1, 0] (extractStridedSlice S128x256 ![256, 0] (v r)
      slices_S384x256_o256_0_S128x256)
      transposes_S128x256_p1_0_S256x128) slices_S256x128_o0_0_S256x64) bitsLt_bf16_f32) shapeCasts_S256x64_S1x256x64 x = _
  have hx : x = ix3 (0 : Fin 1) (x 1) (x 2) := by
    funext d
    match d with
    | ⟨0, _⟩ => exact Subsingleton.elim (α := Fin 1) _ _
    | ⟨1, _⟩ => rfl
    | ⟨2, _⟩ => rfl
  refine (congrArg _ hx).trans ((shapeCast_ab_1ab_apply _ _ _ _ _).trans ?_)
  refine truncf_at _ _ _ _ ?_
  refine (extractStridedSlice_apply _ _ _ _ (ix2 (x 1) ⟨(x 2).val, by omega⟩) fun d => ?_).trans
    (chunk_at (v r) 256 slices_S384x256_o256_0_S128x256 (x 1) ⟨(x 2).val, by omega⟩ (by show 256 + (x 2).val < 384; omega))
  match d with
  | ⟨0, _⟩ => exact (Nat.zero_add _).symm
  | ⟨1, _⟩ => exact (Nat.zero_add _).symm

theorem mem_pieceN (v : FVec F S384x256 .f32) (r : Fin 4) (j : Fin 2) (y : S1x1024x320.Idx)
    (h1 : (y 1).val / 256 = r.val) (h2 : (y 2).val / 128 = j.val) : y ∈ (pieceN v r j).1.set := by
  have h0 : (y 0).val < 1 := (y 0).isLt
  refine (Rect.mem_set_unit (inb := pieceN_inb r j)).2 fun d => ?_
  match d with
  | ⟨0, _⟩ => exact ⟨Nat.zero_le _, by show (y 0).val < 0 + 1; omega⟩
  | ⟨1, _⟩ => exact ⟨by show 256 * r.val ≤ (y 1).val; omega, by show (y 1).val < 256 * r.val + 256; omega⟩
  | ⟨2, _⟩ => exact ⟨by show 128 * j.val ≤ (y 2).val; omega, by show (y 2).val < 128 * j.val + 128; omega⟩

theorem mem_pieceT (v : FVec F S384x256 .f32) (r : Fin 4) (y : S1x1024x320.Idx)
    (h1 : (y 1).val / 256 = r.val) (h2 : 256 ≤ (y 2).val) : y ∈ (pieceT v r).1.set := by
  have h0 : (y 0).val < 1 := (y 0).isLt
  have h3 : (y 2).val < 320 := (y 2).isLt
  refine (Rect.mem_set_unit (inb := pieceT_inb r)).2 fun d => ?_
  match d with
  | ⟨0, _⟩ => exact ⟨Nat.zero_le _, by show (y 0).val < 0 + 1; omega⟩
  | ⟨1, _⟩ => exact ⟨by show 256 * r.val ≤ (y 1).val; omega, by show (y 1).val < 256 * r.val + 256; omega⟩
  | ⟨2, _⟩ => exact ⟨by show 256 ≤ (y 2).val; omega, by show (y 2).val < 256 + 64; omega⟩

theorem pieces_cover (v : Fin 4 → FVec F S384x256 .f32) (y : S1x1024x320.Idx) : ∃ p ∈ pieces v, y ∈ p.1.set := by
  have hy : (y 1).val < 1024 := (y 1).isLt
  obtain ⟨r, hr⟩ : ∃ r : Fin 4, (y 1).val / 256 = r.val := ⟨⟨(y 1).val / 256, by omega⟩, rfl⟩
  by_cases h2 : (y 2).val < 256
  · obtain ⟨j, hj⟩ : ∃ j : Fin 2, (y 2).val / 128 = j.val := ⟨⟨(y 2).val / 128, by omega⟩, rfl⟩
    refine ⟨pieceN (v r) r j, ?_, mem_pieceN (v r) r j y hr hj⟩
    fin_cases r <;> fin_cases j <;> simp [pieces]
  · refine ⟨pieceT (v r) r, ?_, mem_pieceT (v r) r y hr (by omega)⟩
    fin_cases r <;> simp [pieces]

/-- What the twelve stores leave of whatever the block held. -/
theorem read_pieces (v : Fin 4 → FVec F S384x256 .f32) (f : BufTy.Contents (Elt F) arg12.view.ty) :
    arg12.view.read (Elt F) (arg12.view.writes (Elt F) f (pieces v)) = blockOf v := by
  funext y
  refine View.read_writes_apply_of_pieces _ f (blockOf v) _ ?_ y (pieces_cover v y)
  simp only [pieces, List.forall_mem_cons, List.forall_mem_nil, and_true]
  exact ⟨pieceT_eq v 3, pieceN_eq v 3 1, pieceN_eq v 3 0, pieceT_eq v 2, pieceN_eq v 2 1, pieceN_eq v 2 0,
    pieceT_eq v 1, pieceN_eq v 1 1, pieceN_eq v 1 0, pieceT_eq v 0, pieceN_eq v 0 1, pieceN_eq v 0 0, fun _ h => absurd h List.not_mem_nil⟩

end Cert.Proof.KernelIdeal
-- ==== Proof.KernelIdeal.Body.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init
public import proofs.«01_k».proof.Proof.KernelIdeal.Groups
public import proofs.«01_k».proof.Proof.KernelIdeal.Block

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)

/-- Buffer `m` held whole at contents `X`. -/
abbrev pt {sp : Space} {s : Shape} {e : EltTy} (c : Dev nD) (m : Memref sig .tc sp s e) (X : BufTy.Contents (Elt F) m.view.ty) : sProp 𝕄 :=
  m.view.loc (c : Thread nD τ) ↦[m.view.set]{fullShare} X

/-- The first step of a scene: table and lanes are cleared, the block is computed, no walk yet. -/
theorem body_first (X2 X3 X4 X5 X6 R C f12) (hR : RecsOK arg7 R) (hC : ChainOK arg8 C) (h1 : k1_cond1 i = 1#1) (h2 : ¬ k1_cond2 i = 1#1) (h3 : ¬ k1_cond3 i = 1#1) (h4 : k1_cond4 i = 1#1) (h5 : ¬ k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜arg12.view.read (Elt F) f = blockOf (seg i arg2 arg3 arg4 arg5 arg6 X2 X3 X4 X5 X6 h4)⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists _
    isplitr
    swap
    · iexact H12
    · ipureintro
      sl_unfold_run_names
      exact read_pieces arg12 (seg i arg2 arg3 arg4 arg5 arg6 X2 X3 X4 X5 X6 h4) _
  isplitl [H13]; · iexists _; iexact H13
  iexists _; iexact H14

/-- A step that walks the previous block's points and computes its own. -/
theorem body_middle (X2 X3 X4 X5 X6 R C f12) (hR : RecsOK arg7 R) (hC : ChainOK arg8 C) (h1 : ¬ k1_cond1 i = 1#1) (h2 : k1_cond2 i = 1#1) (h3 : k1_cond3 i = 1#1) (h4 : k1_cond4 i = 1#1) (h5 : ¬ k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜arg12.view.read (Elt F) f = blockOf (seg i arg2 arg3 arg4 arg5 arg6 X2 X3 X4 X5 X6 h4)⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists _
    isplitr
    swap
    · iexact H12
    · ipureintro
      sl_unfold_run_names
      exact read_pieces arg12 (seg i arg2 arg3 arg4 arg5 arg6 X2 X3 X4 X5 X6 h4) _
  isplitl [H13]; · iexists _; iexact H13
  iexists _; iexact H14

/-- The step after the last block: it only walks. -/
theorem body_walk (X2 X3 X4 X5 X6 R C f12) (hR : RecsOK arg7 R) (hC : ChainOK arg8 C) (h1 : ¬ k1_cond1 i = 1#1) (h2 : k1_cond2 i = 1#1) (h3 : k1_cond3 i = 1#1) (h4 : ¬ k1_cond4 i = 1#1) (h5 : ¬ k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜f = f12⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists f12
    isplitr
    · ipureintro
      rfl
    · iexact H12
  isplitl [H13]; · iexists _; iexact H13
  iexists _; iexact H14

/-- A step that writes a block of the table out. -/
theorem body_out (X2 X3 X4 X5 X6 R C f12) (hR : RecsOK arg7 R) (hC : ChainOK arg8 C) (h1 : ¬ k1_cond1 i = 1#1) (h2 : ¬ k1_cond2 i = 1#1) (h3 : ¬ k1_cond3 i = 1#1) (h4 : ¬ k1_cond4 i = 1#1) (h5 : k1_cond5 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜f = f12⌝ ∗ pt c arg12 f) ∗ (∃ f, pt c arg13 f) ∗ (∃ f, pt c arg14 f)) : sProp 𝕄)) := by
  rw [cc1_voxel_main_eq_skeleton]
  unfold cc1_voxel_main_skel
  iintro ⟨H2, H3, H4, H5, H6, H7, H8, ⟨%f9, H9⟩, ⟨%f10, H10⟩, ⟨%f11, H11⟩, H12, ⟨%T, H13⟩, ⟨%P, H14⟩⟩
  sl_exec
  iapply (call_while1 c i arg13 harg13 arg14 harg14 k1_pay1 arg8 harg8 _ C hC _ (first_key1 arg8 C hC _))
  isplitl [H13 H14 H8]
  · isplitl [H13]
    · first | iexact H13 | (iexists _; iexact H13)
    isplitl [H14]; · iexact H14
    iexact H8
  iintro %_ ⟨⟨%T2, H13⟩, H14, H8⟩
  sl_exec
  iapply (call_while2 c i arg13 harg13 arg14 harg14 k1_pay1 arg8 harg8 _ C hC _ (first_key2 arg8 C hC _))
  isplitl [H13 H14 H8]
  · isplitl [H13]
    · first | iexact H13 | (iexists _; iexact H13)
    isplitl [H14]; · iexact H14
    iexact H8
  iintro %_ ⟨⟨%T3, H13⟩, H14, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]
  · iexists f12
    isplitr
    · ipureintro
      rfl
    · iexact H12
  isplitl [H13]; · iexists _; iexact H13
  iexists _; iexact H14

end Cert.Proof.KernelIdeal
-- ==== Proof.KernelIdeal.Region0.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init
public import proofs.«01_k».proof.Proof.KernelIdeal.Index
public import proofs.«01_k».proof.Proof.KernelIdeal.Body
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The index kernel's region -/

/-- The lane numbers the kernel makes. -/
abbrev lanes : IVec S3x128 32 := iota .tc S3x128 32 [1] iota_S3x128_d1_w32

section Run
variable (c : Dev nD) (arg0 : Memref sig .tc .vmem S3x32768 .i32) (harg0 : arg0.IsWhole)
  (arg1 : Memref sig .tc .vmem S3x64x4x128 .i32) (harg1 : arg1.IsWhole) (arg2 : Memref sig .tc .vmem S3x64x4x128 .i32) (harg2 : arg2.IsWhole)
  (X : BufTy.Contents (Elt F) arg0.view.ty)

/-- Everything the loop writes, last first. -/
abbrev indexPieces := pb_k0_t1 (F := F) Variants.nat c none arg0 harg0 arg1 harg1 arg2 harg2 lanes X k0_t1_loop.trips

theorem index_cover (y : S3x64x4x128.Idx) :
    (∃ p ∈ (indexPieces c arg0 harg0 arg1 harg1 arg2 harg2 X).1, y ∈ p.1.set) ∧ (∃ p ∈ (indexPieces c arg0 harg0 arg1 harg1 arg2 harg2 X).2, y ∈ p.1.set) :=
  loop_cover arg0 X Variants.nat c none harg0 arg1 harg1 arg2 harg2 k0_t1_loop.trips le_rfl y (by
    have h : (y 1).val < 64 := (y 1).isLt
    have e : k0_t1_loop.trips = 64 := by decide
    omega)

/-- Every row offset the loop leaves is within the table. -/
theorem index_recs (y : S3x64x4x128.Idx) : RecOK (View.canon (indexPieces c arg0 harg0 arg1 harg1 arg2 harg2 X).1 y) :=
  canon_good (fun _ v => RecOK v) _ (loop_good arg0 lane_iota X Variants.nat c none harg0 arg1 harg1 arg2 harg2 _ le_rfl).1 y
    (index_cover c arg0 harg0 arg1 harg1 arg2 harg2 X y).1

/-- Every link the loop leaves points forward. -/
theorem index_keys (y : S3x64x4x128.Idx) :
    KeyOK (128 * (y 2).val + (y 3).val) (View.canon (indexPieces c arg0 harg0 arg1 harg1 arg2 harg2 X).2 y) :=
  canon_good (fun y v => KeyOK (128 * (y 2).val + (y 3).val) v) _
    (loop_good arg0 lane_iota X Variants.nat c none harg0 arg1 harg1 arg2 harg2 _ le_rfl).2 y (index_cover c arg0 harg0 arg1 harg1 arg2 harg2 X y).2

/-- The body runs, leaving the two outputs at the canonical contents. -/
theorem index_run :
    (iprop(pt c arg0 X ∗ (∃ f, pt c arg1 f) ∗ (∃ f, pt c arg2 f)) : sProp 𝕄)
    ⊢ wp Idealize.ShloMosaic.frame (wpE (defs₀ (F := F)) Variants.nat (c : Thread nD τ) none) Set.univ (cc0_voxel_index arg0 harg0 arg1 harg1 arg2 harg2) (fun _ =>
      (iprop(pt c arg0 X
        ∗ (∃ f, ⌜arg1.view.read (Elt F) f = View.canon (indexPieces c arg0 harg0 arg1 harg1 arg2 harg2 X).1⌝ ∗ pt c arg1 f)
        ∗ (∃ f, ⌜arg2.view.read (Elt F) f = View.canon (indexPieces c arg0 harg0 arg1 harg1 arg2 harg2 X).2⌝ ∗ pt c arg2 f)) : sProp 𝕄)) := by
  rw [cc0_voxel_index_eq_skeleton]
  unfold cc0_voxel_index_skel
  iintro ⟨H0, ⟨%f1, H1⟩, ⟨%f2, H2⟩⟩
  sl_exec
  sl_step
  isplitl [H0]; · iexact H0
  isplitl [H1]
  · iexists _
    isplitr
    swap
    · iexact H1
    · ipureintro
      exact View.read_writes_eq_canon arg1.view _ _ fun y => (index_cover c arg0 harg0 arg1 harg1 arg2 harg2 X y).1
  iexists _
  isplitr
  swap
  · iexact H2
  · ipureintro
    exact View.read_writes_eq_canon arg2.view _ _ fun y => (index_cover c arg0 harg0 arg1 harg1 arg2 harg2 X y).2

end Run

/-! ## The proof data -/

/-- The valuation of the core's buffers a region starts from. -/
abbrev Vals (F : FTy → Type) : Type := (c : Dev nD) → (b : Ref sig .tc) → Buf (Elt F) ((c : Thread nD τ).loc b)

variable (V : Vals F)

/-- The ids as staged. -/
abbrev stg0 (c : Dev nD) : ((cfg0 (F := F)).win 0).block.Idx → Elt F ((cfg0 (F := F)).win 0).elt :=
  (((cfg0 (F := F)).win 0).blk t0_0).view.read (Elt F) (V c (Pipeline.arrRef spec0 0))

/-- What the loop writes, over the staging buffers. -/
abbrev pieces0 (c : Dev nD) := indexPieces (F := F) c (stage0_0 0) (hstage0_0 0) (stage0_1 0) (hstage0_1 0) (stage0_2 0) (hstage0_2 0) (stg0 V c)

/-- The index kernel's proof data: the arrays at `V`; the two outputs left at their canonical contents. -/
def dat0 (c : Dev nD) : Dat τ (Elt F) Unit ℕ (UR sig nD τ) ℕ (cfg0 (F := F)) c where
  A w := V c (Pipeline.arrRef spec0 w)
  after w _ := match w with
    | ⟨0, _⟩ => stg0 V c
    | ⟨1, _⟩ => View.canon (pieces0 V c).1
    | ⟨2, _⟩ => View.canon (pieces0 V c).2
  Φ _ := Pipeline.scopedRest spec0 c
  q _ := fullShare
  owed _ := 0

theorem before0_in (c : Dev nD) (d : ((cfg0 (F := F)).win 0).block.Idx → Elt F ((cfg0 (F := F)).win 0).elt) : (dat0 V c).before 0 t0_0 d = stg0 V c := by
  unfold Dat.before; exact if_pos ((Pipeline.Window.fetch_const win0_0 rfl (fun _ _ => rfl) (n := 1) (by decide) t0_0).mpr rfl)

/-- The body obligation of the index kernel's region. -/
theorem body_obligation0 (c : Dev nD) : BodyObligation (dat0 V c) (defs₀ (F := F)) Variants.nat () Set.univ := fun t => by
  obtain rfl := fin_N0 t
  rw [bigSep_W0, bigSep_W0]
  rw [show (dat0 V c).Φ t0_0.castSucc = (Pipeline.scopedRest spec0 c : sProp 𝕄) from rfl, show (dat0 V c).Φ t0_0.succ = (Pipeline.scopedRest spec0 c : sProp 𝕄) from rfl,
    show (dat0 V c).owesAt () t0_0.succ = (dat0 V c).owesAt () t0_0.castSucc from rfl]
  show _ ⊢ wp Idealize.ShloMosaic.frame (wpE (defs₀ (F := F)) Variants.nat (c : Thread nD τ) none) Set.univ (bodyAt0 t0_0) (fun _ =>
    iprop(Pipeline.scopedRest spec0 c ∗ (dat0 V c).owesAt () t0_0.castSucc ∗ owns (c : Thread nD τ) (stage0_0 0) fullShare (stg0 V c)
      ∗ owns (c : Thread nD τ) (stage0_1 0) fullShare (View.canon (pieces0 V c).1) ∗ owns (c : Thread nD τ) (stage0_2 0) fullShare (View.canon (pieces0 V c).2)))
  unfold owns
  iintro ⟨HΦ, Howes, ⟨%d0, %f0, %hf0, H0⟩, ⟨%d1, %f1, -, H1⟩, ⟨%d2, %f2, -, H2⟩⟩
  have hf0' : f0 = stg0 V c := hf0.trans (before0_in V c d0)
  subst hf0'
  iapply (wp_wand_r Idealize.ShloMosaic.frame (wpE (defs₀ (F := F)) Variants.nat (c : Thread nD τ) none) Set.univ)
  isplitl [H0 H1 H2]
  · iapply (index_run (F := F) c (stage0_0 0) (hstage0_0 0) (stage0_1 0) (hstage0_1 0) (stage0_2 0) (hstage0_2 0) (stg0 V c))
    isplitl [H0]; · iexact H0
    isplitl [H1]; · iexists f1; iexact H1
    iexists f2; iexact H2
  iintro %_ ⟨H0, ⟨%g1, %hg1, H1⟩, ⟨%g2, %hg2, H2⟩⟩
  isplitl [HΦ]; · iexact HΦ
  isplitl [Howes]; · iexact Howes
  isplitl [H0]; · iexists _; isplitr; swap; (· iexact H0); ipureintro; rfl
  isplitl [H1]; · iexists g1; isplitr; swap; (· iexact H1); ipureintro; exact hg1
  iexists g2; isplitr; swap; (· iexact H2); ipureintro; exact hg2

/-! ## What the region leaves -/

/-- The row offsets' array. -/
theorem arr0_1 (c : Dev nD) : (dat0 V c).arrAt 1 (cfg0 (F := F)).N = View.canon (pieces0 V c).1 := by
  refine (dat0 V c).arrAt_eq_of_after_last 1 t0_0 (show win0_1.WholeAt (⟨0, by decide⟩ : Fin grid0.N) by decide +kernel) _ fun j => ?_
  blk_simp
  rfl

/-- The links' array. -/
theorem arr0_2 (c : Dev nD) : (dat0 V c).arrAt 2 (cfg0 (F := F)).N = View.canon (pieces0 V c).2 := by
  refine (dat0 V c).arrAt_eq_of_after_last 2 t0_0 (show win0_2.WholeAt (⟨0, by decide⟩ : Fin grid0.N) by decide +kernel) _ fun j => ?_
  blk_simp
  rfl

end Cert.Proof.KernelIdeal
-- ==== Proof.KernelIdeal.Region1.lean ====
module

public import proofs.«01_k».proof.Proof.KernelIdeal.Region0
public import Idealize.ShloMosaic.Lib.Pipeline.TableIdle
public import Idealize.ShloMosaic.Lib.Pipeline.FrameBody

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

/-! # The main kernel's region -/

/-! ## The schedule -/

/-- A computing step is a scene's first, or walks as well. -/
theorem live_cases : ∀ i : grid1.Coords, k1_cond4 i = 1#1 →
    (k1_cond1 i = 1#1 ∧ ¬ k1_cond2 i = 1#1 ∧ ¬ k1_cond3 i = 1#1 ∧ ¬ k1_cond5 i = 1#1) ∨
    (¬ k1_cond1 i = 1#1 ∧ k1_cond2 i = 1#1 ∧ k1_cond3 i = 1#1 ∧ ¬ k1_cond5 i = 1#1) := by decide +kernel

/-- A step that computes no block walks the last one's points, or gives out results. -/
theorem idle_cases : ∀ i : grid1.Coords, ¬ k1_cond4 i = 1#1 →
    (¬ k1_cond1 i = 1#1 ∧ k1_cond2 i = 1#1 ∧ k1_cond3 i = 1#1 ∧ ¬ k1_cond5 i = 1#1) ∨
    (¬ k1_cond1 i = 1#1 ∧ ¬ k1_cond2 i = 1#1 ∧ ¬ k1_cond3 i = 1#1 ∧ k1_cond5 i = 1#1) := by decide +kernel

/-- The step that computes the block staged at `t`. -/
abbrev liveN (n : ℕ) : ℕ := 42 * (n / 42) + min (n % 42) 31

theorem liveN_lt {n : ℕ} (h : n < 126) : liveN n < 126 := by unfold liveN; omega

def live (t : Fin grid1.N) : Fin grid1.N := ⟨liveN t.val, lt_of_lt_of_eq (liveN_lt (lt_of_lt_of_eq t.isLt N_1)) N_1.symm⟩

theorem live_cond : ∀ t : Fin grid1.N, k1_cond4 (grid1.coords (live t)) = 1#1 := by decide +kernel
theorem live_self : ∀ t : Fin grid1.N, k1_cond4 (grid1.coords t) = 1#1 → live t = t := by decide +kernel
theorem idle_mod : ∀ t : Fin grid1.N, ¬ k1_cond4 (grid1.coords t) = 1#1 → 32 ≤ t.val % 42 := by decide +kernel
theorem live_pred (t : Fin grid1.N) (h : 32 ≤ t.val % 42) : live t = live ⟨t.val - 1, by have := t.isLt; omega⟩ :=
  Fin.ext (show liveN t.val = liveN (t.val - 1) by unfold liveN; omega)
theorem flush_tab : ∀ t : Fin grid1.N, decide ((t.val + 1) % 42 < 32) = (win1_10.flush t || (!(k1_cond4 (grid1.coords t) == 1#1) && decide (t.val % 42 < 32))) := by
  decide +kernel

/-! ## One step, over the buffers it is handed -/

/-- Segment `r` of a block, from the staged blocks. -/
abbrev segV (i : grid1.Coords) (h4 : k1_cond4 i = 1#1) (x : S1x1024x2048.Idx → Elt F .i8) (w : S320x2048.Idx → Elt F .fp8e4m3) (s : S3x32768.Idx → Elt F .f32)
    (ws b : S320x128.Idx → Elt F .f32) (r : Fin 4) : FVec F S384x256 .f32 :=
  k1_pay71 (fun j => x ((Rect.unit (s := S1x1024x2048) ![0, 256 * r.val, 0] S1x256x2048.size (seg_inb r)).toLoadRect.idx j))
    (fun j => w ((Rect.unit (s := S320x2048) ![0, 0] S320x2048.size inb_S320x2048_S320x2048_0_0).toLoadRect.idx j))
    (fun j => s ((Rect.unit (s := S3x32768) (k1_off80 i (BitVec.ofNat 32 (256 * r.val))) S1x256.size (k1_off80_inb i h4 r)).toLoadRect.idx j))
    (fun j => ws ((Rect.unit (s := S320x128) ![0, 0] S320x128.size inb_S320x128_S320x128_0_0).toLoadRect.idx j))
    (fun j => b ((Rect.unit (s := S320x128) ![0, 0] S320x128.size inb_S320x128_S320x128_0_0).toLoadRect.idx j))

section Step
variable (c : Dev nD) (i : grid1.Coords) (arg2 : Memref sig .tc .vmem S1x1024x2048 .i8) (harg2 : arg2.IsWhole) (arg3 : Memref sig .tc .vmem S320x2048 .fp8e4m3) (harg3 : arg3.IsWhole) (arg4 : Memref sig .tc .vmem S3x32768 .f32) (harg4 : arg4.IsWhole) (arg5 : Memref sig .tc .vmem S320x128 .f32) (harg5 : arg5.IsWhole) (arg6 : Memref sig .tc .vmem S320x128 .f32) (harg6 : arg6.IsWhole) (arg7 : Memref sig .tc .smem S1x1x2x4x128 .i32) (harg7 : arg7.IsWhole) (arg8 : Memref sig .tc .smem S1x1x2x4x128 .i32) (harg8 : arg8.IsWhole) (arg9 : Memref sig .tc .vmem S1x1024x320 .bf16) (harg9 : arg9.IsWhole) (arg10 : Memref sig .tc .vmem S1x1x1024 .i32) (harg10 : arg10.IsWhole) (arg11 : Memref sig .tc .vmem S1x1024x320 .bf16) (harg11 : arg11.IsWhole) (arg12 : Memref sig .tc .vmem S1x1024x320 .bf16) (harg12 : arg12.IsWhole) (arg13 : Memref sig .tc .vmem S64528x128 .f32) (harg13 : arg13.IsWhole) (arg14 : Memref sig .tc .vmem S7176x128 .f32) (harg14 : arg14.IsWhole)

theorem recsOK_of (R) (X : S1x1x2x4x128.Idx → Elt F .i32) (hX : arg7.view.read (Elt F) R = X) (h : ∀ x, RecOK (X x)) : RecsOK arg7 R := fun _ _ => by
  subst hX
  exact h _

theorem chainOK_of (C) (X : S1x1x2x4x128.Idx → Elt F .i32) (hX : arg8.view.read (Elt F) C = X)
    (h : ∀ x : S1x1x2x4x128.Idx, KeyOK (128 * (x 3).val + (x 4).val) (X x)) : ChainOK arg8 C := fun u p hp => by
  subst hX
  have h' := h ((Rect.unit (s := S1x1x2x4x128) (chainOff u.val p) S1x1x1x1x1.size (chainOff_inb hp u)).toLoadRect.idx (Shape.Idx.first (s := S1x1x1x1x1) (by decide)))
  have e : 128 * (((Rect.unit (s := S1x1x2x4x128) (chainOff u.val p) S1x1x1x1x1.size (chainOff_inb hp u)).toLoadRect.idx (Shape.Idx.first (s := S1x1x1x1x1) (by decide))) 3).val
      + (((Rect.unit (s := S1x1x2x4x128) (chainOff u.val p) S1x1x1x1x1.size (chainOff_inb hp u)).toLoadRect.idx (Shape.Idx.first (s := S1x1x1x1x1) (by decide))) 4).val = p := by
    show 128 * (p / 128 + 1 * 0) + (p % 128 + 1 * 0) = p
    omega
  rw [e] at h'
  exact h'

/-- The segments' values from what the staged buffers read as. -/
theorem blockOf_seg (X2 X3 X4 X5 X6) (h4 : k1_cond4 i = 1#1) (x w s ws b) (e2 : arg2.view.read (Elt F) X2 = x) (e3 : arg3.view.read (Elt F) X3 = w)
    (e4 : arg4.view.read (Elt F) X4 = s) (e5 : arg5.view.read (Elt F) X5 = ws) (e6 : arg6.view.read (Elt F) X6 = b) :
    blockOf (seg i arg2 arg3 arg4 arg5 arg6 X2 X3 X4 X5 X6 h4) = blockOf (segV (F := F) i h4 x w s ws b) := by
  subst e2; subst e3; subst e4; subst e5; subst e6
  rfl

/-- A step that computes its block. -/
theorem body_live (X2 X3 X4 X5 X6 R C f12) (hR : RecsOK arg7 R) (hC : ChainOK arg8 C) (h4 : k1_cond4 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜arg12.view.read (Elt F) f = blockOf (seg i arg2 arg3 arg4 arg5 arg6 X2 X3 X4 X5 X6 h4)⌝ ∗ pt c arg12 f) ∗ (∃ f, pt c arg13 f) ∗ (∃ f, pt c arg14 f)) : sProp 𝕄)) := by
  rcases live_cases i h4 with ⟨h1, h2, h3, h5⟩ | ⟨h1, h2, h3, h5⟩
  · exact body_first c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5
  · exact body_middle c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5

/-- A step that computes none leaves the block as it was. -/
theorem body_idle (X2 X3 X4 X5 X6 R C f12) (hR : RecsOK arg7 R) (hC : ChainOK arg8 C) (h4 : ¬ k1_cond4 i = 1#1) :
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ pt c arg12 f12 ∗ (∃ f, pt c arg13 f) ∗ (∃ f, pt c arg14 f)) : sProp 𝕄)
   ⊢ wp Idealize.ShloMosaic.frame (wpE (defs₀ (F := F)) Variants.nat (c : Thread nD τ) none) Set.univ (cc1_voxel_main i arg2 harg2 arg3 harg3 arg4 harg4 arg5 harg5 arg6 harg6 arg7 harg7 arg8 harg8 arg9 harg9 arg10 harg10 arg11 harg11 arg12 harg12 arg13 harg13 arg14 harg14) (fun _ =>
   (iprop(pt c arg2 X2 ∗ pt c arg3 X3 ∗ pt c arg4 X4 ∗ pt c arg5 X5 ∗ pt c arg6 X6 ∗ pt c arg7 R ∗ pt c arg8 C
     ∗ (∃ f, pt c arg9 f) ∗ (∃ f, pt c arg10 f) ∗ (∃ f, pt c arg11 f) ∗ (∃ f, ⌜f = f12⌝ ∗ pt c arg12 f) ∗ (∃ f, pt c arg13 f) ∗ (∃ f, pt c arg14 f)) : sProp 𝕄)) := by
  rcases idle_cases i h4 with ⟨h1, h2, h3, h5⟩ | ⟨h1, h2, h3, h5⟩
  · exact body_walk c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5
  · exact body_out c i arg2 harg2 arg3 harg3 arg4 harg4 arg5 harg5 arg6 harg6 arg7 harg7 arg8 harg8 arg9 harg9 arg10 harg10 arg11 harg11 arg12 harg12 arg13 harg13 arg14 harg14 X2 X3 X4 X5 X6 R C f12 hR hC h1 h2 h3 h4 h5

end Step

/-- The scratch buffers, as the region's invariant holds them. -/
theorem pt_table (c : Dev nD) (f : Buf (Elt F) ((c : Thread nD τ).loc cc1_scratch0)) :
    (pt c (Memref.whole cc1_scratch0) f : sProp 𝕄) = (((c : Thread nD τ).loc cc1_scratch0) ↦{fullShare} f) := by
  unfold pt
  rw [(Memref.isWhole_whole _).set_eq_univ]
theorem pt_lanes (c : Dev nD) (f : Buf (Elt F) ((c : Thread nD τ).loc cc1_scratch1)) :
    (pt c (Memref.whole cc1_scratch1) f : sProp 𝕄) = (((c : Thread nD τ).loc cc1_scratch1) ↦{fullShare} f) := by
  unfold pt
  rw [(Memref.isWhole_whole _).set_eq_univ]

/-! ## The proof data -/

variable (V : Vals F)

/-- Window `w`'s block at step `t`. -/
abbrev blk1 (c : Dev nD) (w : Fin (cfg1 (F := F)).W) (t : Fin (cfg1 (F := F)).N) := (((cfg1 (F := F)).win w).blk t).view.read (Elt F) (V c (Pipeline.arrRef spec1 w))

/-- The block computed at the live step `t`. -/
def pf1 (c : Dev nD) (t : Fin grid1.N) (h4 : k1_cond4 (grid1.coords t) = 1#1) : S1x1024x320.Idx → Elt F .bf16 :=
  blockOf (segV (grid1.coords t) h4 (blk1 V c 0 t) (blk1 V c 1 t) (blk1 V c 2 t) (blk1 V c 3 t) (blk1 V c 4 t))

/-- The main kernel's proof data: the arrays at `V`; the point features' block as computed; the three voxel results
    not named. -/
def dat1 (c : Dev nD) : Dat τ (Elt F) Unit ℕ (UR sig nD τ) ℕ (cfg1 (F := F)) c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => pf1 V c (live t) (live_cond t)
    | ⟨8, _⟩ => fun _ => (0#32 : Elt F .i32)
    | ⟨9, _⟩ => pf1 V c (live t) (live_cond t)
    | ⟨10, _⟩ => pf1 V c (live t) (live_cond t)
  Φ _ := Pipeline.scopedRest spec1 c
  q _ := fullShare
  owed _ := 0

theorem before1_0 (c : Dev nD) (t : Fin (cfg1 (F := F)).N) (d) : (dat1 V c).before 0 t d = blk1 V c 0 t :=
  (dat1 V c).before_in_eq_fetched 0 rfl (fun _ => rfl) (fun _ _ _ => rfl) (fun _ => rfl) t d

theorem before1_1 (c : Dev nD) (t : Fin (cfg1 (F := F)).N) (d) : (dat1 V c).before 1 t d = blk1 V c 1 t :=
  (dat1 V c).before_in_eq_fetched 1 rfl (fun _ => rfl) (fun _ _ _ => rfl) (fun _ => rfl) t d

theorem before1_2 (c : Dev nD) (t : Fin (cfg1 (F := F)).N) (d) : (dat1 V c).before 2 t d = blk1 V c 2 t :=
  (dat1 V c).before_in_eq_fetched 2 rfl (fun _ => rfl) (fun _ _ _ => rfl) (fun _ => rfl) t d

theorem before1_3 (c : Dev nD) (t : Fin (cfg1 (F := F)).N) (d) : (dat1 V c).before 3 t d = blk1 V c 3 t :=
  (dat1 V c).before_in_eq_fetched 3 rfl (fun _ => rfl) (fun _ _ _ => rfl) (fun _ => rfl) t d

theorem before1_4 (c : Dev nD) (t : Fin (cfg1 (F := F)).N) (d) : (dat1 V c).before 4 t d = blk1 V c 4 t :=
  (dat1 V c).before_in_eq_fetched 4 rfl (fun _ => rfl) (fun _ _ _ => rfl) (fun _ => rfl) t d

theorem before1_5 (c : Dev nD) (t : Fin (cfg1 (F := F)).N) (d) : (dat1 V c).before 5 t d = blk1 V c 5 t :=
  (dat1 V c).before_in_eq_fetched 5 rfl (fun _ => rfl) (fun _ _ _ => rfl) (fun _ => rfl) t d

theorem before1_6 (c : Dev nD) (t : Fin (cfg1 (F := F)).N) (d) : (dat1 V c).before 6 t d = blk1 V c 6 t :=
  (dat1 V c).before_in_eq_fetched 6 rfl (fun _ => rfl) (fun _ _ _ => rfl) (fun _ => rfl) t d

theorem fresh10 (n : ℕ) (hn : n ≤ 126) : (cfg1 (F := F)).fresh 10 n = decide (n % 42 < 32) :=
  Cfg.fresh_tab cfg1 10 (fun n => decide (n % 42 < 32)) rfl (fun t => flush_tab t) n hn

theorem before1_out (c : Dev nD) (t : Fin (cfg1 (F := F)).N) (h4 : ¬ k1_cond4 (grid1.coords t) = 1#1) (d) :
    (dat1 V c).before 10 t d = pf1 V c (live t) (live_cond t) := by
  have hm := idle_mod t h4
  have hlt : t.val < 126 := lt_of_lt_of_eq t.isLt N_1
  have e := (dat1 V c).before_out_traj 10 rfl (fun _ _ => rfl) (fun t _ _ hf => by
    have ht : t.val < 126 := lt_of_lt_of_eq t.isLt N_1
    rw [fresh10 t.val (by omega)] at hf
    have h := live_pred t (by have := of_decide_eq_false hf; omega)
    show pf1 V c (live t) (live_cond t) = pf1 V c (live _) (live_cond _)
    congr 1) t.val t rfl d
  rw [e, fresh10 t.val (by omega), if_neg (by simp; omega)]
  have h := live_pred t hm
  show pf1 V c (live _) (live_cond _) = pf1 V c (live t) (live_cond t)
  congr 1
  exact h.symm

/-! ## The body obligation -/

/-- The windows whose contents the proof does not name. -/
abbrev fgt1 : Fin 11 → Bool := fun w => w.val == 7 || w.val == 8 || w.val == 9

/-- What the step gives back of the point features' buffer. -/
abbrev back10 (c : Dev nD) (t : Fin (cfg1 (F := F)).N) : sProp 𝕄 :=
  match (cfg1 (F := F)).idle 10 ((cfg1 (F := F)).grid.coords t) with
  | true =>
    match ((cfg1 (F := F)).win 10).flush t with
    | false => iprop(∃ d, owns (c : Thread nD τ) (st1_10 (F := F) t) fullShare ((dat1 V c).before 10 t d))
    | true => owns (c : Thread nD τ) (st1_10 (F := F) t) fullShare ((dat1 V c).after 10 t)
  | false => owns (c : Thread nD τ) (st1_10 (F := F) t) fullShare ((dat1 V c).after 10 t)

theorem back10_live (c : Dev nD) (t : Fin (cfg1 (F := F)).N) (h4 : k1_cond4 (grid1.coords t) = 1#1) :
    back10 V c t = owns (c : Thread nD τ) (st1_10 (F := F) t) fullShare (pf1 V c t h4) := by
  have hi : (cfg1 (F := F)).idle 10 ((cfg1 (F := F)).grid.coords t) = false := show (!(k1_cond4 (grid1.coords t) == 1#1)) = false by rw [h4]; rfl
  have hl := live_self t h4
  have ha : (dat1 V c).after 10 t = pf1 V c t h4 := by
    show pf1 V c (live t) (live_cond t) = _
    congr 1
  unfold back10
  rewrite [hi]
  show owns (c : Thread nD τ) (st1_10 (F := F) t) fullShare ((dat1 V c).after 10 t) = _
  rw [ha]

theorem back10_idle (c : Dev nD) (t : Fin (cfg1 (F := F)).N) (h4 : ¬ k1_cond4 (grid1.coords t) = 1#1) (d) :
    owns (c : Thread nD τ) (st1_10 (F := F) t) fullShare ((dat1 V c).before 10 t d) ⊢ back10 V c t := by
  have hi : (cfg1 (F := F)).idle 10 ((cfg1 (F := F)).grid.coords t) = true := show (!(k1_cond4 (grid1.coords t) == 1#1)) = true by
    rw [Bool.not_eq_true', beq_eq_false_iff_ne]; exact h4
  unfold back10
  rewrite [hi]
  cases hf : ((cfg1 (F := F)).win 10).flush t
  · iintro H; iexists d; iexact H
  · rw [before1_out V c t h4 d]
    iintro H; iexact H

/-- The links point forward and the row offsets are in the table, in the arrays the region is given. -/
structure ScalarsOK (c : Dev nD) : Prop where
  off : ∀ y, RecOK (V c main_v1 y)
  key : ∀ y : S3x32x2x4x128.Idx, KeyOK (128 * (y 3).val + (y 4).val) (V c main_v2 y)

theorem blk_key (c : Dev nD) (hV : ScalarsOK V c) (t : Fin (cfg1 (F := F)).N) (x : S1x1x2x4x128.Idx) :
    KeyOK (128 * (x 3).val + (x 4).val) (blk1 V c 6 t x) := by
  have h := hV.key ((((cfg1 (F := F)).win 6).blk t).view.emb x)
  have e3 : ((((cfg1 (F := F)).win 6).blk t).view.emb x (3 : Fin 5)).val = (x 3).val := by
    blk_simp
    show 0 * _ + _ = _
    rw [Nat.zero_mul, Nat.zero_add]
  have e4 : ((((cfg1 (F := F)).win 6).blk t).view.emb x (4 : Fin 5)).val = (x 4).val := by
    blk_simp
    show 0 * _ + _ = _
    rw [Nat.zero_mul, Nat.zero_add]
  rw [e3, e4] at h
  exact h

set_option maxHeartbeats 1000000 in
/-- The body obligation of the main kernel's region. -/
theorem body_obligation1 (c : Dev nD) (hV : ScalarsOK V c) : BodyObligationLoose (dat1 V c) (defs₀ (F := F)) Variants.nat () Set.univ fgt1 := fun t => by
  rw [bigSep_W1, bigSep_W1]
  rw [show (dat1 V c).Φ t.castSucc = (Pipeline.scopedRest spec1 c : sProp 𝕄) from rfl, show (dat1 V c).Φ t.succ = (Pipeline.scopedRest spec1 c : sProp 𝕄) from rfl,
    show (dat1 V c).owesAt () t.succ = (dat1 V c).owesAt () t.castSucc from rfl, scopedRest1_eq]
  show iprop(_ ∗ (dat1 V c).owesAt () t.castSucc ∗ (∃ d, owns (c : Thread nD τ) (st1_0 (F := F) t) fullShare ((dat1 V c).before 0 t d)) ∗ (∃ d, owns (c : Thread nD τ) (st1_1 (F := F) t) fullShare ((dat1 V c).before 1 t d)) ∗ (∃ d, owns (c : Thread nD τ) (st1_2 (F := F) t) fullShare ((dat1 V c).before 2 t d)) ∗ (∃ d, owns (c : Thread nD τ) (st1_3 (F := F) t) fullShare ((dat1 V c).before 3 t d)) ∗ (∃ d, owns (c : Thread nD τ) (st1_4 (F := F) t) fullShare ((dat1 V c).before 4 t d)) ∗ (∃ d, owns (c : Thread nD τ) (st1_5 (F := F) t) fullShare ((dat1 V c).before 5 t d)) ∗ (∃ d, owns (c : Thread nD τ) (st1_6 (F := F) t) fullShare ((dat1 V c).before 6 t d)) ∗ (∃ X, owns (c : Thread nD τ) (st1_7 (F := F) t) fullShare X) ∗ (∃ X, owns (c : Thread nD τ) (st1_8 (F := F) t) fullShare X) ∗ (∃ X, owns (c : Thread nD τ) (st1_9 (F := F) t) fullShare X) ∗ (∃ d, owns (c : Thread nD τ) (st1_10 (F := F) t) fullShare ((dat1 V c).before 10 t d))) ⊢ wp Idealize.ShloMosaic.frame (wpE (defs₀ (F := F)) Variants.nat (c : Thread nD τ) none) Set.univ (bodyAt1 t) (fun _ =>
    iprop(_ ∗ (dat1 V c).owesAt () t.castSucc ∗ owns (c : Thread nD τ) (st1_0 (F := F) t) fullShare (blk1 V c 0 t) ∗ owns (c : Thread nD τ) (st1_1 (F := F) t) fullShare (blk1 V c 1 t) ∗ owns (c : Thread nD τ) (st1_2 (F := F) t) fullShare (blk1 V c 2 t) ∗ owns (c : Thread nD τ) (st1_3 (F := F) t) fullShare (blk1 V c 3 t) ∗ owns (c : Thread nD τ) (st1_4 (F := F) t) fullShare (blk1 V c 4 t) ∗ owns (c : Thread nD τ) (st1_5 (F := F) t) fullShare (blk1 V c 5 t) ∗ owns (c : Thread nD τ) (st1_6 (F := F) t) fullShare (blk1 V c 6 t) ∗ (∃ X, owns (c : Thread nD τ) (st1_7 (F := F) t) fullShare X) ∗ (∃ X, owns (c : Thread nD τ) (st1_8 (F := F) t) fullShare X) ∗ (∃ X, owns (c : Thread nD τ) (st1_9 (F := F) t) fullShare X) ∗ back10 V c t))
  by_cases h4 : k1_cond4 (grid1.coords t) = 1#1
  · rw [back10_live V c t h4]
    unfold owns
    iintro ⟨⟨Hs0, Hs1, Hs2, ⟨%T, HT⟩, ⟨%P, HP⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%X7, %f7, -, H7⟩, ⟨%X8, %f8, -, H8⟩, ⟨%X9, %f9, -, H9⟩, ⟨%d10, %f10, -, H10⟩⟩
    replace hf0 : (st1_0 (F := F) t).view.read (Elt F) f0 = blk1 V c 0 t := hf0.trans (before1_0 V c t d0)
    replace hf1 : (st1_1 (F := F) t).view.read (Elt F) f1 = blk1 V c 1 t := hf1.trans (before1_1 V c t d1)
    replace hf2 : (st1_2 (F := F) t).view.read (Elt F) f2 = blk1 V c 2 t := hf2.trans (before1_2 V c t d2)
    replace hf3 : (st1_3 (F := F) t).view.read (Elt F) f3 = blk1 V c 3 t := hf3.trans (before1_3 V c t d3)
    replace hf4 : (st1_4 (F := F) t).view.read (Elt F) f4 = blk1 V c 4 t := hf4.trans (before1_4 V c t d4)
    replace hf5 : (st1_5 (F := F) t).view.read (Elt F) f5 = blk1 V c 5 t := hf5.trans (before1_5 V c t d5)
    replace hf6 : (st1_6 (F := F) t).view.read (Elt F) f6 = blk1 V c 6 t := hf6.trans (before1_6 V c t d6)
    have hR : RecsOK (st1_5 (F := F) t) f5 := recsOK_of _ _ _ hf5 fun x => hV.off _
    have hC : ChainOK (st1_6 (F := F) t) f6 := chainOK_of _ _ _ hf6 (blk_key V c hV t)
    iapply (wp_wand_r Idealize.ShloMosaic.frame (wpE (defs₀ (F := F)) Variants.nat (c : Thread nD τ) none) Set.univ)
    isplitl [H0 H1 H2 H3 H4 H5 H6 H7 H8 H9 H10 HT HP]
    · iapply (body_live (F := F) c (grid1.coords t) (win1_0.stage ((cfg1 (F := F)).slots t 0)) (hstage1_0 (((cfg1 (F := F)).slots t 0).cast nbuf1_0)) (win1_1.stage ((cfg1 (F := F)).slots t 1)) (hstage1_1 (((cfg1 (F := F)).slots t 1).cast nbuf1_1)) (win1_2.stage ((cfg1 (F := F)).slots t 2)) (hstage1_2 (((cfg1 (F := F)).slots t 2).cast nbuf1_2)) (win1_3.stage ((cfg1 (F := F)).slots t 3)) (hstage1_3 (((cfg1 (F := F)).slots t 3).cast nbuf1_3)) (win1_4.stage ((cfg1 (F := F)).slots t 4)) (hstage1_4 (((cfg1 (F := F)).slots t 4).cast nbuf1_4)) (win1_5.stage ((cfg1 (F := F)).slots t 5)) (hstage1_5 (((cfg1 (F := F)).slots t 5).cast nbuf1_5)) (win1_6.stage ((cfg1 (F := F)).slots t 6)) (hstage1_6 (((cfg1 (F := F)).slots t 6).cast nbuf1_6)) (win1_7.stage ((cfg1 (F := F)).slots t 7)) (hstage1_7 (((cfg1 (F := F)).slots t 7).cast nbuf1_7)) (win1_8.stage ((cfg1 (F := F)).slots t 8)) (hstage1_8 (((cfg1 (F := F)).slots t 8).cast nbuf1_8)) (win1_9.stage ((cfg1 (F := F)).slots t 9)) (hstage1_9 (((cfg1 (F := F)).slots t 9).cast nbuf1_9)) (win1_10.stage ((cfg1 (F := F)).slots t 10)) (hstage1_10 (((cfg1 (F := F)).slots t 10).cast nbuf1_10)) (Memref.whole cc1_scratch0) (Memref.isWhole_whole _) (Memref.whole cc1_scratch1) (Memref.isWhole_whole _)
        _ _ _ _ _ f5 f6 _ hR hC h4)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HT]; · iexists T; rw [pt_table]; iexact HT
      iexists P; rw [pt_lanes]; iexact HP
    iintro %_ ⟨H0, H1, H2, H3, H4, H5, H6, ⟨%g7, H7⟩, ⟨%g8, H8⟩, ⟨%g9, H9⟩, ⟨%g10, %hg10, H10⟩, ⟨%gT, HT⟩, ⟨%gP, HP⟩⟩
    isplitl [Hs0 Hs1 Hs2 HT HP]
    · isplitl [Hs0]; · iexact Hs0
      isplitl [Hs1]; · iexact Hs1
      isplitl [Hs2]; · iexact Hs2
      isplitl [HT]; · iexists gT; rw [← pt_table]; iexact HT
      iexists gP; rw [← pt_lanes]; iexact HP
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexists f5; isplitr; swap; (· iexact H5); ipureintro; exact hf5
    isplitl [H6]; · iexists f6; isplitr; swap; (· iexact H6); ipureintro; exact hf6
    isplitl [H7]; · iexists _; iexists g7; isplitr; swap; (· iexact H7); ipureintro; rfl
    isplitl [H8]; · iexists _; iexists g8; isplitr; swap; (· iexact H8); ipureintro; rfl
    isplitl [H9]; · iexists _; iexists g9; isplitr; swap; (· iexact H9); ipureintro; rfl
    iexists g10; isplitr; swap; (· iexact H10); ipureintro
    exact hg10.trans (blockOf_seg _ _ _ _ _ _ _ _ _ _ _ h4 _ _ _ _ _ hf0 hf1 hf2 hf3 hf4)
  · unfold owns
    iintro ⟨⟨Hs0, Hs1, Hs2, ⟨%T, HT⟩, ⟨%P, HP⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%X7, %f7, -, H7⟩, ⟨%X8, %f8, -, H8⟩, ⟨%X9, %f9, -, H9⟩, ⟨%d10, %f10, %hf10, H10⟩⟩
    replace hf0 : (st1_0 (F := F) t).view.read (Elt F) f0 = blk1 V c 0 t := hf0.trans (before1_0 V c t d0)
    replace hf1 : (st1_1 (F := F) t).view.read (Elt F) f1 = blk1 V c 1 t := hf1.trans (before1_1 V c t d1)
    replace hf2 : (st1_2 (F := F) t).view.read (Elt F) f2 = blk1 V c 2 t := hf2.trans (before1_2 V c t d2)
    replace hf3 : (st1_3 (F := F) t).view.read (Elt F) f3 = blk1 V c 3 t := hf3.trans (before1_3 V c t d3)
    replace hf4 : (st1_4 (F := F) t).view.read (Elt F) f4 = blk1 V c 4 t := hf4.trans (before1_4 V c t d4)
    replace hf5 : (st1_5 (F := F) t).view.read (Elt F) f5 = blk1 V c 5 t := hf5.trans (before1_5 V c t d5)
    replace hf6 : (st1_6 (F := F) t).view.read (Elt F) f6 = blk1 V c 6 t := hf6.trans (before1_6 V c t d6)
    have hR : RecsOK (st1_5 (F := F) t) f5 := recsOK_of _ _ _ hf5 fun x => hV.off _
    have hC : ChainOK (st1_6 (F := F) t) f6 := chainOK_of _ _ _ hf6 (blk_key V c hV t)
    iapply (wp_wand_r Idealize.ShloMosaic.frame (wpE (defs₀ (F := F)) Variants.nat (c : Thread nD τ) none) Set.univ)
    isplitl [H0 H1 H2 H3 H4 H5 H6 H7 H8 H9 H10 HT HP]
    · iapply (body_idle (F := F) c (grid1.coords t) (win1_0.stage ((cfg1 (F := F)).slots t 0)) (hstage1_0 (((cfg1 (F := F)).slots t 0).cast nbuf1_0)) (win1_1.stage ((cfg1 (F := F)).slots t 1)) (hstage1_1 (((cfg1 (F := F)).slots t 1).cast nbuf1_1)) (win1_2.stage ((cfg1 (F := F)).slots t 2)) (hstage1_2 (((cfg1 (F := F)).slots t 2).cast nbuf1_2)) (win1_3.stage ((cfg1 (F := F)).slots t 3)) (hstage1_3 (((cfg1 (F := F)).slots t 3).cast nbuf1_3)) (win1_4.stage ((cfg1 (F := F)).slots t 4)) (hstage1_4 (((cfg1 (F := F)).slots t 4).cast nbuf1_4)) (win1_5.stage ((cfg1 (F := F)).slots t 5)) (hstage1_5 (((cfg1 (F := F)).slots t 5).cast nbuf1_5)) (win1_6.stage ((cfg1 (F := F)).slots t 6)) (hstage1_6 (((cfg1 (F := F)).slots t 6).cast nbuf1_6)) (win1_7.stage ((cfg1 (F := F)).slots t 7)) (hstage1_7 (((cfg1 (F := F)).slots t 7).cast nbuf1_7)) (win1_8.stage ((cfg1 (F := F)).slots t 8)) (hstage1_8 (((cfg1 (F := F)).slots t 8).cast nbuf1_8)) (win1_9.stage ((cfg1 (F := F)).slots t 9)) (hstage1_9 (((cfg1 (F := F)).slots t 9).cast nbuf1_9)) (win1_10.stage ((cfg1 (F := F)).slots t 10)) (hstage1_10 (((cfg1 (F := F)).slots t 10).cast nbuf1_10)) (Memref.whole cc1_scratch0) (Memref.isWhole_whole _) (Memref.whole cc1_scratch1) (Memref.isWhole_whole _)
        _ _ _ _ _ f5 f6 _ hR hC h4)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HT]; · iexists T; rw [pt_table]; iexact HT
      iexists P; rw [pt_lanes]; iexact HP
    iintro %_ ⟨H0, H1, H2, H3, H4, H5, H6, ⟨%g7, H7⟩, ⟨%g8, H8⟩, ⟨%g9, H9⟩, ⟨%g10, %hg10, H10⟩, ⟨%gT, HT⟩, ⟨%gP, HP⟩⟩
    isplitl [Hs0 Hs1 Hs2 HT HP]
    · isplitl [Hs0]; · iexact Hs0
      isplitl [Hs1]; · iexact Hs1
      isplitl [Hs2]; · iexact Hs2
      isplitl [HT]; · iexists gT; rw [← pt_table]; iexact HT
      iexists gP; rw [← pt_lanes]; iexact HP
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexists f5; isplitr; swap; (· iexact H5); ipureintro; exact hf5
    isplitl [H6]; · iexists f6; isplitr; swap; (· iexact H6); ipureintro; exact hf6
    isplitl [H7]; · iexists _; iexists g7; isplitr; swap; (· iexact H7); ipureintro; rfl
    isplitl [H8]; · iexists _; iexists g8; isplitr; swap; (· iexact H8); ipureintro; rfl
    isplitl [H9]; · iexists _; iexists g9; isplitr; swap; (· iexact H9); ipureintro; rfl
    subst hg10
    ihave H := (back10_idle V c t h4 d10) $$ [H10]
    · unfold owns; iexists _; isplitr; swap; (· iexact H10); ipureintro; exact hf10
    iexact H

end Cert.Proof.KernelIdeal
-- ==== Proof.KernelIdeal.Run.lean ====
module

public import proofs.«01_k».proof.Proof.KernelIdeal.Region1
public import Idealize.ShloMosaic.Lib.Pipeline.Frame
public import Idealize.ShloMosaic.Lib.Pipeline.Regions
public import Idealize.ShloMosaic.Lib.Pipeline.RegionsOwned
public import Idealize.ShloMosaic.Lib.Pipeline.RegionsLoop
public import Idealize.ShloMosaic.Lib.Pipeline.RegionArraysF
public import Idealize.ShloMosaic.Lib.Pipeline.RegionsOwned
public import Idealize.ShloMosaic.Lib.Pipeline.Kit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg)

variable {F : FTy → Type} [FloatOps F]

local notation "𝕄" => MT nD τ sig Unit (Elt F) ℕ (UR sig nD τ) ℕ

/-! # The run of the whole program -/

variable (m : (ℓ : Loc nD τ sig) → Buf (Elt F) ℓ)

/-! ## Writing arrays into a valuation -/

section Put
variable (c : Dev nD) (W : Valuation τ sig (Elt F))

/-- Two arrays replaced. -/
def put2 (a : Buf (Elt F) ((c : Thread nD τ).loc main_v0_0)) (b : Buf (Elt F) ((c : Thread nD τ).loc main_v0_1)) : Valuation τ sig (Elt F) :=
  Function.update (Function.update W main_v0_0 a) main_v0_1 b

/-- Four arrays replaced. -/
def put4 (a : Buf (Elt F) ((c : Thread nD τ).loc main_v8_0)) (b : Buf (Elt F) ((c : Thread nD τ).loc main_v8_1)) (d : Buf (Elt F) ((c : Thread nD τ).loc main_v8_2))
    (e : Buf (Elt F) ((c : Thread nD τ).loc main_v8_3)) : Valuation τ sig (Elt F) :=
  Function.update (Function.update (Function.update (Function.update W main_v8_0 a) main_v8_1 b) main_v8_2 d) main_v8_3 e

theorem put2_of (a b) (r : Ref sig .tc) (h : r ∉ ([main_v0_0, main_v0_1] : List (Ref sig .tc))) : put2 c W a b r = W r := by
  simp only [put2, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem put2_0 (a b) : put2 c W a b main_v0_0 = a :=
  (Function.update_of_ne (StableHlo.devRef_ne_of_ne (by decide)) _ _).trans (Function.update_self _ _ _)
theorem put2_1 (a b) : put2 c W a b main_v0_1 = b := Function.update_self _ _ _
theorem put4_of (a b d e) (r : Ref sig .tc) (h : r ∉ ([main_v8_0, main_v8_1, main_v8_2, main_v8_3] : List (Ref sig .tc))) : put4 c W a b d e r = W r := by
  simp only [put4, Function.update_of_ne (StableHlo.devRef_ne_of_ne (List.ne_of_not_mem_cons h) : (Proc.devRef .tc r : DevRef τ sig) ≠ Proc.devRef .tc main_v8_0), Function.update_of_ne (StableHlo.devRef_ne_of_ne (List.ne_of_not_mem_cons (List.not_mem_of_not_mem_cons h)) : (Proc.devRef .tc r : DevRef τ sig) ≠ Proc.devRef .tc main_v8_1), Function.update_of_ne (StableHlo.devRef_ne_of_ne (List.ne_of_not_mem_cons (List.not_mem_of_not_mem_cons (List.not_mem_of_not_mem_cons h))) : (Proc.devRef .tc r : DevRef τ sig) ≠ Proc.devRef .tc main_v8_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v8_3)]
theorem put4_0 (a b d e) : put4 c W a b d e main_v8_0 = a :=
  (Function.update_of_ne (StableHlo.devRef_ne_of_ne (by decide)) _ _).trans <| (Function.update_of_ne (StableHlo.devRef_ne_of_ne (by decide)) _ _).trans <|
    (Function.update_of_ne (StableHlo.devRef_ne_of_ne (by decide)) _ _).trans (Function.update_self _ _ _)
theorem put4_1 (a b d e) : put4 c W a b d e main_v8_1 = b :=
  (Function.update_of_ne (StableHlo.devRef_ne_of_ne (by decide)) _ _).trans <| (Function.update_of_ne (StableHlo.devRef_ne_of_ne (by decide)) _ _).trans (Function.update_self _ _ _)
theorem put4_2 (a b d e) : put4 c W a b d e main_v8_2 = d :=
  (Function.update_of_ne (StableHlo.devRef_ne_of_ne (by decide)) _ _).trans (Function.update_self _ _ _)
theorem put4_3 (a b d e) : put4 c W a b d e main_v8_3 = e := Function.update_self _ _ _

end Put

/-! ## The buffers between the items -/

/-- The launch contents, as the index kernel's region reads them. -/
abbrev vals0 : Vals F := fun c b => V0 m c b

/-- After the index kernel: its two outputs' arrays. -/
def W1 (c : Dev nD) : Valuation τ sig (Elt F) :=
  put2 c (V0 m c) ((dat0 (vals0 m) c).arrAt 1 (cfg0 (F := F)).N) ((dat0 (vals0 m) c).arrAt 2 (cfg0 (F := F)).N)

/-- After the host's reshapes. -/
def W2 (c : Dev nD) : Valuation τ sig (Elt F) := StableHlo.after hostOps1 (W1 m c)

abbrev vals1 : Vals F := fun c b => W2 m c b

/-- What the main kernel's region may leave in its arrays: the point features' known. -/
abbrev Left (c : Dev nD) : Type :=
  { A : (w : Fin (cfg1 (F := F)).W) → Buf (Elt F) (((cfg1 (F := F)).win w).arr.view.loc (c.tc : Thread nD τ)) //
    ∀ w, fgt1 w = false → A w = (dat1 (vals1 m) c).arrAt w (cfg1 (F := F)).N }

/-- After the main kernel. -/
def W3 (c : Dev nD) (γ : Left m c) : Valuation τ sig (Elt F) :=
  put4 c (W2 m c) (γ.1 7) (γ.1 8) (γ.1 9) (γ.1 10)

/-- At the end. -/
def W4 (c : Dev nD) (γ : Left m c) : Valuation τ sig (Elt F) := StableHlo.after hostOps2 (W3 m c γ)

theorem W1_of (c : Dev nD) (r : Ref sig .tc) (h : r ∉ ([main_v0_0, main_v0_1] : List (Ref sig .tc))) : W1 m c r = V0 m c r := put2_of c _ _ _ r h
theorem W1_0 (c : Dev nD) : W1 m c main_v0_0 = (dat0 (vals0 m) c).arrAt 1 (cfg0 (F := F)).N := put2_0 c _ _ _
theorem W1_1 (c : Dev nD) : W1 m c main_v0_1 = (dat0 (vals0 m) c).arrAt 2 (cfg0 (F := F)).N := put2_1 c _ _ _
theorem W2_of (c : Dev nD) (r : Ref sig .tc) (h : r ∉ hostOps1_W) : W2 m c r = W1 m c r :=
  StableHlo.after_of_writes_sub hostOps1 _ hostOps1_writes h
theorem W3_of (c : Dev nD) (γ : Left m c) (r : Ref sig .tc) (h : r ∉ ([main_v8_0, main_v8_1, main_v8_2, main_v8_3] : List (Ref sig .tc))) : W3 m c γ r = W2 m c r :=
  put4_of c _ _ _ _ _ r h
theorem W3_7 (c : Dev nD) (γ : Left m c) : W3 m c γ main_v8_0 = γ.1 7 := put4_0 c _ _ _ _ _
theorem W3_8 (c : Dev nD) (γ : Left m c) : W3 m c γ main_v8_1 = γ.1 8 := put4_1 c _ _ _ _ _
theorem W3_9 (c : Dev nD) (γ : Left m c) : W3 m c γ main_v8_2 = γ.1 9 := put4_2 c _ _ _ _ _
theorem W3_10 (c : Dev nD) (γ : Left m c) : W3 m c γ main_v8_3 = γ.1 10 := put4_3 c _ _ _ _ _
theorem W4_of (c : Dev nD) (γ : Left m c) (r : Ref sig .tc) (h : r ∉ hostOps2_W) : W4 m c γ r = W3 m c γ r :=
  StableHlo.after_of_writes_sub hostOps2 _ hostOps2_writes h

/-- An argument reaches the end as launched. -/
theorem W4_arg (c : Dev nD) (γ : Left m c) (r : Ref sig .tc) (h1 : r ∉ ([main_v0_0, main_v0_1] : List (Ref sig .tc))) (h2 : r ∉ hostOps1_W)
    (h3 : r ∉ ([main_v8_0, main_v8_1, main_v8_2, main_v8_3] : List (Ref sig .tc))) (h4 : r ∉ hostOps2_W) : W4 m c γ r = m ((c : Thread nD τ).loc r) :=
  (W4_of m c γ r h4).trans <| (W3_of m c γ r h3).trans <| (W2_of m c r h2).trans <| (W1_of m c r h1).trans rfl

/-- The point features at the end. -/
theorem W4_out (c : Dev nD) (γ : Left m c) : W4 m c γ main_v8_3 = (dat1 (vals1 m) c).arrAt 10 (cfg1 (F := F)).N :=
  (W4_of m c γ main_v8_3 (by decide)).trans <| (W3_10 m c γ).trans (γ.2 10 rfl)

/-! ## The scalars the main kernel is given -/

theorem W2_recs (c : Dev nD) : W2 m c main_v1 = shapeCast S3x32x2x4x128 (View.canon (pieces0 (vals0 m) c).1) shapeCasts_S3x64x4x128_S3x32x2x4x128 := by
  rw [← arr0_1 (vals0 m) c, ← W1_0 m c]
  unfold W2
  unfold_abbrev_sides
  after_results
  rfl

theorem W2_chain (c : Dev nD) : W2 m c main_v2 = shapeCast S3x32x2x4x128 (View.canon (pieces0 (vals0 m) c).2) shapeCasts_S3x64x4x128_S3x32x2x4x128 := by
  rw [← arr0_2 (vals0 m) c, ← W1_1 m c]
  unfold W2
  unfold_abbrev_sides
  after_results
  rfl

theorem scalarsOK (c : Dev nD) : ScalarsOK (vals1 m) c where
  off y := by
    show RecOK (W2 m c main_v1 y)
    rw [W2_recs]
    exact index_recs c (stage0_0 0) (hstage0_0 0) (stage0_1 0) (hstage0_1 0) (stage0_2 0) (hstage0_2 0) (stg0 (vals0 m) c) _
  key y := by
    show KeyOK _ (W2 m c main_v2 y)
    rw [W2_chain]
    have h0 : (y 0).val < 3 := (y 0).isLt
    have h1 : (y 1).val < 32 := (y 1).isLt
    have h2 : (y 2).val < 2 := (y 2).isLt
    have h3 : (y 3).val < 4 := (y 3).isLt
    have h4 : (y 4).val < 128 := (y 4).isLt
    have h := index_keys c (stage0_0 0) (hstage0_0 0) (stage0_1 0) (hstage0_1 0) (stage0_2 0) (hstage0_2 0) (stg0 (vals0 m) c)
      (ix4 ⟨(y 0).val, h0⟩ ⟨2 * (y 1).val + (y 2).val, by omega⟩ ⟨(y 3).val, h3⟩ ⟨(y 4).val, h4⟩ : S3x64x4x128.Idx)
    rw [shapeCast_apply _ _ y (ix4 ⟨(y 0).val, h0⟩ ⟨2 * (y 1).val + (y 2).val, by omega⟩ ⟨(y 3).val, h3⟩ ⟨(y 4).val, h4⟩ : S3x64x4x128.Idx) (by
      rw [Shape.rowMajor_val_four, Shape.rowMajor_val_five]
      show (((y 0).val * 64 + (2 * (y 1).val + (y 2).val)) * 4 + (y 3).val) * 128 + (y 4).val
        = ((((y 0).val * 32 + (y 1).val) * 2 + (y 2).val) * 4 + (y 3).val) * 128 + (y 4).val
      omega)]
    exact h

section Left

attribute [local irreducible] W2 W3

/-- Each window's array after the main kernel is the contents `W3` names for it. -/
theorem left_eq (c : Dev nD) (γ : Left m c) (w : Fin (cfg1 (F := F)).W) : γ.1 w = W3 m c γ (Pipeline.arrRef spec1 w) := by
  fin_cases w
  · exact (γ.2 0 rfl).trans <| ((dat1 (vals1 m) c).arrAt_in 0 rfl _).trans (W3_of m c γ main_arg0 (by decide)).symm
  · exact (γ.2 1 rfl).trans <| ((dat1 (vals1 m) c).arrAt_in 1 rfl _).trans (W3_of m c γ main_v3 (by decide)).symm
  · exact (γ.2 2 rfl).trans <| ((dat1 (vals1 m) c).arrAt_in 2 rfl _).trans (W3_of m c γ main_arg1 (by decide)).symm
  · exact (γ.2 3 rfl).trans <| ((dat1 (vals1 m) c).arrAt_in 3 rfl _).trans (W3_of m c γ main_v5 (by decide)).symm
  · exact (γ.2 4 rfl).trans <| ((dat1 (vals1 m) c).arrAt_in 4 rfl _).trans (W3_of m c γ main_v7 (by decide)).symm
  · exact (γ.2 5 rfl).trans <| ((dat1 (vals1 m) c).arrAt_in 5 rfl _).trans (W3_of m c γ main_v1 (by decide)).symm
  · exact (γ.2 6 rfl).trans <| ((dat1 (vals1 m) c).arrAt_in 6 rfl _).trans (W3_of m c γ main_v2 (by decide)).symm
  · exact (W3_7 m c γ).symm
  · exact (W3_8 m c γ).symm
  · exact (W3_9 m c γ).symm
  · exact (W3_10 m c γ).symm

end Left

/-! ## The regions -/

abbrev L : GSem nD τ sig → Finset Unit := fun _ => ∅
abbrev lv : GSem nD τ sig → Unit → ℕ := fun _ _ => 0

/-- Both regions' proof data. -/
def pdats : (p : Fin 2) → (c : Dev nD) → Dat τ (Elt F) Unit ℕ (UR sig nD τ) ℕ (Pipeline.pin (pcfgs (F := F)) adm p) c
  | ⟨0, _⟩ => fun c => dat0 (vals0 m) c
  | ⟨1, _⟩ => fun c => dat1 (vals1 m) c

/-- The windows not named. -/
def fg : (p : Fin 2) → Fin (Pipeline.pin (pcfgs (F := F)) adm p).W → Bool
  | ⟨0, _⟩ => fun _ => false
  | ⟨1, _⟩ => fgt1

/-- The proof data, the unnamed windows forgotten. -/
abbrev rdats (p : Fin 2) (c : Dev nD) : RDat τ (Elt F) Unit ℕ (UR sig nD τ) ℕ (Pipeline.pin (pcfgs (F := F)) adm p) c :=
  (pdats m p c).toRForget (fg p)

/-- What rides along: the core owes nothing. -/
abbrev Idle (c : Dev nD) : sProp 𝕄 := iprop(∃ W, owes (c : Thread nD τ) (0 : CellTallies nD τ sig Unit) W)

set_option backward.isDefEq.respectTransparency.types false in
/-- The index kernel's region. -/
def reg0 : RDat.RegionSeg (pcfgs (F := F)) adm (rdats m) () defs₀ Variants.nat L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (vals0 m) c).loose.toRForget
  hwaits := RDat.hwaits_of_owed_zero _ _ _ _ L lv 0 fun _ _ => rfl
  pre c := iprop(StableHlo.held (c : Thread nD τ) (Pipeline.ucRefs τ sig) (V0 m c) ∗ Idle c)
  post c := iprop(StableHlo.held (c : Thread nD τ) (Pipeline.ucRefs τ sig) (W1 m c) ∗ Idle c)
  X _ := BI.emp
  Y _ := BI.emp
  Z c := Pipeline.unscopedRest (Ix := Unit) (Name := ℕ) (U := UR sig nD τ) (Lvl := ℕ) spec0 c (vals0 m c)
  hentry c := by
    show _ ⊢ |={Set.univ}=> iprop((pdats m 0 c).arrays ((pdats m 0 c).arrAt · 0) ∗ Pipeline.prefHeld (pcfgs (F := F) 0).pre c (fun _ => fullShare) (adm 0).1
      ∗ (pdats m 0 c).owesAt () 0 ∗ _ ∗ _)
    rw [Pipeline.ownSems0_none, ← Pipeline.unscopedBufs_held (Ix := Unit) (Name := ℕ) (U := UR sig nD τ) (Lvl := ℕ) c (V0 m c)]
    have hsplit := Pipeline.arrays_of_unscopedBufs (p := 0) (pcfgs (F := F)) adm (pdats m) (launch0 (F := F)).win (launch0 (F := F)).arr_whole c
      ((pdats m 0 c).share_full fun _ => rfl) (vals0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = (Pipeline.scopedRest spec0 c : sProp 𝕄) from rfl]
    iintro ⟨-, -, Hr⟩; iexact Hr
  hout c := by
    rw [Pipeline.ownSems0_none, show (rdats m 0 c).Φ (Fin.last _) = (Pipeline.scopedRest spec0 c : sProp 𝕄) from rfl]
    iintro Hr
    isplitr; · iempintro
    isplitr; · iempintro
    iexact Hr
  hexit c := by
    show iprop(((pdats m 0 c).toRForget (fg 0)).arraysAt (cfg0 (F := F)).N ∗ (pdats m 0 c).owesAt () (Fin.last (cfg0 (F := F)).N) ∗ _ ∗ _) ⊢ _
    rw [← Pipeline.unscopedBufs_held (Ix := Unit) (Name := ℕ) (U := UR sig nD τ) (Lvl := ℕ) c (W1 m c)]
    iintro ⟨Ha, HO, -, Hrest⟩
    ihave Ha := ((pdats m 0 c).arraysAt_forget (fg 0) (cfg0 (F := F)).N) $$ Ha
    icases Ha with ⟨%A, %hA, Ha⟩
    have hjoin := Pipeline.unscopedBufs_of_arrays (p := 0) (pcfgs (F := F)) adm (Ix := Unit) (Name := ℕ) (U := UR sig nD τ) (Lvl := ℕ) (launch0 (F := F)).win (launch0 (F := F)).arr_whole c
      (pdats m) ((pdats m 0 c).share_full fun _ => rfl) (vals0 m c) (fun b => W1 m c b) A
      (fun w => by
        rw [hA w rfl]
        fin_cases w
        · exact ((pdats m 0 c).arrAt_in 0 rfl _).trans (W1_of m c main_arg5 (by decide)).symm
        · exact (W1_0 m c).symm
        · exact (W1_1 m c).symm)
      (fun b hb => W1_of m c b fun h => by
        rcases List.mem_cons.mp h with rfl | h
        · exact hb (Finset.mem_image.mpr ⟨1, Finset.mem_univ _, rfl⟩)
        · rcases List.mem_cons.mp h with rfl | h
          · exact hb (Finset.mem_image.mpr ⟨2, Finset.mem_univ _, rfl⟩)
          · exact absurd h List.not_mem_nil)
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
set_option maxHeartbeats 2000000 in
/-- The main kernel's region. -/
def reg1 : RDat.RegionSeg (pcfgs (F := F)) adm (rdats m) () defs₀ Variants.nat L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (vals1 m) c (scalarsOK m c)).toRForget
  hwaits := RDat.hwaits_of_owed_zero _ _ _ _ L lv 1 fun _ _ => rfl
  pre c := iprop(StableHlo.held (c : Thread nD τ) (Pipeline.ucRefs τ sig) (W2 m c) ∗ Idle c)
  post c := iprop((∃ γ : Left m c, StableHlo.held (c : Thread nD τ) (Pipeline.ucRefs τ sig) (W3 m c γ)) ∗ Idle c)
  X _ := BI.emp
  Y _ := BI.emp
  Z c := Pipeline.unscopedRest (Ix := Unit) (Name := ℕ) (U := UR sig nD τ) (Lvl := ℕ) spec1 c (vals1 m c)
  hentry c := by
    show _ ⊢ |={Set.univ}=> iprop((pdats m 1 c).arrays ((pdats m 1 c).arrAt · 0) ∗ Pipeline.prefHeld (pcfgs (F := F) 1).pre c (fun _ => fullShare) (adm 1).1
      ∗ (pdats m 1 c).owesAt () 0 ∗ _ ∗ _)
    rw [Pipeline.ownSems0_none, ← Pipeline.unscopedBufs_held (Ix := Unit) (Name := ℕ) (U := UR sig nD τ) (Lvl := ℕ) c (W2 m c)]
    have hsplit := Pipeline.arrays_of_unscopedBufs (p := 1) (pcfgs (F := F)) adm (pdats m) (launch1 (F := F)).win (launch1 (F := F)).arr_whole c
      ((pdats m 1 c).share_full fun _ => rfl) (vals1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = (Pipeline.scopedRest spec1 c : sProp 𝕄) from rfl]
    iintro ⟨-, -, Hr⟩; iexact Hr
  hout c := by
    rw [Pipeline.ownSems0_none, show (rdats m 1 c).Φ (Fin.last _) = (Pipeline.scopedRest spec1 c : sProp 𝕄) from rfl]
    iintro Hr
    isplitr; · iempintro
    isplitr; · iempintro
    iexact Hr
  hexit c := by
    show iprop(((pdats m 1 c).toRForget (fg 1)).arraysAt (cfg1 (F := F)).N ∗ (pdats m 1 c).owesAt () (Fin.last (cfg1 (F := F)).N) ∗ _ ∗ _) ⊢ _
    iintro ⟨Ha, HO, -, Hrest⟩
    ihave Ha := ((pdats m 1 c).arraysAt_forget (fg 1) (cfg1 (F := F)).N) $$ Ha
    icases Ha with ⟨%A, %hA, Ha⟩
    have hjoin := Pipeline.unscopedBufs_of_arrays (p := 1) (pcfgs (F := F)) adm (Ix := Unit) (Name := ℕ) (U := UR sig nD τ) (Lvl := ℕ) (launch1 (F := F)).win (launch1 (F := F)).arr_whole c
      (pdats m) ((pdats m 1 c).share_full fun _ => rfl) (vals1 m c) (fun b => W3 m c ⟨A, hA⟩ b) A
      (left_eq m c ⟨A, hA⟩)
      (fun b hb => W3_of m c ⟨A, hA⟩ b fun h => by
        rcases List.mem_cons.mp h with rfl | h
        · exact hb (Finset.mem_image.mpr ⟨7, Finset.mem_univ _, rfl⟩)
        rcases List.mem_cons.mp h with rfl | h
        · exact hb (Finset.mem_image.mpr ⟨8, Finset.mem_univ _, rfl⟩)
        rcases List.mem_cons.mp h with rfl | h
        · exact hb (Finset.mem_image.mpr ⟨9, Finset.mem_univ _, rfl⟩)
        rcases List.mem_cons.mp h with rfl | h
        · exact hb (Finset.mem_image.mpr ⟨10, Finset.mem_univ _, rfl⟩)
        exact absurd h List.not_mem_nil)
    rw [Pipeline.unscopedBufs_held (Ix := Unit) (Name := ℕ) (U := UR sig nD τ) (Lvl := ℕ) c (W3 m c ⟨A, hA⟩)] at hjoin
    imodintro
    isplitl [Ha Hrest]
    · iexists (⟨A, hA⟩ : Left m c); iapply hjoin; isplitl [Ha] <;> iassumption
    unfold Pipeline.Dat.owesAt Pipeline.owesWithin
    icases HO with ⟨%W, -, HO⟩; iexists W; iexact HO

/-! ## The whole program -/

/-- The program's items on core `c`: the index kernel, the reshapes, the main kernel, the last reshape. -/
def segs (_ : Dev nD) : List (RDat.Seg (pcfgs (F := F)) adm (rdats m) () defs₀ Variants.nat L lv) :=
  [.region (reg0 m),
   .host (HostSeg.ofOps (pcfgs (F := F)) defs₀ Variants.nat L lv (Pipeline.ucRefs τ sig) hostOps1
    (fun op h => Pipeline.sub_ucRefs op ((List.forall_iff_forall_mem.mp hostOps1_sub) op h))
    (fun op h => (List.forall_iff_forall_mem.mp hostOps1_fresh) op h) (W1 m) Idle),
   .region (reg1 m),
   .host (HostSeg.ofOpsEx (pcfgs (F := F)) defs₀ Variants.nat L lv (Pipeline.ucRefs τ sig) hostOps2
    (fun op h => Pipeline.sub_ucRefs op ((List.forall_iff_forall_mem.mp hostOps2_sub) op h))
    (fun op h => (List.forall_iff_forall_mem.mp hostOps2_fresh) op h) (W3 m) Idle)]

/-- What the end state holds on core `c`: the arguments as launched, the point features' array as the main kernel's blocks make it. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5))
  ∧ s.mem ((c : Thread nD τ).loc main_v8_3) = (dat1 (vals1 m) c).arrAt 10 (cfg1 (F := F)).N

set_option backward.isDefEq.respectTransparency.types false in
/-- From any memory the program runs to its end: every argument as launched, every semaphore at zero, the point features' array as the
    main kernel's blocks make it. -/
theorem run_all (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rdats m) () cellOf_inj emb₁ defs₀ Variants.nat L lv m ρ main
    (segs m)
    (fun c Q => by
      rewrite [main_chain c, RDat.Seg.run_eq_chain,
        show (segs m c).map RDat.Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide) 0 (fun _ _ => rfl)
    (fun _ => BI.emp) (initOf (Pipeline.cells (cfgs (F := F)) cellOf_inj) (Pipeline.launchToks (cfgs (F := F)) cellOf_inj)) ?_
    (T₀ := fun c => iprop(StableHlo.held (c : Thread nD τ) (Pipeline.ucRefs τ sig) (V0 m c) ∗ Idle c))
    (Tₙ := fun c => iprop(∃ γ, StableHlo.held (c : Thread nD τ) (Pipeline.ucRefs τ sig) (W4 m c γ)))
    (hch := fun c => ⟨.rfl, .rfl, .rfl, .rfl, .rfl⟩)
    (hinit := ?_) (QY := Ends m)
    (hfin := fun c s' => ?_) (hQ := fun _ h hz => ⟨h, funext fun g => hz g (.inr (regions_no_unscoped g.2))⟩)
  · show (BI.own (emb₁ _) : sProp 𝕄) ⊢ _
    iintro Hu; imodintro
    isplitl [Hu]; · iexact Hu
    iapply (show (BI.emp : sProp 𝕄) ⊢ BI.bigSep Finset.univ (fun _ : Dev nD => BI.emp) from by rw [BI.bigSep_emp_const])
    iempintro
  · have hsplit : (BI.bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ BI.emp))
        ⊢ (BI.bigSep Finset.univ fun c : Dev nD => iprop(StableHlo.held (c : Thread nD τ) (Pipeline.ucRefs τ sig) (V0 m c) ∗ Idle c) : sProp 𝕄) :=
      BI.bigSep_mono fun c _ => by
        rw [← Pipeline.unscopedBufs_held (Ix := Unit) (Name := ℕ) (U := UR sig nD τ) (Lvl := ℕ) c (V0 m c)]
        show iprop(_ ∗ _ ∗ _ ∗ _ ∗ _ ∗ _) ⊢ (iprop(_ ∗ _) : sProp 𝕄)
        iintro ⟨Hb, -, HO, -⟩
        isplitl [Hb]; · iexact Hb
        iexists _; iexact HO
    iintro ⟨H, -⟩
    ihave H' := hsplit $$ H
    imodintro; iexact H'
  · unfold StableHlo.held
    iintro ⟨⟨%γ, Hh⟩, HSI⟩
    ihave Hr := (pointsTo_read_all (Pipeline.ucRefs τ sig) (fun b => ((c : Thread nD τ).1, b)) (W4 m c γ) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (W4_arg m c γ main_arg0 (by decide) (by decide) (by decide) (by decide)),
        (h (Proc.devRef .tc main_arg1) (Finset.mem_filter.mpr ⟨StableHlo.devRef_mem_tcRefs main_arg1, by decide⟩)).trans (W4_arg m c γ main_arg1 (by decide) (by decide) (by decide) (by decide)),
        (h (Proc.devRef .tc main_arg2) (Finset.mem_filter.mpr ⟨StableHlo.devRef_mem_tcRefs main_arg2, by decide⟩)).trans (W4_arg m c γ main_arg2 (by decide) (by decide) (by decide) (by decide)),
        (h (Proc.devRef .tc main_arg3) (Finset.mem_filter.mpr ⟨StableHlo.devRef_mem_tcRefs main_arg3, by decide⟩)).trans (W4_arg m c γ main_arg3 (by decide) (by decide) (by decide) (by decide)),
        (h (Proc.devRef .tc main_arg4) (Finset.mem_filter.mpr ⟨StableHlo.devRef_mem_tcRefs main_arg4, by decide⟩)).trans (W4_arg m c γ main_arg4 (by decide) (by decide) (by decide) (by decide)),
        (h (Proc.devRef .tc main_arg5) (Finset.mem_filter.mpr ⟨StableHlo.devRef_mem_tcRefs main_arg5, by decide⟩)).trans (W4_arg m c γ main_arg5 (by decide) (by decide) (by decide) (by decide))⟩,
        (h (Proc.devRef .tc main_v8_3) (Finset.mem_filter.mpr ⟨StableHlo.devRef_mem_tcRefs main_v8_3, by decide⟩)).trans (W4_out m c γ)⟩
    · iexact HSI

end Cert.Proof.KernelIdeal
-- ==== Proof.Value.Block.lean ====
/- One point feature over the reals, as a formula; the kernel's 384 x 256 tile and the reference's whole array are that formula at their indices. -/
module

public import proofs.«01_k».proof.Proof.Gen.KernelIdeal.Skeleton
public import proofs.«01_k».proof.Proof.Gen.ReferenceIdeal.Skeleton
public import Idealize.ShloMosaic.Lib.Pointwise
public import Idealize.ShloMosaic.Lib.ValueIdx

@[expose] public section

noncomputable section

namespace Cert.Proof.Value

open Cert.KernelIdeal
open Idealize.ShloMosaic

/-- One point feature: the row `x` times the column `w`, scaled by the point's `s` and the channel's `a`, the bias `b` added, and
    what is negative replaced by zero. -/
def feat (x : Fin 2048 → BitVec 8) (w : Fin 2048 → EReal) (s a b : EReal) : EReal :=
  max ((∑ k, (FloatOps.sitofp (F := Ideal) FTy.bf16 (x k) : EReal) * w k) * s * a + b) 0

/-- The kernel's tile at a channel and a point, the scales and the bias the same on every lane. -/
theorem tile_apply (x : Vec Ideal S1x256x2048 .i8) (w : Vec Ideal S320x2048 .fp8e4m3) (s : Vec Ideal S1x256 .f32) (ws b : Vec Ideal S320x128 .f32)
    (WS B : Fin 320 → EReal) (hws : ∀ ch l, ws (ix2 ch l) = WS ch) (hb : ∀ ch l, b (ix2 ch l) = B ch)
    (j : S384x256.Idx) (hj : (j 0).val < 320) :
    Cert.KernelIdeal.Gen.k1_pay71 x w s ws b j
      = feat (fun k => x (ix3 0 (j 1) k)) (fun k => w (ix2 ⟨(j 0).val, hj⟩ k)) (s (ix2 0 (j 1))) (WS ⟨(j 0).val, hj⟩) (B ⟨(j 0).val, hj⟩) := by
  pointwise [Cert.KernelIdeal.Gen.k1_pay71]
  rw [dif_pos hj]
  simp only [hws, hb, dite_eq_ite, ite_self]
  unfold feat
  congr 4
  · exact Finset.sum_congr rfl fun k _ => mul_comm _ _
  · split_ifs <;> rfl
  · split_ifs <;> rfl

/-- The reference's array at a scene, a point and a channel. -/
theorem reference_apply (x : Vec Ideal S3x32768x2048 .i8) (w : Vec Ideal S2048x320 .fp8e4m3) (s : Vec Ideal S3x32768 .f32) (ws b : Vec Ideal S320 .f32)
    (j : S3x32768x320.Idx) :
    Cert.ReferenceIdeal.Gen.k0_pay1 x w s ws b j
      = feat (fun k => x (ix3 (j 0) (j 1) k)) (fun k => w (ix2 k (j 2))) (s (ix2 (j 0) (j 1))) (ws (ix1 (j 2))) (b (ix1 (j 2))) := by
  pointwise [Cert.ReferenceIdeal.Gen.k0_pay1]
  rfl

end Cert.Proof.Value

end
-- ==== Proof.Value.Array.lean ====
/- What the point features' array holds after the kernel, over the reals: at every scene, point and channel the formula `feat` of the
   arguments. -/
module

public import proofs.«01_k».proof.Proof.KernelIdeal.Run
public import proofs.«01_k».proof.Proof.Value.Block

@[expose] public section

noncomputable section

namespace Cert.Proof.Value

open Cert.KernelIdeal Cert.KernelIdeal.Gen Cert.Proof.KernelIdeal
open Idealize.ShloMosaic Idealize.ShloMosaic.TcCoe
open Idealize.ShloMosaic.Pipeline (Dat)

/-- The rows of `x` staged at a step that computes a block are its block's. -/
theorem rows_index : ∀ t : Fin grid1.N, k1_cond4 (grid1.coords t) = 1#1 →
    win1_0.index t (0 : Fin 3) = ((grid1.coords t) 0).val ∧ win1_0.index t (1 : Fin 3) = ((grid1.coords t) 1).val ∧ win1_0.index t (2 : Fin 3) = 0 := by decide +kernel

/-- The weights, the scales and the bias are staged whole. -/
theorem whole_index : ∀ t : Fin grid1.N,
    win1_1.index t (0 : Fin 2) = 0 ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 ∧ win1_4.index t (0 : Fin 2) = 0 ∧ win1_4.index t (1 : Fin 2) = 0 := by decide +kernel

/-- Where a step writes its point features back, they are the live step's block. -/
theorem feats_index : ∀ t : Fin grid1.N, win1_10.flush t = true →
    win1_10.index t (0 : Fin 3) = ((grid1.coords (live t)) 0).val ∧ win1_10.index t (1 : Fin 3) = ((grid1.coords (live t)) 1).val ∧ win1_10.index t (2 : Fin 3) = 0 := by decide +kernel

variable (V : Vals Ideal) (c : Dev nD)

/-- The array of point features: at each scene, point and channel the formula of the arrays the kernel reads. -/
def feats (WS B : Fin 320 → EReal) : S3x32768x320.Idx → EReal := fun z =>
  feat (fun k => V c main_arg0 (ix3 (z 0) (z 1) k)) (fun k => V c main_v3 (ix2 (z 2) k)) (V c main_arg1 (ix2 (z 0) (z 1))) (WS (z 2)) (B (z 2))

/-- A step's block is the formula at the block's points. -/
theorem pf1_apply (WS B : Fin 320 → EReal) (hws : ∀ ch l, V c main_v5 (ix2 ch l) = WS ch) (hb : ∀ ch l, V c main_v7 (ix2 ch l) = B ch)
    (t : Fin grid1.N) (h4 : k1_cond4 (grid1.coords t) = 1#1) (y : S1x1024x320.Idx) (z : S3x32768x320.Idx)
    (z0 : (z 0).val = ((grid1.coords t) 0).val) (z1 : (z 1).val = 1024 * ((grid1.coords t) 1).val + (y 1).val) (z2 : (z 2).val = (y 2).val) :
    pf1 V c t h4 y = feats V c WS B z := by
  have h2 : (y 2).val < 320 := (y 2).isLt
  have h1 : (y 1).val < 1024 := (y 1).isLt
  obtain ⟨r0, r1, r2⟩ := rows_index t h4
  unfold pf1 blockOf
  show (k1_pay71 (F := Ideal) _ _ _ _ _ _ : EReal) = _
  rw [tile_apply _ _ _ _ _ WS B (fun ch l => ?_) (fun ch l => ?_) _ h2]
  · unfold feats
    congr 1
    · funext k
      refine congrArg (V c main_arg0) (funext fun a => Fin.ext ?_)
      match a with
      | ⟨0, _⟩ => show win1_0.index t (0 : Fin 3) * 1 + 1 * (0 + 1 * 0) = (z 0).val; omega
      | ⟨1, _⟩ => show win1_0.index t (1 : Fin 3) * 1024 + 1 * (256 * ((y 1).val / 256) + 1 * ((y 1).val % 256)) = (z 1).val; omega
      | ⟨2, _⟩ => show win1_0.index t (2 : Fin 3) * 2048 + 1 * (0 + 1 * k.val) = k.val; omega
    · funext k
      refine congrArg (V c main_v3) (funext fun a => Fin.ext ?_)
      match a with
      | ⟨0, _⟩ => show win1_1.index t (0 : Fin 2) * 320 + 1 * (0 + 1 * (y 2).val) = (z 2).val; have := (whole_index t).1; omega
      | ⟨1, _⟩ => show win1_1.index t (1 : Fin 2) * 2048 + 1 * (0 + 1 * k.val) = k.val; have := (whole_index t).2.1; omega
    · refine congrArg (V c main_arg1) (funext fun a => Fin.ext ?_)
      have e0 := congrFun (k1_off80_eq (grid1.coords t) ⟨(y 1).val / 256, by omega⟩) 0
      have e1 := congrFun (k1_off80_eq (grid1.coords t) ⟨(y 1).val / 256, by omega⟩) 1
      replace e0 : k1_off80 (grid1.coords t) (BitVec.ofNat 32 (256 * ((y 1).val / 256))) 0 = ((grid1.coords t) 0).val := e0
      replace e1 : k1_off80 (grid1.coords t) (BitVec.ofNat 32 (256 * ((y 1).val / 256))) 1 = 1024 * ((grid1.coords t) 1).val + 256 * ((y 1).val / 256) := e1
      match a with
      | ⟨0, _⟩ =>
        show win1_2.index t (0 : Fin 2) * 3 + 1 * (k1_off80 (grid1.coords t) (BitVec.ofNat 32 (256 * ((y 1).val / 256))) 0 + 1 * 0) = (z 0).val
        have := (whole_index t).2.2.1; omega
      | ⟨1, _⟩ =>
        show win1_2.index t (1 : Fin 2) * 32768 + 1 * (k1_off80 (grid1.coords t) (BitVec.ofNat 32 (256 * ((y 1).val / 256))) 1 + 1 * ((y 1).val % 256)) = (z 1).val
        have := (whole_index t).2.2.2.1; omega
    · congr 1; exact Fin.ext z2.symm
    · congr 1; exact Fin.ext z2.symm
  · refine (congrArg (V c main_v5) (funext fun a => Fin.ext ?_)).trans (hws ch l)
    match a with
    | ⟨0, _⟩ => show win1_3.index t (0 : Fin 2) * 320 + 1 * (0 + 1 * ch.val) = ch.val; have := (whole_index t).2.2.2.2.1; omega
    | ⟨1, _⟩ => show win1_3.index t (1 : Fin 2) * 128 + 1 * (0 + 1 * l.val) = l.val; have := (whole_index t).2.2.2.2.2.1; omega
  · refine (congrArg (V c main_v7) (funext fun a => Fin.ext ?_)).trans (hb ch l)
    match a with
    | ⟨0, _⟩ => show win1_4.index t (0 : Fin 2) * 320 + 1 * (0 + 1 * ch.val) = ch.val; have := (whole_index t).2.2.2.2.2.2.1; omega
    | ⟨1, _⟩ => show win1_4.index t (1 : Fin 2) * 128 + 1 * (0 + 1 * l.val) = l.val; have := (whole_index t).2.2.2.2.2.2.2; omega

/-- The array after the kernel is the formula everywhere: the blocks written back cover it. -/
theorem arrAt_feats (WS B : Fin 320 → EReal) (hws : ∀ ch l, V c main_v5 (ix2 ch l) = WS ch) (hb : ∀ ch l, V c main_v7 (ix2 ch l) = B ch) :
    (dat1 V c).arrAt 10 (cfg1 (F := Ideal)).N = feats V c WS B := by
  refine (dat1 V c).arrAt_eq_of_covers 10 (feats V c WS B) (by decide +kernel : win1_10.Covers) fun t hf y => ?_
  obtain ⟨r0, r1, r2⟩ := feats_index t hf
  have y0 : ((y : S1x1024x320.Idx) 0).val < 1 := (y 0).isLt
  refine pf1_apply V c WS B hws hb (live t) (live_cond t) y _ ?_ ?_ ?_
  · show win1_10.index t (0 : Fin 3) * 1 + 1 * (y 0).val = _
    omega
  · show win1_10.index t (1 : Fin 3) * 1024 + 1 * (y 1).val = _
    rw [r1]; show _ = 1024 * _ + (y 1).val; omega
  · show win1_10.index t (2 : Fin 3) * 320 + 1 * (y 2).val = (y 2).val
    omega

end Cert.Proof.Value

end
-- ==== Proof.Value.Equation.lean ====
/- The kernel's array of point features and the reference's are the same function of the arguments, over the reals. -/
module

public import proofs.«01_k».proof.Proof.Value.Array

@[expose] public section

noncomputable section

namespace Cert.Proof.Value

open Cert.KernelIdeal Cert.KernelIdeal.Gen Cert.Proof.KernelIdeal
open Idealize.ShloMosaic Idealize.ShloMosaic.TcCoe

variable (m : (ℓ : Loc nD τ sig) → Buf (Elt Ideal) ℓ) (c : Dev nD)

/-- The kernel reads the points' rows as launched, -/
theorem read_x : vals1 m c main_arg0 = m ((c : Thread nD τ).loc main_arg0) :=
  (W2_of m c main_arg0 (by decide)).trans (W1_of m c main_arg0 (by decide))

/-- the points' scales as launched, -/
theorem read_scale : vals1 m c main_arg1 = m ((c : Thread nD τ).loc main_arg1) :=
  (W2_of m c main_arg1 (by decide)).trans (W1_of m c main_arg1 (by decide))

/-- the weights turned over, -/
theorem read_w (a : Fin 320) (k : Fin 2048) :
    (vals1 m c main_v3 : S320x2048.Idx → EReal) (ix2 a k) = (m ((c : Thread nD τ).loc main_arg2) : S2048x320.Idx → EReal) (ix2 k a) := by
  have h : (vals1 m c main_v3 : S320x2048.Idx → EReal) = transpose S320x2048 [1, 0] (W1 m c main_arg2) transposes_S2048x320_S320x2048_1_0 := by
    show W2 m c main_v3 = _
    unfold W2
    unfold_abbrev_sides
    after_results
  rw [h, W1_of m c main_arg2 (by decide)]
  pointwise

/-- the channels' scales and -/
theorem read_ws (a : Fin 320) (l : Fin 128) :
    (vals1 m c main_v5 : S320x128.Idx → EReal) (ix2 a l) = (m ((c : Thread nD τ).loc main_arg3) : S320.Idx → EReal) (ix1 a) := by
  have h : (vals1 m c main_v5 : S320x128.Idx → EReal)
      = broadcastInDim S320x128 ![0, 1] bcast_S320x1_S320x128_0_1 (broadcastInDim S320x1 ![0] bcast_S320_S320x1_0 (W1 m c main_arg3)) := by
    show W2 m c main_v5 = _
    unfold W2
    unfold_abbrev_sides
    after_results
  rw [h, W1_of m c main_arg3 (by decide)]
  pointwise

/-- the bias the same on every lane. -/
theorem read_b (a : Fin 320) (l : Fin 128) :
    (vals1 m c main_v7 : S320x128.Idx → EReal) (ix2 a l) = (m ((c : Thread nD τ).loc main_arg4) : S320.Idx → EReal) (ix1 a) := by
  have h : (vals1 m c main_v7 : S320x128.Idx → EReal)
      = broadcastInDim S320x128 ![0, 1] bcast_S320x1_S320x128_0_1 (broadcastInDim S320x1 ![0] bcast_S320_S320x1_0 (W1 m c main_arg4)) := by
    show W2 m c main_v7 = _
    unfold W2
    unfold_abbrev_sides
    after_results
  rw [h, W1_of m c main_arg4 (by decide)]
  pointwise

/-- THE EQUATION: what the kernel's array of point features holds is the reference's expression of the arguments. -/
theorem kernel_eq_reference :
    (Cert.Proof.KernelIdeal.dat1 (vals1 m) c).arrAt 10 (cfg1 (F := Ideal)).N
      = Cert.ReferenceIdeal.Gen.k0_pay1 (F := Ideal) (m ((c : Thread nD τ).loc main_arg0)) (m ((c : Thread nD τ).loc main_arg2))
          (m ((c : Thread nD τ).loc main_arg1)) (m ((c : Thread nD τ).loc main_arg3)) (m ((c : Thread nD τ).loc main_arg4)) := by
  rw [arrAt_feats (vals1 m) c (fun a => (m ((c : Thread nD τ).loc main_arg3) : S320.Idx → EReal) (ix1 a))
    (fun a => (m ((c : Thread nD τ).loc main_arg4) : S320.Idx → EReal) (ix1 a)) (read_ws m c) (read_b m c)]
  funext z
  refine Eq.trans ?_ (reference_apply _ _ _ _ _ z).symm
  unfold feats
  rw [read_x, read_scale]
  exact congrArg (fun w => feat _ w _ _ _) (funext fun k => read_w m c (z 2) k)

end Cert.Proof.Value

end
-- ==== Proof.lean ====
module

public import proofs.«01_k».proof.Defs
public import proofs.«01_k».proof.Proof.Kernel.Run
public import proofs.«01_k».proof.Proof.KernelIdeal.Run
public import proofs.«01_k».proof.Proof.Value.Equation
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic Idealize.ShloMosaic.TcCoe Idealize.SL Idealize.SL.Sem

/-- The kernel's program, at the machine's own formats, runs to its end with the arguments as launched and every semaphore at zero. -/
theorem frame_kernel : Cert.quiescent_Kernel (hKernel := Cert.Kernel.Gen.facts) :=
  fun m ρ _ => (θ_run _ _ _).mono (fun _ h => ⟨fun c => (h.1 c).1, h.2⟩) (Kernel.run_all m ρ)

/-- The kernel's program read over the reals runs to its end likewise. -/
theorem frame_kernelIdeal : Cert.quiescent_KernelIdeal (hKernelIdeal := Cert.KernelIdeal.Gen.facts) :=
  fun m ρ _ => (θ_run _ _ _).mono (fun _ h => ⟨fun c => (h.1 c).1, h.2⟩) (KernelIdeal.run_all m ρ)

/-- So does the reference. -/
theorem frame_reference : Cert.quiescent_ReferenceIdeal (hReferenceIdeal := Cert.ReferenceIdeal.Gen.facts) :=
  fun m ρ _ => Cert.ReferenceIdeal.Gen.frame m ρ

/-- Over the reals, from equal arguments, the kernel's program and the reference end with the same point features, the arguments as
    launched. -/
theorem value : Cert.algebraic_KernelIdeal_ReferenceIdeal (hKernelIdeal := Cert.KernelIdeal.Gen.facts) (hReferenceIdeal := Cert.ReferenceIdeal.Gen.facts) := by
  intro m ρ m' ρ' _ hm
  refine ⟨fun c => (KernelIdeal.dat1 (KernelIdeal.vals1 m) c).arrAt 10 (Cert.KernelIdeal.cfg1 (F := Ideal)).N,
    (θ_run _ _ _).mono (fun _ h c => ⟨(h.1 c).2, (h.1 c).1⟩) (KernelIdeal.run_all m ρ),
    (θ_run _ _ _).mono (fun _ h c => ⟨(h c).1.trans ?_, (h c).2⟩) (Cert.ReferenceIdeal.Value.run m' ρ')⟩
  obtain ⟨h0, h1, h2, h3, h4, -⟩ := hm c
  rw [h0, h1, h2, h3, h4]
  exact (Value.kernel_eq_reference m c).symm

theorem claim : Cert.Claim :=
  ⟨Cert.Kernel.Gen.facts, Cert.KernelIdeal.Gen.facts, Cert.ReferenceIdeal.Gen.facts, frame_kernel, frame_kernelIdeal, frame_reference, trivial, value⟩

end Cert.Proof

end
